-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v45_0)) (v1 : (c : Dev Cert.Kernel7Ideal.nD) → Buf (Elt Ideal) ((c.tc : Thread Cert.Kernel7Ideal.nD Cert.Kernel7Ideal.τ).loc Cert.Kernel7Ideal.main_v45_1)) (v2 : (c : Dev Cert.Kernel7Ideal.nD) → Buf (Elt Ideal) ((c.tc : Thread Cert.Kernel7Ideal.nD Cert.Kernel7Ideal.τ).loc Cert.Kernel7Ideal.main_v45_2)) (v3 : (c : Dev Cert.Kernel7Ideal.nD) → Buf (Elt Ideal) ((c.tc : Thread Cert.Kernel7Ideal.nD Cert.Kernel7Ideal.τ).loc Cert.Kernel7Ideal.main_v45_3)) (v4 : (c : Dev Cert.Kernel7Ideal.nD) → Buf (Elt Ideal) ((c.tc : Thread Cert.Kernel7Ideal.nD Cert.Kernel7Ideal.τ).loc Cert.Kernel7Ideal.main_v45_4)) (v5 : (c : Dev Cert.Kernel7Ideal.nD) → Buf (Elt Ideal) ((c.tc : Thread Cert.Kernel7Ideal.nD Cert.Kernel7Ideal.τ).loc Cert.Kernel7Ideal.main_v45_5)) (v6 : (c : Dev Cert.Kernel7Ideal.nD) → Buf (Elt Ideal) ((c.tc : Thread Cert.Kernel7Ideal.nD Cert.Kernel7Ideal.τ).loc Cert.Kernel7Ideal.main_v45_6)) (v7 : (c : Dev Cert.Kernel7Ideal.nD) → Buf (Elt Ideal) ((c.tc : Thread Cert.Kernel7Ideal.nD Cert.Kernel7Ideal.τ).loc Cert.Kernel7Ideal.main_v45_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v45_0) = v0 c
          ∧ r.2.mem ((c.tc : Thread Cert.Kernel7Ideal.nD Cert.Kernel7Ideal.τ).loc Cert.Kernel7Ideal.main_v45_1) = v1 c
          ∧ r.2.mem ((c.tc : Thread Cert.Kernel7Ideal.nD Cert.Kernel7Ideal.τ).loc Cert.Kernel7Ideal.main_v45_2) = v2 c
          ∧ r.2.mem ((c.tc : Thread Cert.Kernel7Ideal.nD Cert.Kernel7Ideal.τ).loc Cert.Kernel7Ideal.main_v45_3) = v3 c
          ∧ r.2.mem ((c.tc : Thread Cert.Kernel7Ideal.nD Cert.Kernel7Ideal.τ).loc Cert.Kernel7Ideal.main_v45_4) = v4 c
          ∧ r.2.mem ((c.tc : Thread Cert.Kernel7Ideal.nD Cert.Kernel7Ideal.τ).loc Cert.Kernel7Ideal.main_v45_5) = v5 c
          ∧ r.2.mem ((c.tc : Thread Cert.Kernel7Ideal.nD Cert.Kernel7Ideal.τ).loc Cert.Kernel7Ideal.main_v45_6) = v6 c
          ∧ r.2.mem ((c.tc : Thread Cert.Kernel7Ideal.nD Cert.Kernel7Ideal.τ).loc Cert.Kernel7Ideal.main_v45_7) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v189) = v0 c
          ∧ r.2.mem ((c.tc : Thread Cert.Reference7Ideal.nD Cert.Reference7Ideal.τ).loc Cert.Reference7Ideal.main_v190) = v1 c
          ∧ r.2.mem ((c.tc : Thread Cert.Reference7Ideal.nD Cert.Reference7Ideal.τ).loc Cert.Reference7Ideal.main_v119) = v2 c
          ∧ r.2.mem ((c.tc : Thread Cert.Reference7Ideal.nD Cert.Reference7Ideal.τ).loc Cert.Reference7Ideal.main_v191) = v3 c
          ∧ r.2.mem ((c.tc : Thread Cert.Reference7Ideal.nD Cert.Reference7Ideal.τ).loc Cert.Reference7Ideal.main_v192) = v4 c
          ∧ r.2.mem ((c.tc : Thread Cert.Reference7Ideal.nD Cert.Reference7Ideal.τ).loc Cert.Reference7Ideal.main_v193) = v5 c
          ∧ r.2.mem ((c.tc : Thread Cert.Reference7Ideal.nD Cert.Reference7Ideal.τ).loc Cert.Reference7Ideal.main_v194) = v6 c
          ∧ r.2.mem ((c.tc : Thread Cert.Reference7Ideal.nD Cert.Reference7Ideal.τ).loc Cert.Reference7Ideal.main_v195) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S8x4096x1024 : Shape := ⟨3, ![8, 4096, 1024]⟩
abbrev S8x4096x256 : Shape := ⟨3, ![8, 4096, 256]⟩
abbrev S8 : Shape := ⟨1, ![8]⟩
abbrev S1x1x8 : Shape := ⟨3, ![1, 1, 8]⟩
abbrev S8x4096x8 : Shape := ⟨3, ![8, 4096, 8]⟩
abbrev S8x4096x1288 : Shape := ⟨3, ![8, 4096, 1288]⟩
abbrev S_ : Shape := ⟨0, ![]⟩

class Facts : Prop where
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bitsLt_bf16_f32 : FTy.bits .bf16 < FTy.bits .f32
  concatenates_S8x4096x1024_S8x4096x256_S8x4096x8_S8x4096x1288_d2 : Shape.Concatenates [S8x4096x1024, S8x4096x256, S8x4096x8] S8x4096x1288 2
  bcast_S_S8x4096x1288 : S_.BroadcastsInDim S8x4096x1288 (![] : Fin 0 → Fin S8x4096x1288.rank)

variable [Facts]

def fn {F : FTy → Type} [FloatOps F] (main_arg0 : FVec F S8x4096x1024 .bf16) (main_arg1 : FVec F S8x4096x256 .bf16) (main_arg2 : FVec F S8x4096x256 .bf16) (main_arg3 : FVec F S8 .f32) : IVec S8x4096x1288 1 :=
  let main_v0 : FVec F S1x1x8 .f32 := broadcastInDim S1x1x8 ![2] bcast_S8_S1x1x8_2 main_arg3
  let main_v1 : FVec F S8x4096x8 .f32 := broadcastInDim S8x4096x8 ![0, 1, 2] bcast_S1x1x8_S8x4096x8_0_1_2 main_v0
  let main_v2 : FVec F S8x4096x1024 .f32 := (extf .f32 · bitsLt_bf16_f32) main_arg0
  let main_v3 : FVec F S8x4096x256 .f32 := (extf .f32 · bitsLt_bf16_f32) main_arg1
  let main_v4 : FVec F S8x4096x1288 .f32 := concatenate S8x4096x1288 2 [⟨S8x4096x1024, main_v2⟩, ⟨S8x4096x256, main_v3⟩, ⟨S8x4096x8, main_v1⟩] concatenates_S8x4096x1024_S8x4096x256_S8x4096x8_S8x4096x1288_d2
  let main_v5 : FVec F S8x4096x1288 .f32 := Host.absf main_v4
  let main_cst : FVec F S_ .f32 := constant S_ .f32 0x7F800000#32
  let main_v6 : FVec F S8x4096x1288 .f32 := broadcastInDim S8x4096x1288 ![] bcast_S_S8x4096x1288 main_cst
  let main_v7 : IVec S8x4096x1288 1 := cmpf .olt main_v5 main_v6
  main_v7
-- ==== Kernel.lean ====
abbrev S8x4096x1024 : Shape := ⟨3, ![8, 4096, 1024]⟩
abbrev S8x4096x256 : Shape := ⟨3, ![8, 4096, 256]⟩
abbrev S8 : Shape := ⟨1, ![8]⟩
abbrev S1x256x1024 : Shape := ⟨3, ![1, 256, 1024]⟩
abbrev S1x128x256 : Shape := ⟨3, ![1, 128, 256]⟩
abbrev S1x256x256 : Shape := ⟨3, ![1, 256, 256]⟩
abbrev S128x256 : Shape := ⟨2, ![128, 256]⟩
abbrev S256x256 : Shape := ⟨2, ![256, 256]⟩
abbrev S512x256 : Shape := ⟨2, ![512, 256]⟩
abbrev S128x384 : Shape := ⟨2, ![128, 384]⟩
abbrev S1x128x128 : Shape := ⟨3, ![1, 128, 128]⟩
abbrev S128x128 : Shape := ⟨2, ![128, 128]⟩
abbrev S384x128 : Shape := ⟨2, ![384, 128]⟩
abbrev S1 : Shape := ⟨1, ![1]⟩
abbrev S128 : Shape := ⟨1, ![128]⟩
abbrev S128x1 : Shape := ⟨2, ![128, 1]⟩

abbrev nBuf : Space → Nat
  | .hbm => 5
  | .vmem => 16
  | .smem => 1
  | _ => 0

abbrev bufTy : (tb : Table) → Fin (tcTables nBuf tb) → BufTy
  | .hbm, ⟨0, _⟩ => ⟨S8x4096x1024, .bf16⟩
  | .hbm, ⟨1, _⟩ => ⟨S8x4096x256, .bf16⟩
  | .hbm, ⟨2, _⟩ => ⟨S8x4096x256, .bf16⟩
  | .hbm, ⟨3, _⟩ => ⟨S8, .f32⟩
  | .hbm, ⟨4, _⟩ => ⟨S8x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x256x1024, .bf16⟩
  | .local _ .vmem, ⟨15, _⟩ => ⟨S1x256x1024, .bf16⟩
  | .local _ .smem, ⟨0, _⟩ => ⟨S8, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4096x1024 : Shape := ⟨3, ![8, 4096, 1024]⟩
abbrev S8x4096x256 : Shape := ⟨3, ![8, 4096, 256]⟩
abbrev S8 : Shape := ⟨1, ![8]⟩
abbrev S8x4096x8x128 : Shape := ⟨4, ![8, 4096, 8, 128]⟩
abbrev S8x4096x2x128 : Shape := ⟨4, ![8, 4096, 2, 128]⟩
abbrev S_ : Shape := ⟨0, ![]⟩
abbrev S8x4352x2x128 : Shape := ⟨4, ![8, 4352, 2, 128]⟩
abbrev S8x34x128x2x128 : Shape := ⟨5, ![8, 34, 128, 2, 128]⟩
abbrev S8x32x128x2x128 : Shape := ⟨5, ![8, 32, 128, 2, 128]⟩
abbrev S8x32x384x2x128 : Shape := ⟨5, ![8, 32, 384, 2, 128]⟩
abbrev S8x32x128x2x4x128 : Shape := ⟨6, ![8, 32, 128, 2, 4, 128]⟩
abbrev S8x32x2x384x128x4 : Shape := ⟨6, ![8, 32, 2, 384, 128, 4]⟩
abbrev S8x32x2x4x128x384 : Shape := ⟨6, ![8, 32, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S1x128x384 : Shape := ⟨3, ![1, 128, 384]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S8x32x2x4x128 : Shape := ⟨5, ![8, 32, 2, 4, 128]⟩
abbrev S8x32x2x4x128x1 : Shape := ⟨6, ![8, 32, 2, 4, 128, 1]⟩
abbrev S8x32x2x128x4x128 : Shape := ⟨6, ![8, 32, 2, 128, 4, 128]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x256, .bf16⟩
  | .hbm, ⟨2, _⟩ => ⟨S8x4096x256, .bf16⟩
  | .hbm, ⟨3, _⟩ => ⟨S8, .f32⟩
  | .hbm, ⟨4, _⟩ => ⟨S8x4096x1024, .f32⟩
  | .hbm, ⟨5, _⟩ => ⟨S8x4096x8x128, .f32⟩
  | .hbm, ⟨6, _⟩ => ⟨S8x4096x256, .f32⟩
  | .hbm, ⟨7, _⟩ => ⟨S8x4096x2x128, .f32⟩
  | .hbm, ⟨8, _⟩ => ⟨S8x4096x256, .f32⟩
  | .hbm, ⟨9, _⟩ => ⟨S8x4096x2x128, .f32⟩
  | .hbm, ⟨10, _⟩ => ⟨S_, .i32⟩
  | .hbm, ⟨11, _⟩ => ⟨S_, .f32⟩
  | .hbm, ⟨12, _⟩ => ⟨S8x4352x2x128, .f32⟩
  | .hbm, ⟨13, _⟩ => ⟨S8x34x128x2x128, .f32⟩
  | .hbm, ⟨14, _⟩ => ⟨S8x32x128x2x128, .f32⟩
  | .hbm, ⟨15, _⟩ => ⟨S8x32x128x2x128, .f32⟩
  | .hbm, ⟨16, _⟩ => ⟨S8x32x128x2x128, .f32⟩
  | .hbm, ⟨17, _⟩ => ⟨S8x32x384x2x128, .f32⟩
  | .hbm, ⟨18, _⟩ => ⟨S_, .i32⟩
  | .hbm, ⟨19, _⟩ => ⟨S_, .f32⟩
  | .hbm, ⟨20, _⟩ => ⟨S8x4352x2x128, .f32⟩
  | .hbm, ⟨21, _⟩ => ⟨S8x34x128x2x128, .f32⟩
  | .hbm, ⟨22, _⟩ => ⟨S8x32x128x2x128, .f32⟩
  | .hbm, ⟨23, _⟩ => ⟨S8x32x128x2x128, .f32⟩
  | .hbm, ⟨24, _⟩ => ⟨S8x32x128x2x128, .f32⟩
  | .hbm, ⟨25, _⟩ => ⟨S8x32x384x2x128, .f32⟩
  | .hbm, ⟨26, _⟩ => ⟨S8x32x128x2x4x128, .f32⟩
  | .hbm, ⟨27, _⟩ => ⟨S8x32x2x384x128x4, .f32⟩
  | .hbm, ⟨28, _⟩ => ⟨S8x32x2x4x128x384, .f32⟩
  | .hbm, ⟨29, _⟩ => ⟨S_, .f32⟩
  | .hbm, ⟨30, _⟩ => ⟨S8x32x2x4x128x384, .f32⟩
  | .hbm, ⟨31, _⟩ => ⟨S8x32x2x4x128x384, .f32⟩
  | .hbm, ⟨32, _⟩ => ⟨S128, .i32⟩
  | .hbm, ⟨33, _⟩ => ⟨S128x1, .i32⟩
  | .hbm, ⟨34, _⟩ => ⟨S384, .i32⟩
  | .hbm, ⟨35, _⟩ => ⟨S1x384, .i32⟩
  | .hbm, ⟨36, _⟩ => ⟨S_, .i32⟩
  | .hbm, ⟨37, _⟩ => ⟨S1x384, .i32⟩
  | .hbm, ⟨38, _⟩ => ⟨S1x384, .i32⟩
  | .hbm, ⟨39, _⟩ => ⟨S128x384, .i32⟩
  | .hbm, ⟨40, _⟩ => ⟨S128x384, .i32⟩
  | .hbm, ⟨41, _⟩ => ⟨S128x384, .i32⟩
  | .hbm, ⟨42, _⟩ => ⟨S128x384, .i32⟩
  | .hbm, ⟨43, _⟩ => ⟨S_, .i32⟩
  | .hbm, ⟨44, _⟩ => ⟨S128x384, .i32⟩
  | .hbm, ⟨45, _⟩ => ⟨S128x384, .i1⟩
  | .hbm, ⟨46, _⟩ => ⟨S32, .i32⟩
  | .hbm, ⟨47, _⟩ => ⟨S32x1x1, .i32⟩
  | .hbm, ⟨48, _⟩ => ⟨S_, .i32⟩
  | .hbm, ⟨49, _⟩ => ⟨S32x1x1, .i32⟩
  | .hbm, ⟨50, _⟩ => ⟨S32x1x1, .i32⟩
  | .hbm, ⟨51, _⟩ => ⟨S1x1x384, .i32⟩
  | .hbm, ⟨52, _⟩ => ⟨S32x1x384, .i32⟩
  | .hbm, ⟨53, _⟩ => ⟨S32x1x384, .i32⟩
  | .hbm, ⟨54, _⟩ => ⟨S32x1x384, .i32⟩
  | .hbm, ⟨55, _⟩ => ⟨S_, .i32⟩
  | .hbm, ⟨56, _⟩ => ⟨S32x1x384, .i32⟩
  | .hbm, ⟨57, _⟩ => ⟨S32x1x384, .i32⟩
  | .hbm, ⟨58, _⟩ => ⟨S1x128x384, .i1⟩
  | .hbm, ⟨59, _⟩ => ⟨S_, .i32⟩
  | .hbm, ⟨60, _⟩ => ⟨S32x1x384, .i32⟩
  | .hbm, ⟨61, _⟩ => ⟨S32x1x384, .i1⟩
  | .hbm, ⟨62, _⟩ => ⟨S32x128x384, .i1⟩
  | .hbm, ⟨63, _⟩ => ⟨S32x128x384, .i1⟩
  | .hbm, ⟨64, _⟩ => ⟨S32x128x384, .i1⟩
  | .hbm, ⟨65, _⟩ => ⟨S_, .i32⟩
  | .hbm, ⟨66, _⟩ => ⟨S32x1x384, .i32⟩
  | .hbm, ⟨67, _⟩ => ⟨S32x1x384, .i1⟩
  | .hbm, ⟨68, _⟩ => ⟨S32x128x384, .i1⟩
  | .hbm, ⟨69, _⟩ => ⟨S32x128x384, .i1⟩
  | .hbm, ⟨70, _⟩ => ⟨S1x32x1x1x128x384, .i1⟩
  | .hbm, ⟨71, _⟩ => ⟨S_, .f32⟩
  | .hbm, ⟨72, _⟩ => ⟨S_, .f32⟩
  | .hbm, ⟨73, _⟩ => ⟨S8x32x2x4x128x384, .i1⟩
  | .hbm, ⟨74, _⟩ => ⟨S8x32x2x4x128x384, .f32⟩
  | .hbm, ⟨75, _⟩ => ⟨S8x32x2x4x128x384, .f32⟩
  | .hbm, ⟨76, _⟩ => ⟨S2x4, .f32⟩
  | .hbm, ⟨77, _⟩ => ⟨S1x1x2x4x1x1, .f32⟩
  | .hbm, ⟨78, _⟩ => ⟨S_, .f32⟩
  | .hbm, ⟨79, _⟩ => ⟨S8x32x2x4x128, .f32⟩
  | .hbm, ⟨80, _⟩ => ⟨S8x32x2x4x128x1, .f32⟩
  | .hbm, ⟨81, _⟩ => ⟨S8x32x2x4x128x1, .f32⟩
  | .hbm, ⟨82, _⟩ => ⟨S8x32x2x4x128x1, .f32⟩
  | .hbm, ⟨83, _⟩ => ⟨S8x32x2x4x128x384, .f32⟩
  | .hbm, ⟨84, _⟩ => ⟨S8x32x2x4x128x384, .f32⟩
  | .hbm, ⟨85, _⟩ => ⟨S8x32x2x4x128x384, .f32⟩
  | .hbm, ⟨86, _⟩ => ⟨S_, .f32⟩
  | .hbm, ⟨87, _⟩ => ⟨S8x32x2x4x128, .f32⟩
  | .hbm, ⟨88, _⟩ => ⟨S8x32x2x4x128x1, .f32⟩
  | .hbm, ⟨89, _⟩ => ⟨S8x32x2x4x128x1, .f32⟩
  | .hbm, ⟨90, _⟩ => ⟨S8x32x2x4x128x1, .f32⟩
  | .hbm, ⟨91, _⟩ => ⟨S8x32x2x4x128x1, .f32⟩
  | .hbm, ⟨92, _⟩ => ⟨S8x32x2x4x128x1, .f32⟩
  | .hbm, ⟨93, _⟩ => ⟨S8x32x2x4x128x384, .f32⟩
  | .hbm, ⟨94, _⟩ => ⟨S8x32x2x4x128x384, .f32⟩
  | .hbm, ⟨95, _⟩ => ⟨S8x32x2x128x4x128, .f32⟩
  | .hbm, ⟨96, _⟩ => ⟨S8x32x128x2x4x128, .f32⟩
  | .hbm, ⟨97, _⟩ => ⟨S8x4096x1024, .f32⟩
  | .hbm, ⟨98, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x9216 : Shape := ⟨2, ![8, 9216]⟩
abbrev S1024 : Shape := ⟨1, ![1024]⟩
abbrev S1024x5632 : Shape := ⟨2, ![1024, 5632]⟩
abbrev S2816x1024 : Shape := ⟨2, ![2816, 1024]⟩
abbrev S8x9x1024 : Shape := ⟨3, ![8, 9, 1024]⟩
abbrev S1x1024 : Shape := ⟨2, ![1, 1024]⟩
abbrev S1024x2816 : Shape := ⟨2, ![1024, 2816]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x9x1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
abbrev S8x4096x1024 : Shape := ⟨3, ![8, 4096, 1024]⟩
abbrev S8x9216 : Shape := ⟨2, ![8, 9216]⟩
abbrev S1024 : Shape := ⟨1, ![1024]⟩
abbrev S1024x5632 : Shape := ⟨2, ![1024, 5632]⟩
abbrev S2816x1024 : Shape := ⟨2, ![2816, 1024]⟩
abbrev S8x9x1024 : Shape := ⟨3, ![8, 9, 1024]⟩
abbrev S1x1024 : Shape := ⟨2, ![1, 1024]⟩
abbrev S1024x2816 : Shape := ⟨2, ![1024, 2816]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x9x1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x4096x1024 : Shape := ⟨3, ![8, 4096, 1024]⟩
abbrev S8x9216 : Shape := ⟨2, ![8, 9216]⟩
abbrev S1024 : Shape := ⟨1, ![1024]⟩
abbrev S1024x5632 : Shape := ⟨2, ![1024, 5632]⟩
abbrev S2816x1024 : Shape := ⟨2, ![2816, 1024]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x1x9216, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S_, .f32⟩
  | .hbm, ⟨17, _⟩ => ⟨S8x1x1024, .f32⟩
  | .hbm, ⟨18, _⟩ => ⟨S8x1x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x5632, .f32⟩
  | .hbm, ⟨43, _⟩ => ⟨S8x4096x2816, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S_, .f32⟩
  | .hbm, ⟨48, _⟩ => ⟨S8x4096x2816, .f32⟩
  | .hbm, ⟨49, _⟩ => ⟨S8x4096x2816, .f32⟩
  | .hbm, ⟨50, _⟩ => ⟨S_, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S1x1x1024, .f32⟩
  | .hbm, ⟨73, _⟩ => ⟨S8x4096x1024, .f32⟩
  | .hbm, ⟨74, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x9216 : Shape := ⟨2, ![2, 9216]⟩
abbrev S1024 : Shape := ⟨1, ![1024]⟩
abbrev S1024x5632 : Shape := ⟨2, ![1024, 5632]⟩
abbrev S2816x1024 : Shape := ⟨2, ![2816, 1024]⟩
abbrev S2x9x1024 : Shape := ⟨3, ![2, 9, 1024]⟩
abbrev S1x1024 : Shape := ⟨2, ![1, 1024]⟩
abbrev S1024x2816 : Shape := ⟨2, ![1024, 2816]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x9x1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S2x8192x1024 : Shape := ⟨3, ![2, 8192, 1024]⟩
abbrev S2x9216 : Shape := ⟨2, ![2, 9216]⟩
abbrev S1024 : Shape := ⟨1, ![1024]⟩
abbrev S1024x5632 : Shape := ⟨2, ![1024, 5632]⟩
abbrev S2816x1024 : Shape := ⟨2, ![2816, 1024]⟩
abbrev S2x1x9216 : Shape := ⟨3, ![2, 1, 9216]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x1x9216, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S_, .f32⟩
  | .hbm, ⟨17, _⟩ => ⟨S2x1x1024, .f32⟩
  | .hbm, ⟨18, _⟩ => ⟨S2x1x1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x5632, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S_, .f32⟩
  | .hbm, ⟨48, _⟩ => ⟨S2x8192x2816, .f32⟩
  | .hbm, ⟨49, _⟩ => ⟨S2x8192x2816, .f32⟩
  | .hbm, ⟨50, _⟩ => ⟨S_, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S1x1x1024, .f32⟩
  | .hbm, ⟨73, _⟩ => ⟨S2x8192x1024, .f32⟩
  | .hbm, ⟨74, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x9216 : Shape := ⟨2, ![8, 9216]⟩
abbrev S1024 : Shape := ⟨1, ![1024]⟩
abbrev S1024x5632 : Shape := ⟨2, ![1024, 5632]⟩
abbrev S2816x1024 : Shape := ⟨2, ![2816, 1024]⟩
abbrev S8x9x1024 : Shape := ⟨3, ![8, 9, 1024]⟩
abbrev S1x1024 : Shape := ⟨2, ![1, 1024]⟩
abbrev S1024x2816 : Shape := ⟨2, ![1024, 2816]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x9x1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8x4096x1024 : Shape := ⟨3, ![8, 4096, 1024]⟩
abbrev S8x9216 : Shape := ⟨2, ![8, 9216]⟩
abbrev S1024 : Shape := ⟨1, ![1024]⟩
abbrev S1024x5632 : Shape := ⟨2, ![1024, 5632]⟩
abbrev S2816x1024 : Shape := ⟨2, ![2816, 1024]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x1x9216, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S_, .f32⟩
  | .hbm, ⟨17, _⟩ => ⟨S8x1x1024, .f32⟩
  | .hbm, ⟨18, _⟩ => ⟨S8x1x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x5632, .f32⟩
  | .hbm, ⟨43, _⟩ => ⟨S8x4096x2816, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S_, .f32⟩
  | .hbm, ⟨48, _⟩ => ⟨S8x4096x2816, .f32⟩
  | .hbm, ⟨49, _⟩ => ⟨S8x4096x2816, .f32⟩
  | .hbm, ⟨50, _⟩ => ⟨S_, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x9216 : Shape := ⟨2, ![8, 9216]⟩
abbrev S128 : Shape := ⟨1, ![128]⟩
abbrev S1024x1024 : Shape := ⟨2, ![1024, 1024]⟩
abbrev S8x9x1024 : Shape := ⟨3, ![8, 9, 1024]⟩
abbrev S1x128 : Shape := ⟨2, ![1, 128]⟩
abbrev S1x512x1024 : Shape := ⟨3, ![1, 512, 1024]⟩
abbrev S1x9x1024 : Shape := ⟨3, ![1, 9, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S1x1x1024 : Shape := ⟨3, ![1, 1, 1024]⟩
abbrev S1x1024 : Shape := ⟨2, ![1, 1024]⟩

abbrev nBuf : Space → Nat
  | .hbm => 18
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S8x4096x1024, .f32⟩
  | .hbm, ⟨3, _⟩ => ⟨S8x4096x1024, .f32⟩
  | .hbm, ⟨4, _⟩ => ⟨S8x4096x1024, .bf16⟩
  | .hbm, ⟨5, _⟩ => ⟨S8x4096x1024, .bf16⟩
  | .hbm, ⟨6, _⟩ => ⟨S8x4096x1024, .bf16⟩
  | .hbm, ⟨7, _⟩ => ⟨S8x4096x1024, .bf16⟩
  | .hbm, ⟨8, _⟩ => ⟨S128, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S8x9x1024, .f32⟩
  | .hbm, ⟨13, _⟩ => ⟨S1x128, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x128, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x512x1024, .f32⟩
  | .local _ .vmem, ⟨21, _⟩ => ⟨S1x512x1024, .f32⟩
  | .local _ .vmem, ⟨22, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S8x4096x1024 : Shape := ⟨3, ![8, 4096, 1024]⟩
abbrev S8x9216 : Shape := ⟨2, ![8, 9216]⟩
abbrev S128 : Shape := ⟨1, ![128]⟩
abbrev S1024x1024 : Shape := ⟨2, ![1024, 1024]⟩
abbrev S8x1x9216 : Shape := ⟨3, ![8, 1, 9216]⟩
abbrev S8x1x1024 : Shape := ⟨3, ![8, 1, 1024]⟩
abbrev S8x4096x8x128 : Shape := ⟨4, ![8, 4096, 8, 128]⟩
abbrev S_ : Shape := ⟨0, ![]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S8x4096x1024, .f32⟩
  | .hbm, ⟨3, _⟩ => ⟨S8x4096x1024, .f32⟩
  | .hbm, ⟨4, _⟩ => ⟨S8x4096x1024, .bf16⟩
  | .hbm, ⟨5, _⟩ => ⟨S8x4096x1024, .bf16⟩
  | .hbm, ⟨6, _⟩ => ⟨S8x4096x1024, .bf16⟩
  | .hbm, ⟨7, _⟩ => ⟨S8x4096x1024, .bf16⟩
  | .hbm, ⟨8, _⟩ => ⟨S128, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S8x1x9216, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x4096x8x128, .f32⟩
  | .hbm, ⟨23, _⟩ => ⟨S8x4096x8x128, .f32⟩
  | .hbm, ⟨24, _⟩ => ⟨S8x4096x8x128, .f32⟩
  | .hbm, ⟨25, _⟩ => ⟨S8x4096x8x128, .f32⟩
  | .hbm, ⟨26, _⟩ => ⟨S_, .f32⟩
  | .hbm, ⟨27, _⟩ => ⟨S8x4096x8, .f32⟩
  | .hbm, ⟨28, _⟩ => ⟨S8x4096x8x1, .f32⟩
  | .hbm, ⟨29, _⟩ => ⟨S_, .f32⟩
  | .hbm, ⟨30, _⟩ => ⟨S8x4096x8x1, .f32⟩
  | .hbm, ⟨31, _⟩ => ⟨S8x4096x8x1, .f32⟩
  | .hbm, ⟨32, _⟩ => ⟨S_, .f32⟩
  | .hbm, ⟨33, _⟩ => ⟨S8x4096x8x1, .f32⟩
  | .hbm, ⟨34, _⟩ => ⟨S8x4096x8x1, .f32⟩
  | .hbm, ⟨35, _⟩ => ⟨S8x4096x8x1, .f32⟩
  | .hbm, ⟨36, _⟩ => ⟨S8x4096x8x128, .f32⟩
  | .hbm, ⟨37, _⟩ => ⟨S8x4096x8x128, .f32⟩
  | .hbm, ⟨38, _⟩ => ⟨S1x1x1x128, .f32⟩
  | .hbm, ⟨39, _⟩ => ⟨S8x4096x8x128, .f32⟩
  | .hbm, ⟨40, _⟩ => ⟨S8x4096x8x128, .f32⟩
  | .hbm, ⟨41, _⟩ => ⟨S8x4096x8x128, .bf16⟩
  | .hbm, ⟨42, _⟩ => ⟨S8x4096x8x128, .f32⟩
  | .hbm, ⟨43, _⟩ => ⟨S8x4096x8x128, .f32⟩
  | .hbm, ⟨44, _⟩ => ⟨S8x4096x8x128, .f32⟩
  | .hbm, ⟨45, _⟩ => ⟨S_, .f32⟩
  | .hbm, ⟨46, _⟩ => ⟨S8x4096x8x128, .f32⟩
  | .hbm, ⟨47, _⟩ => ⟨S8x4096x8x128, .f32⟩
  | .hbm, ⟨48, _⟩ => ⟨S_, .f32⟩
  | .hbm, ⟨49, _⟩ => ⟨S8x4096x8x128, .f32⟩
  | .hbm, ⟨50, _⟩ => ⟨S8x4096x8x128, .f32⟩
  | .hbm, ⟨51, _⟩ => ⟨S8x4096x8x128, .f32⟩
  | .hbm, ⟨52, _⟩ => ⟨S8x4096x8x128, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x4096x1024, .f32⟩
  | .hbm, ⟨62, _⟩ => ⟨S8x4096x1024, .f32⟩
  | .hbm, ⟨63, _⟩ => ⟨S_, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x4096x1024, .f32⟩
  | .hbm, ⟨72, _⟩ => ⟨S8x4096x1024, .f32⟩
  | .hbm, ⟨73, _⟩ => ⟨S_, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]
-- ==== Kernel6.lean ====
abbrev S8x1024 : Shape := ⟨2, ![8, 1024]⟩
abbrev S1024x9216 : Shape := ⟨2, ![1024, 9216]⟩
abbrev S9216 : Shape := ⟨1, ![9216]⟩
abbrev S1x9216 : Shape := ⟨2, ![1, 9216]⟩
abbrev S8x9216 : Shape := ⟨2, ![8, 9216]⟩
abbrev S1024x1024 : Shape := ⟨2, ![1024, 1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S1024x9216, .bf16⟩
  | .hbm, ⟨4, _⟩ => ⟨S1x9216, .f32⟩
  | .hbm, ⟨5, _⟩ => ⟨S8x9216, .f32⟩
  | .local _ .vmem, ⟨0, _⟩ => ⟨S8x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x1024 : Shape := ⟨2, ![8, 1024]⟩
abbrev S1024x9216 : Shape := ⟨2, ![1024, 9216]⟩
abbrev S9216 : Shape := ⟨1, ![9216]⟩
abbrev S_ : Shape := ⟨0, ![]⟩
abbrev S8x9216 : Shape := ⟨2, ![8, 9216]⟩
abbrev S1x9216 : Shape := ⟨2, ![1, 9216]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x9216, .f32⟩
  | .hbm, ⟨13, _⟩ => ⟨S1x9216, .f32⟩
  | .hbm, ⟨14, _⟩ => ⟨S8x9216, .f32⟩
  | .hbm, ⟨15, _⟩ => ⟨S8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel7.lean ====
abbrev S8x4096x1024 : Shape := ⟨3, ![8, 4096, 1024]⟩
abbrev S8x9216 : Shape := ⟨2, ![8, 9216]⟩
abbrev S1024 : Shape := ⟨1, ![1024]⟩
abbrev S1024x7712 : Shape := ⟨2, ![1024, 7712]⟩
abbrev S5x3072 : Shape := ⟨2, ![5, 3072]⟩
abbrev S2x8 : Shape := ⟨2, ![2, 8]⟩
abbrev S1024x32 : Shape := ⟨2, ![1024, 32]⟩
abbrev S_ : Shape := ⟨0, ![]⟩
abbrev S1024x128 : Shape := ⟨2, ![1024, 128]⟩
abbrev S1024x3072 : Shape := ⟨2, ![1024, 3072]⟩
abbrev S1024x1024 : Shape := ⟨2, ![1024, 1024]⟩
abbrev S1024x256 : Shape := ⟨2, ![1024, 256]⟩
abbrev S8x9x1024 : Shape := ⟨3, ![8, 9, 1024]⟩
abbrev S1x1024 : Shape := ⟨2, ![1, 1024]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x128 : Shape := ⟨2, ![1, 128]⟩
abbrev S8x4096x3072 : Shape := ⟨3, ![8, 4096, 3072]⟩
abbrev S8x4096x128 : Shape := ⟨3, ![8, 4096, 128]⟩
abbrev S8x4096x256 : Shape := ⟨3, ![8, 4096, 256]⟩
abbrev S1x512x1024 : Shape := ⟨3, ![1, 512, 1024]⟩
abbrev S1x8x1024 : Shape := ⟨3, ![1, 8, 1024]⟩
abbrev S1x9x1024 : Shape := ⟨3, ![1, 9, 1024]⟩
abbrev S512x128 : Shape := ⟨2, ![512, 128]⟩
abbrev S1x512x3072 : Shape := ⟨3, ![1, 512, 3072]⟩
abbrev S1x512x128 : Shape := ⟨3, ![1, 512, 128]⟩
abbrev S1x512x256 : Shape := ⟨3, ![1, 512, 256]⟩
abbrev S528x3072 : Shape := ⟨2, ![528, 3072]⟩
abbrev S1x1x1024 : Shape := ⟨3, ![1, 1, 1024]⟩
abbrev S8x1024 : Shape := ⟨2, ![8, 1024]⟩
abbrev S512x1024 : Shape := ⟨2, ![512, 1024]⟩
abbrev S528x1024 : Shape := ⟨2, ![528, 1024]⟩
abbrev S528 : Shape := ⟨1, ![528]⟩
abbrev S528x1 : Shape := ⟨2, ![528, 1]⟩
abbrev S528x256 : Shape := ⟨2, ![528, 256]⟩
abbrev S8x256 : Shape := ⟨2, ![8, 256]⟩
abbrev S512 : Shape := ⟨1, ![512]⟩
abbrev S512x1 : Shape := ⟨2, ![512, 1]⟩
abbrev S512x256 : Shape := ⟨2, ![512, 256]⟩

abbrev nBuf : Space → Nat
  | .hbm => 72
  | .vmem => 43
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x7712, .f32⟩
  | .hbm, ⟨4, _⟩ => ⟨S5x3072, .f32⟩
  | .hbm, ⟨5, _⟩ => ⟨S2x8, .f32⟩
  | .hbm, ⟨6, _⟩ => ⟨S2x8, .f32⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x3072, .f32⟩
  | .hbm, ⟨12, _⟩ => ⟨S1024x1024, .f32⟩
  | .hbm, ⟨13, _⟩ => ⟨S1024x1024, .f32⟩
  | .hbm, ⟨14, _⟩ => ⟨S1024x256, .f32⟩
  | .hbm, ⟨15, _⟩ => ⟨S1024x256, .f32⟩
  | .hbm, ⟨16, _⟩ => ⟨S1024x1024, .f32⟩
  | .hbm, ⟨17, _⟩ => ⟨S1024x1024, .f32⟩
  | .hbm, ⟨18, _⟩ => ⟨S8x9x1024, .f32⟩
  | .hbm, ⟨19, _⟩ => ⟨S1x1024, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S4096, .f32⟩
  | .hbm, ⟨29, _⟩ => ⟨S4096x1, .f32⟩
  | .hbm, ⟨30, _⟩ => ⟨S1x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S_, .f32⟩
  | .hbm, ⟨37, _⟩ => ⟨S4096x96, .f32⟩
  | .hbm, ⟨38, _⟩ => ⟨S4096x128, .f32⟩
  | .hbm, ⟨39, _⟩ => ⟨S_, .f32⟩
  | .hbm, ⟨40, _⟩ => ⟨S4096x16, .f32⟩
  | .hbm, ⟨41, _⟩ => ⟨S4096x16, .f32⟩
  | .hbm, ⟨42, _⟩ => ⟨S_, .f32⟩
  | .hbm, ⟨43, _⟩ => ⟨S4096x96, .f32⟩
  | .hbm, ⟨44, _⟩ => ⟨S4096x128, .f32⟩
  | .hbm, ⟨45, _⟩ => ⟨S_, .f32⟩
  | .hbm, ⟨46, _⟩ => ⟨S4096x96, .f32⟩
  | .hbm, ⟨47, _⟩ => ⟨S4096x128, .f32⟩
  | .hbm, ⟨48, _⟩ => ⟨S1024x3072, .bf16⟩
  | .hbm, ⟨49, _⟩ => ⟨S1024x1024, .bf16⟩
  | .hbm, ⟨50, _⟩ => ⟨S1024x128, .bf16⟩
  | .hbm, ⟨51, _⟩ => ⟨S1024x1024, .bf16⟩
  | .hbm, ⟨52, _⟩ => ⟨S1024x256, .bf16⟩
  | .hbm, ⟨53, _⟩ => ⟨S1024x256, .bf16⟩
  | .hbm, ⟨54, _⟩ => ⟨S1024x1024, .bf16⟩
  | .hbm, ⟨55, _⟩ => ⟨S1024x1024, .bf16⟩
  | .hbm, ⟨56, _⟩ => ⟨S1x16, .f32⟩
  | .hbm, ⟨57, _⟩ => ⟨S_, .i32⟩
  | .hbm, ⟨58, _⟩ => ⟨S_, .f32⟩
  | .hbm, ⟨59, _⟩ => ⟨S1x128, .f32⟩
  | .hbm, ⟨60, _⟩ => ⟨S1x16, .f32⟩
  | .hbm, ⟨61, _⟩ => ⟨S_, .i32⟩
  | .hbm, ⟨62, _⟩ => ⟨S_, .f32⟩
  | .hbm, ⟨63, _⟩ => ⟨S1x128, .f32⟩
  | .hbm, ⟨64, _⟩ => ⟨S8x4096x3072, .bf16⟩
  | .hbm, ⟨65, _⟩ => ⟨S8x4096x1024, .bf16⟩
  | .hbm, ⟨66, _⟩ => ⟨S8x4096x128, .f32⟩
  | .hbm, ⟨67, _⟩ => ⟨S8x4096x1024, .bf16⟩
  | .hbm, ⟨68, _⟩ => ⟨S8x4096x256, .bf16⟩
  | .hbm, ⟨69, _⟩ => ⟨S8x4096x256, .bf16⟩
  | .hbm, ⟨70, _⟩ => ⟨S8x4096x1024, .bf16⟩
  | .hbm, ⟨71, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x9x1024, .f32⟩
  | .local _ .vmem, ⟨7, _⟩ => ⟨S1x9x1024, .f32⟩
  | .local _ .vmem, ⟨8, _⟩ => ⟨S1x1024, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1024x3072, .bf16⟩
  | .local _ .vmem, ⟨16, _⟩ => ⟨S1024x1024, .bf16⟩
  | .local _ .vmem, ⟨17, _⟩ => ⟨S1024x128, .bf16⟩
  | .local _ .vmem, ⟨18, _⟩ => ⟨S1024x1024, .bf16⟩
  | .local _ .vmem, ⟨19, _⟩ => ⟨S1024x256, .bf16⟩
  | .local _ .vmem, ⟨20, _⟩ => ⟨S1024x256, .bf16⟩
  | .local _ .vmem, ⟨21, _⟩ => ⟨S1024x1024, .bf16⟩
  | .local _ .vmem, ⟨22, _⟩ => ⟨S1024x1024, .bf16⟩
  | .local _ .vmem, ⟨23, _⟩ => ⟨S5x3072, .f32⟩
  | .local _ .vmem, ⟨24, _⟩ => ⟨S1x128, .f32⟩
  | .local _ .vmem, ⟨25, _⟩ => ⟨S1x128, .f32⟩
  | .local _ .vmem, ⟨26, _⟩ => ⟨S1x512x3072, .bf16⟩
  | .local _ .vmem, ⟨27, _⟩ => ⟨S1x512x3072, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x128, .f32⟩
  | .local _ .vmem, ⟨31, _⟩ => ⟨S1x512x128, .f32⟩
  | .local _ .vmem, ⟨32, _⟩ => ⟨S1x512x1024, .bf16⟩
  | .local _ .vmem, ⟨33, _⟩ => ⟨S1x512x1024, .bf16⟩
  | .local _ .vmem, ⟨34, _⟩ => ⟨S1x512x256, .bf16⟩
  | .local _ .vmem, ⟨35, _⟩ => ⟨S1x512x256, .bf16⟩
  | .local _ .vmem, ⟨36, _⟩ => ⟨S1x512x256, .bf16⟩
  | .local _ .vmem, ⟨37, _⟩ => ⟨S1x512x256, .bf16⟩
  | .local _ .vmem, ⟨38, _⟩ => ⟨S1x512x1024, .bf16⟩
  | .local _ .vmem, ⟨39, _⟩ => ⟨S1x512x1024, .bf16⟩
  | .local _ .vmem, ⟨40, _⟩ => ⟨S1x512x1024, .bf16⟩
  | .local _ .vmem, ⟨41, _⟩ => ⟨S1x512x1024, .bf16⟩
  | .local _ .vmem, ⟨42, _⟩ => ⟨S528x3072, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_call1_v0 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_call2_v0 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev main_v45_2 : Ref sig .tc := ⟨.hbm, 66, rfl⟩
abbrev main_v45_3 : Ref sig .tc := ⟨.hbm, 67, rfl⟩
abbrev main_v45_4 : Ref sig .tc := ⟨.hbm, 68, rfl⟩
abbrev main_v45_5 : Ref sig .tc := ⟨.hbm, 69, rfl⟩
abbrev main_v45_6 : Ref sig .tc := ⟨.hbm, 70, rfl⟩
abbrev main_v45_7 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg26_1 : Ref sig .tc := ⟨.vmem, 41, rfl⟩
abbrev cc0_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S5x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x3072 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Reference7Ideal.lean ====
abbrev S8x4096x1024 : Shape := ⟨3, ![8, 4096, 1024]⟩
abbrev S8x9216 : Shape := ⟨2, ![8, 9216]⟩
abbrev S1024 : Shape := ⟨1, ![1024]⟩
abbrev S1024x7712 : Shape := ⟨2, ![1024, 7712]⟩
abbrev S5x3072 : Shape := ⟨2, ![5, 3072]⟩
abbrev S2x8 : Shape := ⟨2, ![2, 8]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x7712 : Shape := ⟨3, ![8, 4096, 7712]⟩
abbrev S8x4096x3072 : Shape := ⟨3, ![8, 4096, 3072]⟩
abbrev S8x4096x16 : Shape := ⟨3, ![8, 4096, 16]⟩
abbrev S8x4096x256 : Shape := ⟨3, ![8, 4096, 256]⟩
abbrev S8x4100x3072 : Shape := ⟨3, ![8, 4100, 3072]⟩
abbrev S1x3072 : Shape := ⟨2, ![1, 3072]⟩
abbrev S3072 : Shape := ⟨1, ![3072]⟩
abbrev S1x1x3072 : Shape := ⟨3, ![1, 1, 3072]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S8x4096x2x8 : Shape := ⟨4, ![8, 4096, 2, 8]⟩
abbrev S1x1x2x8 : Shape := ⟨4, ![1, 1, 2, 8]⟩
abbrev S8x4096x96 : Shape := ⟨3, ![8, 4096, 96]⟩
abbrev S8x4096x128 : Shape := ⟨3, ![8, 4096, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x8x32 : Shape := ⟨4, ![8, 4096, 8, 32]⟩
abbrev S8x4096x8x16 : Shape := ⟨4, ![8, 4096, 8, 16]⟩
abbrev S8x4096x8x96 : Shape := ⟨4, ![8, 4096, 8, 96]⟩
abbrev S8x4096x2x128 : Shape := ⟨4, ![8, 4096, 2, 128]⟩
abbrev S8x4096x2x32 : Shape := ⟨4, ![8, 4096, 2, 32]⟩
abbrev S8x4096x2x16 : Shape := ⟨4, ![8, 4096, 2, 16]⟩
abbrev S8x4096x2x96 : Shape := ⟨4, ![8, 4096, 2, 96]⟩

abbrev nBuf : Space → Nat
  | .hbm => 242
  | .vmem => 0
  | .smem => 0
  | _ => 0

abbrev hbmTy0_0 (i : Nat) : BufTy := match i % 128 with
  | 0 => ⟨S8x4096x1024, .f32⟩
  | 1 => ⟨S8x9216, .f32⟩
  | 2 => ⟨S1024, .f32⟩
  | 3 => ⟨S1024x7712, .f32⟩
  | 4 => ⟨S5x3072, .f32⟩
  | 5 => ⟨S2x8, .f32⟩
  | 6 => ⟨S2x8, .f32⟩
  | 7 => ⟨S8x1x9216, .f32⟩
  | 8 => ⟨S8x1x1024, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x4096x1024, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S_, .f32⟩
  | 25 => ⟨S8x4096x1, .f32⟩
  | 26 => ⟨S8x4096x1, .f32⟩
  | 27 => ⟨S8x4096x1, .f32⟩
  | 28 => ⟨S8x4096x1024, .f32⟩
  | 29 => ⟨S8x4096x1024, .f32⟩
  | 30 => ⟨S1x1x1024, .f32⟩
  | 31 => ⟨S8x4096x1024, .f32⟩
  | 32 => ⟨S8x4096x1024, .f32⟩
  | 33 => ⟨S_, .f32⟩
  | 34 => ⟨S8x1x1024, .f32⟩
  | 35 => ⟨S8x1x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S8x4096x7712, .f32⟩
  | 41 => ⟨S8x4096x3072, .f32⟩
  | 42 => ⟨S8x4096x1024, .f32⟩
  | 43 => ⟨S8x4096x16, .f32⟩
  | 44 => ⟨S8x4096x16, .f32⟩
  | 45 => ⟨S8x4096x1024, .f32⟩
  | 46 => ⟨S8x4096x256, .f32⟩
  | 47 => ⟨S8x4096x256, .f32⟩
  | 48 => ⟨S8x4096x1024, .f32⟩
  | 49 => ⟨S8x4096x1024, .f32⟩
  | 50 => ⟨S_, .i32⟩
  | 51 => ⟨S_, .f32⟩
  | 52 => ⟨S8x4100x3072, .f32⟩
  | 53 => ⟨S8x4096x3072, .f32⟩
  | 54 => ⟨S1x3072, .f32⟩
  | 55 => ⟨S3072, .f32⟩
  | 56 => ⟨S1x1x3072, .f32⟩
  | 57 => ⟨S8x4096x3072, .f32⟩
  | 58 => ⟨S8x4096x3072, .f32⟩
  | 59 => ⟨S8x4096x3072, .f32⟩
  | 60 => ⟨S1x3072, .f32⟩
  | 61 => ⟨S3072, .f32⟩
  | 62 => ⟨S1x1x3072, .f32⟩
  | 63 => ⟨S8x4096x3072, .f32⟩
  | 64 => ⟨S8x4096x3072, .f32⟩
  | 65 => ⟨S8x4096x3072, .f32⟩
  | 66 => ⟨S8x4096x3072, .f32⟩
  | 67 => ⟨S1x3072, .f32⟩
  | 68 => ⟨S3072, .f32⟩
  | 69 => ⟨S1x1x3072, .f32⟩
  | 70 => ⟨S8x4096x3072, .f32⟩
  | 71 => ⟨S8x4096x3072, .f32⟩
  | 72 => ⟨S8x4096x3072, .f32⟩
  | 73 => ⟨S8x4096x3072, .f32⟩
  | 74 => ⟨S1x3072, .f32⟩
  | 75 => ⟨S3072, .f32⟩
  | 76 => ⟨S1x1x3072, .f32⟩
  | 77 => ⟨S8x4096x3072, .f32⟩
  | 78 => ⟨S8x4096x3072, .f32⟩
  | 79 => ⟨S8x4096x3072, .f32⟩
  | 80 => ⟨S8x4096x3072, .f32⟩
  | 81 => ⟨S1x3072, .f32⟩
  | 82 => ⟨S3072, .f32⟩
  | 83 => ⟨S1x1x3072, .f32⟩
  | 84 => ⟨S8x4096x3072, .f32⟩
  | 85 => ⟨S8x4096x3072, .f32⟩
  | 86 => ⟨S8x4096x3072, .f32⟩
  | 87 => ⟨S8x4096x3072, .f32⟩
  | 88 => ⟨S8x4096x3072, .f32⟩
  | 89 => ⟨S_, .f32⟩
  | 90 => ⟨S8x4096x3072, .f32⟩
  | 91 => ⟨S8x4096x3072, .f32⟩
  | 92 => ⟨S_, .f32⟩
  | 93 => ⟨S8x4096x3072, .f32⟩
  | 94 => ⟨S8x4096x3072, .f32⟩
  | 95 => ⟨S8x4096x3072, .f32⟩
  | 96 => ⟨S8x4096x1024, .f32⟩
  | 97 => ⟨S8x4096x1024, .f32⟩
  | 98 => ⟨S8x4096x1024, .f32⟩
  | 99 => ⟨S8x4096x8x128, .f32⟩
  | 100 => ⟨S8x4096x8x128, .f32⟩
  | 101 => ⟨S_, .f32⟩
  | 102 => ⟨S8x4096x8, .f32⟩
  | 103 => ⟨S8x4096x8x1, .f32⟩
  | 104 => ⟨S_, .f32⟩
  | 105 => ⟨S8x4096x8x1, .f32⟩
  | 106 => ⟨S8x4096x8x1, .f32⟩
  | 107 => ⟨S8x4096x8x1, .f32⟩
  | 108 => ⟨S8x4096x8x128, .f32⟩
  | 109 => ⟨S8x4096x8x128, .f32⟩
  | 110 => ⟨S_, .f32⟩
  | 111 => ⟨S8x4096x8x128, .f32⟩
  | 112 => ⟨S8x4096x8x128, .f32⟩
  | 113 => ⟨S8x4096x8x128, .f32⟩
  | 114 => ⟨S8x4096x8x128, .f32⟩
  | 115 => ⟨S_, .f32⟩
  | 116 => ⟨S8x4096x8, .f32⟩
  | 117 => ⟨S8x4096x8x1, .f32⟩
  | 118 => ⟨S_, .f32⟩
  | 119 => ⟨S8x4096x8x1, .f32⟩
  | 120 => ⟨S8x4096x8x1, .f32⟩
  | 121 => ⟨S8x4096x8x1, .f32⟩
  | 122 => ⟨S8x4096x8x128, .f32⟩
  | 123 => ⟨S8x4096x8x128, .f32⟩
  | 124 => ⟨S8x4096x1024, .f32⟩
  | 125 => ⟨S8x4096x1024, .f32⟩
  | 126 => ⟨S8x4096x3072, .f32⟩
  | 127 => ⟨S8x4096x16, .f32⟩
  | _ => ⟨S8x4096x1024, .f32⟩

abbrev hbmTy0_1 (i : Nat) : BufTy := match i % 128 with
  | 0 => ⟨S8x4096x16, .f32⟩
  | 1 => ⟨S_, .f32⟩
  | 2 => ⟨S8x4096x16, .f32⟩
  | 3 => ⟨S8x4096x16, .f32⟩
  | 4 => ⟨S_, .f32⟩
  | 5 => ⟨S8x4096x16, .f32⟩
  | 6 => ⟨S8x4096x16, .f32⟩
  | 7 => ⟨S2x8, .f32⟩
  | 8 => ⟨S2x8, .f32⟩
  | 9 => ⟨S8x4096x2x8, .f32⟩
  | 10 => ⟨S1x1x2x8, .f32⟩
  | 11 => ⟨S8x4096x2x8, .f32⟩
  | 12 => ⟨S8x4096x2x8, .f32⟩
  | 13 => ⟨S_, .f32⟩
  | 14 => ⟨S8x4096x2x8, .f32⟩
  | 15 => ⟨S8x4096x2x8, .f32⟩
  | 16 => ⟨S8x4096x2x8, .f32⟩
  | 17 => ⟨S8x4096x2x8, .f32⟩
  | 18 => ⟨S8x4096x2x8, .i1⟩
  | 19 => ⟨S8x4096x2x8, .f32⟩
  | 20 => ⟨S8x4096x2x8, .f32⟩
  | 21 => ⟨S8x4096x2x8, .f32⟩
  | 22 => ⟨S8x4096x2x8, .f32⟩
  | 23 => ⟨S8x4096x2x8, .f32⟩
  | 24 => ⟨S8x4096x2x8, .f32⟩
  | 25 => ⟨S8x4096x2x8, .f32⟩
  | 26 => ⟨S8x4096x2x8, .f32⟩
  | 27 => ⟨S1x1x2x8, .f32⟩
  | 28 => ⟨S8x4096x2x8, .f32⟩
  | 29 => ⟨S8x4096x2x8, .f32⟩
  | 30 => ⟨S8x4096x16, .f32⟩
  | 31 => ⟨S_, .f32⟩
  | 32 => ⟨S8x4096x96, .f32⟩
  | 33 => ⟨S8x4096x128, .f32⟩
  | 34 => ⟨S4096, .i32⟩
  | 35 => ⟨S8x4096x8x128, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S4096, .f32⟩
  | 45 => ⟨S4096x1, .f32⟩
  | 46 => ⟨S1x16, .f32⟩
  | 47 => ⟨S4096x16, .f32⟩
  | 48 => ⟨S4096x16, .f32⟩
  | 49 => ⟨S4096x16, .f32⟩
  | 50 => ⟨S4096x16, .f32⟩
  | 51 => ⟨S1x4096x1x16, .f32⟩
  | 52 => ⟨S4096x16, .f32⟩
  | 53 => ⟨S1x4096x1x16, .f32⟩
  | 54 => ⟨S8x4096x8x32, .f32⟩
  | 55 => ⟨S8x4096x8x16, .f32⟩
  | 56 => ⟨S8x4096x8x16, .f32⟩
  | 57 => ⟨S8x4096x8x16, .f32⟩
  | 58 => ⟨S8x4096x8x16, .f32⟩
  | 59 => ⟨S8x4096x8x16, .f32⟩
  | 60 => ⟨S8x4096x8x16, .f32⟩
  | 61 => ⟨S8x4096x8x16, .f32⟩
  | 62 => ⟨S8x4096x8x16, .f32⟩
  | 63 => ⟨S8x4096x8x16, .f32⟩
  | 64 => ⟨S8x4096x8x16, .f32⟩
  | 65 => ⟨S8x4096x8x16, .f32⟩
  | 66 => ⟨S8x4096x8x16, .f32⟩
  | 67 => ⟨S8x4096x8x32, .f32⟩
  | 68 => ⟨S8x4096x8x96, .f32⟩
  | 69 => ⟨S8x4096x8x128, .f32⟩
  | 70 => ⟨S8x4096x1024, .f32⟩
  | 71 => ⟨S8x4096x2x128, .f32⟩
  | 72 => ⟨S16, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S4096, .f32⟩
  | 81 => ⟨S4096x1, .f32⟩
  | 82 => ⟨S1x16, .f32⟩
  | 83 => ⟨S4096x16, .f32⟩
  | 84 => ⟨S4096x16, .f32⟩
  | 85 => ⟨S4096x16, .f32⟩
  | 86 => ⟨S4096x16, .f32⟩
  | 87 => ⟨S1x4096x1x16, .f32⟩
  | 88 => ⟨S4096x16, .f32⟩
  | 89 => ⟨S1x4096x1x16, .f32⟩
  | 90 => ⟨S8x4096x2x32, .f32⟩
  | 91 => ⟨S8x4096x2x16, .f32⟩
  | 92 => ⟨S8x4096x2x16, .f32⟩
  | 93 => ⟨S8x4096x2x16, .f32⟩
  | 94 => ⟨S8x4096x2x16, .f32⟩
  | 95 => ⟨S8x4096x2x16, .f32⟩
  | 96 => ⟨S8x4096x2x16, .f32⟩
  | 97 => ⟨S8x4096x2x16, .f32⟩
  | 98 => ⟨S8x4096x2x16, .f32⟩
  | 99 => ⟨S8x4096x2x16, .f32⟩
  | 100 => ⟨S8x4096x2x16, .f32⟩
  | 101 => ⟨S8x4096x2x16, .f32⟩
  | 102 => ⟨S8x4096x2x16, .f32⟩
  | 103 => ⟨S8x4096x2x32, .f32⟩
  | 104 => ⟨S8x4096x2x96, .f32⟩
  | 105 => ⟨S8x4096x2x128, .f32⟩
  | 106 => ⟨S8x4096x256, .f32⟩
  | 107 => ⟨S8x4096x3072, .bf16⟩
  | 108 => ⟨S8x4096x1024, .bf16⟩
  | 109 => ⟨S8x4096x1024, .bf16⟩
  | 110 => ⟨S8x4096x256, .bf16⟩
  | 111 => ⟨S8x4096x256, .bf16⟩
  | 112 => ⟨S8x4096x1024, .bf16⟩
  | 113 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c : Ref sig .tc := ⟨.hbm, 50, rfl⟩
abbrev main_call0_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_3 : Ref sig .tc := ⟨.hbm, 101, rfl⟩
abbrev main_v80 : Ref sig .tc := ⟨.hbm, 102, rfl⟩
abbrev main_v81 : Ref sig .tc := ⟨.hbm, 103, rfl⟩
abbrev main_cst_4 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_5 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_6 : Ref sig .tc := ⟨.hbm, 115, rfl⟩
abbrev main_v91 : Ref sig .tc := ⟨.hbm, 116, rfl⟩
abbrev main_v92 : Ref sig .tc := ⟨.hbm, 117, rfl⟩
abbrev main_cst_7 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_8 : Ref sig .tc := ⟨.hbm, 129, rfl⟩
abbrev main_v103 : Ref sig .tc := ⟨.hbm, 130, rfl⟩
abbrev main_v104 : Ref sig .tc := ⟨.hbm, 131, rfl⟩
abbrev main_cst_9 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_call2_cst : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_v5 : Ref sig .tc := ⟨.hbm, 147, rfl⟩
abbrev main_call2_v6 : Ref sig .tc := ⟨.hbm, 148, rfl⟩
abbrev main_call2_v7 : Ref sig .tc := ⟨.hbm, 149, rfl⟩
abbrev main_call2_v8 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_10 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_11 : Ref sig .tc := ⟨.hbm, 166, rfl⟩
abbrev main_v124 : Ref sig .tc := ⟨.hbm, 167, rfl⟩
abbrev main_v125 : Ref sig .tc := ⟨.hbm, 168, rfl⟩
abbrev main_cst_12 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_13 : Ref sig .tc := ⟨.hbm, 202, rfl⟩
abbrev main_v158 : Ref sig .tc := ⟨.hbm, 203, rfl⟩
abbrev main_v159 : Ref sig .tc := ⟨.hbm, 204, rfl⟩
abbrev main_cst_14 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩

abbrev nD : Nat := 1
abbrev τ : Topo := Topo.v7x

variable {F : FTy → Type} [FloatOps F]
-- ==== Proof.Attn.Math.lean ====
/- The arithmetic of a softmax row with a sink logit, over the extended reals: dividing the weighted sum by the
   denominator, and dividing each weight before the sum, give the same number when the scores are not `⊤` and
   the sink is a real number. -/
module

public import Idealize.ShloMosaic.Lib.Pointwise

@[expose] public section

noncomputable section

namespace Cert.Attn

open Idealize.ShloMosaic

/-- The row's shift: the largest score, or the sink if that is larger. -/
def peak {n : ℕ} (S : Fin n → EReal) (sink : EReal) : EReal := max (Finset.univ.fold max ⊥ S) sink

/-- The row's denominator: the scores' exponentials and the sink's. -/
def denom {n : ℕ} (S : Fin n → EReal) (sink : EReal) : EReal :=
  (∑ s, Ideal.exp (S s - peak S sink)) + Ideal.exp (sink - peak S sink)

/-- The row's output, divided last. -/
def outLast {n : ℕ} (S v : Fin n → EReal) (sink : EReal) : EReal :=
  Ideal.div (∑ s, Ideal.exp (S s - peak S sink) * v s) (denom S sink)

/-- The row's output, the weights divided first. -/
def outFirst {n : ℕ} (S v : Fin n → EReal) (sink : EReal) : EReal :=
  ∑ s, Ideal.div (Ideal.exp (S s - peak S sink)) (denom S sink) * v s

/-- The exponential is never negative. -/
theorem exp_nonneg (x : EReal) : 0 ≤ Ideal.exp x := by
  induction x with
  | bot => simp
  | top => simp
  | coe r => rw [Ideal.exp_coe]; exact_mod_cast (Real.exp_pos r).le

/-- The maximum of a family and a bound is the bound or one of the family. -/
theorem fold_max_mem {n : ℕ} (S : Fin n → EReal) (b : EReal) (t : Finset (Fin n)) :
    t.fold max b S = b ∨ ∃ s, t.fold max b S = S s := by
  classical
  induction t using Finset.induction_on with
  | empty => left; simp
  | insert a t ha ih =>
    rw [Finset.fold_insert ha]
    rcases le_total (S a) (t.fold max b S) with h | h
    · rw [max_eq_right h]; exact ih
    · rw [max_eq_left h]; exact .inr ⟨a, rfl⟩

/-- The shift is the sink or one of the scores. -/
theorem peak_mem {n : ℕ} (S : Fin n → EReal) (sink : EReal) (hs : sink ≠ ⊥) :
    peak S sink = sink ∨ ∃ s, peak S sink = S s := by
  unfold peak
  rcases le_total (Finset.univ.fold max ⊥ S) sink with h | h
  · exact .inl (max_eq_right h)
  · rw [max_eq_left h]
    rcases fold_max_mem S ⊥ Finset.univ with h' | h'
    · rw [h', le_bot_iff] at h; exact absurd h hs
    · exact .inr h'

/-- The shift is not `⊥`. -/
theorem peak_ne_bot {n : ℕ} (S : Fin n → EReal) (sink : EReal) (hs : sink ≠ ⊥) : peak S sink ≠ ⊥ := by
  intro h
  have : sink ≤ peak S sink := le_max_right _ _
  rw [h, le_bot_iff] at this
  exact hs this

/-- A number that is not infinite, less itself, has exponential one. -/
theorem exp_sub_self {x : EReal} (h1 : x ≠ ⊥) (h2 : x ≠ ⊤) : Ideal.exp (x - x) = 1 := by
  lift x to ℝ using ⟨h2, h1⟩
  rw [← EReal.coe_sub, sub_self, Ideal.exp_coe, Real.exp_zero]; rfl

/-- The denominator is at least one. -/
theorem one_le_denom {n : ℕ} (S : Fin n → EReal) (sink : EReal) (h1 : sink ≠ ⊥) (h2 : sink ≠ ⊤)
    (hS : ∀ s, S s ≠ ⊤) : 1 ≤ denom S sink := by
  have hsum : 0 ≤ ∑ s, Ideal.exp (S s - peak S sink) := Finset.sum_nonneg fun s _ => exp_nonneg _
  have hb := peak_ne_bot S sink h1
  unfold denom
  rcases peak_mem S sink h1 with h | ⟨s, h⟩
  · rw [show Ideal.exp (sink - peak S sink) = 1 by rw [h]; exact exp_sub_self h1 h2]
    exact le_add_of_nonneg_left hsum
  · have ht : peak S sink ≠ ⊤ := by rw [h]; exact hS s
    have h1' : Ideal.exp (S s - peak S sink) = 1 := by
      rw [← h]; exact exp_sub_self hb ht
    refine le_trans ?_ (le_add_of_nonneg_right (exp_nonneg _))
    rw [← h1']
    exact Finset.single_le_sum (f := fun s => Ideal.exp (S s - peak S sink)) (fun s _ => exp_nonneg _) (Finset.mem_univ s)

/-- A sum times a nonnegative number other than `⊤`, term by term. -/
theorem sum_mul_of_nonneg {n : ℕ} (f : Fin n → EReal) {c : EReal} (h : 0 ≤ c) (h' : c ≠ ⊤) :
    (∑ s, f s) * c = ∑ s, f s * c := by
  classical
  have key : ∀ t : Finset (Fin n), (∑ s ∈ t, f s) * c = ∑ s ∈ t, f s * c := by
    intro t
    induction t using Finset.induction_on with
    | empty => simp
    | insert a t ha ih =>
      rw [Finset.sum_insert ha, Finset.sum_insert ha, EReal.right_distrib_of_nonneg_of_ne_top h h', ih]
  exact key _

/-- Division by a number that is not zero is the product with its inverse. -/
theorem div_of_ne_zero {y : EReal} (h : y ≠ 0) (x : EReal) : Ideal.div x y = x * y⁻¹ := by
  rw [Ideal.div, if_neg h]

/-- A masked score contributes nothing, whatever its value is multiplied by. -/
theorem exp_bot_sub (x : EReal) : Ideal.exp (⊥ - x) = 0 := by
  rw [sub_eq_add_neg, EReal.bot_add, Ideal.exp_bot]

/-- THE ROW: dividing last and dividing first agree; the values may differ where the score is `⊥`. -/
theorem outLast_eq_outFirst {n : ℕ} (S v w : Fin n → EReal) (sink : EReal) (h1 : sink ≠ ⊥) (h2 : sink ≠ ⊤)
    (hS : ∀ s, S s ≠ ⊤) (hv : ∀ s, S s = ⊥ ∨ v s = w s) : outLast S v sink = outFirst S w sink := by
  have hd := one_le_denom S sink h1 h2 hS
  have hpos : (0 : EReal) < denom S sink := lt_of_lt_of_le (by norm_num) hd
  have hne := hpos.ne'
  unfold outLast outFirst
  rw [div_of_ne_zero hne, sum_mul_of_nonneg _ (EReal.inv_nonneg_of_nonneg hpos.le) (EReal.inv_lt_top _).ne]
  refine Finset.sum_congr rfl fun s _ => ?_
  rw [div_of_ne_zero hne]
  rcases hv s with h | h
  · rw [h, exp_bot_sub, zero_mul, zero_mul, zero_mul]
  · rw [h, mul_assoc, mul_assoc, mul_comm (w s)]

end Cert.Attn

end
-- ==== Proof.Attn.Mask.lean ====
/- The attention's mask, word arithmetic read as arithmetic of numbers: both programs compute, in 32-bit words,
   whether a key lies within 128 places of the query and within the sequence. -/
module

public import Idealize.ShloMosaic.Lib.Pointwise

@[expose] public section

noncomputable section

namespace Cert.Attn

open Idealize.ShloMosaic

/-- The word of negative infinity is `⊥`. -/
theorem word_bot : Ideal.ofBits .f32 0xFF800000#32 = (⊥ : EReal) := by
  simp [Ideal.ofBits, Ideal.ieee]

/-- A word less 128 and less another, as an integer. -/
theorem diff_toInt (s r : ℕ) (hs : s < 512) (hr : r < 512) :
    (IntOp.subi (IntOp.subi (BitVec.ofNat 32 s) 128#32) (BitVec.ofNat 32 r)).toInt = (s : ℤ) - 128 - r := by
  simp only [IntOp.subi, BitVec.toInt_eq_toNat_cond, BitVec.toNat_sub, BitVec.toNat_ofNat]
  split <;> omega

/-- The band: the key's distance is at most 128. -/
theorem band_word (s r : ℕ) (hs : s < 512) (hr : r < 512) :
    IntOp.cmpi .sle (IntOp.absi (IntOp.subi (IntOp.subi (BitVec.ofNat 32 s) 128#32) (BitVec.ofNat 32 r))) 128#32
      = BitVec.ofBool (decide (r ≤ s ∧ s ≤ r + 256)) := by
  show BitVec.ofBool (BitVec.sle _ _) = _
  congr 1
  have h := diff_toInt s r hs hr
  generalize IntOp.subi (IntOp.subi (BitVec.ofNat 32 s) 128#32) (BitVec.ofNat 32 r) = x at h ⊢
  have e : (IntOp.absi x).toInt = |(s : ℤ) - 128 - r| := by
    rw [IntOp.absi, BitVec.msb_eq_toInt]
    by_cases hx : x.toInt < 0
    · rw [if_pos (by simpa using hx), BitVec.toInt_neg_of_ne_intMin, h, abs_of_neg (by omega)]
      intro hm
      rw [hm] at h
      have : (BitVec.intMin 32).toInt = -2147483648 := by decide
      omega
    · rw [if_neg (by simpa using hx), h, abs_of_nonneg (by omega)]
  rw [BitVec.sle_eq_decide, e, show (128#32 : BitVec 32).toInt = 128 by decide, decide_eq_decide, abs_le]
  omega

/-- A block's first position and a lane, less 128, as an integer. -/
theorem place_toInt (p s : ℕ) (hp : p < 8192) (hs : s < 512) :
    (IntOp.subi (IntOp.addi (BitVec.ofNat 32 p) (BitVec.ofNat 32 s)) 128#32).toInt = (p : ℤ) + s - 128 := by
  simp only [IntOp.subi, IntOp.addi, BitVec.toInt_eq_toNat_cond, BitVec.toNat_sub, BitVec.toNat_add, BitVec.toNat_ofNat]
  split <;> omega

/-- The key does not lie before the sequence. -/
theorem first_word (p s : ℕ) (hp : p < 8192) (hs : s < 512) :
    IntOp.cmpi .sge (IntOp.subi (IntOp.addi (BitVec.ofNat 32 p) (BitVec.ofNat 32 s)) 128#32) 0#32
      = BitVec.ofBool (decide (128 ≤ p + s)) := by
  show BitVec.ofBool (BitVec.sle _ _) = _
  congr 1
  rw [BitVec.sle_eq_decide, place_toInt p s hp hs, show (0#32 : BitVec 32).toInt = 0 by decide, decide_eq_decide]
  omega

/-- The key does not lie behind the sequence. -/
theorem last_word (p s : ℕ) (hp : p < 8192) (hs : s < 512) :
    IntOp.cmpi .slt (IntOp.subi (IntOp.addi (BitVec.ofNat 32 p) (BitVec.ofNat 32 s)) 128#32) 4096#32
      = BitVec.ofBool (decide (p + s < 4224)) := by
  show BitVec.ofBool (BitVec.slt _ _) = _
  congr 1
  rw [BitVec.slt_eq_decide, place_toInt p s hp hs, show (4096#32 : BitVec 32).toInt = 4096 by decide, decide_eq_decide]
  omega

/-- A bit and another, of two decided facts. -/
theorem andi_bits (a b : Bool) : IntOp.andi (BitVec.ofBool a) (BitVec.ofBool b) = BitVec.ofBool (a && b) := by
  cases a <;> cases b <;> rfl

/-- The whole mask, a block's first position a word of its own. -/
theorem mask_word (p s r : ℕ) (w : BitVec 32) (hw : w = BitVec.ofNat 32 p) (hp : p < 8192) (hs : s < 512) (hr : r < 512) :
    IntOp.andi (IntOp.andi (IntOp.cmpi .sle (IntOp.absi (IntOp.subi (IntOp.subi (BitVec.ofNat 32 s) 128#32) (BitVec.ofNat 32 r))) 128#32)
        (IntOp.cmpi .sge (IntOp.subi (IntOp.addi w (BitVec.ofNat 32 s)) 128#32) 0#32))
      (IntOp.cmpi .slt (IntOp.subi (IntOp.addi w (BitVec.ofNat 32 s)) 128#32) 4096#32)
      = BitVec.ofBool (decide (r ≤ s ∧ s ≤ r + 256 ∧ 128 ≤ p + s ∧ p + s < 4224)) := by
  subst hw
  rw [band_word s r hs hr, first_word p s hp hs, last_word p s hp hs, andi_bits, andi_bits, ← Bool.decide_and, ← Bool.decide_and]
  congr 1
  rw [decide_eq_decide]
  tauto

/-- A block's first position: the block's number times 128. -/
theorem block_word (n : ℕ) (hn : n < 64) : IntOp.muli (BitVec.ofNat 32 n) 128#32 = BitVec.ofNat 32 (n * 128) := by
  apply BitVec.eq_of_toNat_eq
  simp only [IntOp.muli, BitVec.toNat_mul, BitVec.toNat_ofNat]
  omega

end Cert.Attn

end
-- ==== Proof.Attn.Ref.lean ====
/- What the attention's reference computes, read at an index: its result at batch `b`, block `n`, row `r` of the
   block, head `(kv, g)` and lane `d` is the softmax row of `Cert.Attn.outFirst` over the 384 keys the block sees. -/
module

public import proofs.«01_k».proof.Proof.Attn.Math
public import proofs.«01_k».proof.Proof.Attn.Mask
public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.SL.Sem

variable {F : FTy → Type} [FloatOps F]

/-- The keys (or values) with a block of zeros on either side. -/
def padded (x : FVec F S8x4096x256 .bf16) : FVec F S8x34x128x2x128 .f32 :=
  shapeCast _ (pad S8x4352x2x128 ![0, 128, 0, 0] ![0, 128, 0, 0] ![0, 0, 0, 0] (shapeCast _ (extf .f32 x bitsLt_bf16_f32) shapeCasts_S8x4096x256_S8x4096x2x128) (sitofp .f32 (constantI S_ 32 0#32)) pads_S8x4096x2x128_S8x4352x2x128_000_1281280_000_000 h_S_) shapeCasts_S8x4352x2x128_S8x34x128x2x128

/-- The three neighbouring blocks of each block, side by side. -/
def windows (x : FVec F S8x4096x256 .bf16) : FVec F S8x32x384x2x128 .f32 :=
  concatenate S8x32x384x2x128 2 [⟨S8x32x128x2x128, extractStridedSlice S8x32x128x2x128 ![0, 0, 0, 0, 0] (padded x) slices_S8x34x128x2x128_S8x32x128x2x128_0_0_0_0_0⟩, ⟨S8x32x128x2x128, extractStridedSlice S8x32x128x2x128 ![0, 1, 0, 0, 0] (padded x) slices_S8x34x128x2x128_S8x32x128x2x128_0_1_0_0_0⟩, ⟨S8x32x128x2x128, extractStridedSlice S8x32x128x2x128 ![0, 2, 0, 0, 0] (padded x) slices_S8x34x128x2x128_S8x32x128x2x128_0_2_0_0_0⟩] concatenates_S8x32x128x2x128_S8x32x128x2x128_S8x32x128x2x128_S8x32x384x2x128_d2

/-- Whether the key lies within the band around the query. -/
def near : IVec S128x384 1 :=
  cmpi .sle (absi (subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0))))) (broadcastInDim S128x384 ![] bcast_S_S128x384 (constantI S_ 32 128#32))

/-- The key's position in the sequence. -/
def keyPos : IVec S32x1x384 32 :=
  subi (addi (broadcastInDim S32x1x384 ![0, 1, 2] bcast_S32x1x1_S32x1x384_0_1_2 (muli (broadcastInDim S32x1x1 ![0] bcast_S32_S32x1x1_0 (iotaInDim S32 32 0)) (broadcastInDim S32x1x1 ![] bcast_S_S32x1x1 (constantI S_ 32 128#32)))) (broadcastInDim S32x1x384 ![0, 1, 2] bcast_S1x1x384_S32x1x384_0_1_2 (broadcastInDim S1x1x384 ![1, 2] bcast_S1x384_S1x1x384_1_2 (broadcastInDim S1x384 ![1] bcast_S384_S1x384_1 (iotaInDim S384 32 0))))) (broadcastInDim S32x1x384 ![] bcast_S_S32x1x384 (constantI S_ 32 128#32))

/-- Whether the query may look at the key. -/
def valid : IVec S32x128x384 1 :=
  andi (andi (broadcastInDim S32x128x384 ![0, 1, 2] bcast_S1x128x384_S32x128x384_0_1_2 (broadcastInDim S1x128x384 ![1, 2] bcast_S128x384_S1x128x384_1_2 near)) (broadcastInDim S32x128x384 ![0, 1, 2] bcast_S32x1x384_S32x128x384_0_1_2 (cmpi .sge keyPos (broadcastInDim S32x1x384 ![] bcast_S_S32x1x384 (constantI S_ 32 0#32))))) (broadcastInDim S32x128x384 ![0, 1, 2] bcast_S32x1x384_S32x128x384_0_1_2 (cmpi .slt keyPos (broadcastInDim S32x1x384 ![] bcast_S_S32x1x384 (constantI S_ 32 4096#32))))

/-- The products of queries and keys, scaled. -/
def logits (q : FVec F S8x4096x1024 .bf16) (k : FVec F S8x4096x256 .bf16) : FVec F S8x32x2x4x128x384 .f32 :=
  mulf (transpose S8x32x2x4x128x384 [0, 1, 2, 5, 4, 3] (Host.dotGeneral dot_S8x32x384x2x128_S8x32x128x2x4x128_S8x32x2x384x128x4_4_5_2_24_013_013 none (windows k) (shapeCast _ (shapeCast _ (extf .f32 q bitsLt_bf16_f32) shapeCasts_S8x4096x1024_S8x4096x8x128) shapeCasts_S8x4096x8x128_S8x32x128x2x4x128)) transposes_S8x32x2x384x128x4_S8x32x2x4x128x384_0_1_2_5_4_3) (broadcastInDim S8x32x2x4x128x384 ![] bcast_S_S8x32x2x4x128x384 (constant S_ .f32 0x3DB504F3#32))

/-- The scores: the scaled products, and minus infinity where the key may not be seen. -/
def scores (q : FVec F S8x4096x1024 .bf16) (k : FVec F S8x4096x256 .bf16) : FVec F S8x32x2x4x128x384 .f32 :=
  select (broadcastInDim S8x32x2x4x128x384 ![0, 1, 2, 3, 4, 5] bcast_S1x32x1x1x128x384_S8x32x2x4x128x384_0_1_2_3_4_5 (broadcastInDim S1x32x1x1x128x384 ![1, 4, 5] bcast_S32x128x384_S1x32x1x1x128x384_1_4_5 valid)) (logits q k) (broadcastInDim S8x32x2x4x128x384 ![] bcast_S_S8x32x2x4x128x384 (id (constant S_ .f32 0xFF800000#32)))

/-- The sink logit of every row. -/
def sinks (sink : FVec F S8 .f32) : FVec F S8x32x2x4x128x1 .f32 :=
  broadcastInDim S8x32x2x4x128x1 ![0, 1, 2, 3, 4, 5] bcast_S1x1x2x4x1x1_S8x32x2x4x128x1_0_1_2_3_4_5 (broadcastInDim S1x1x2x4x1x1 ![2, 3] bcast_S2x4_S1x1x2x4x1x1_2_3 (shapeCast _ sink shapeCasts_S8_S2x4))

/-- The largest score of every row. -/
def maxes (S : FVec F S8x32x2x4x128x384 .f32) : FVec F S8x32x2x4x128 .f32 :=
  Host.reduce FloatOps.maximumf S (constant S_ .f32 0xFF800000#32) reducesTo_S8x32x2x4x128x384_S8x32x2x4x128_d5 h_S_

/-- The sum of every row. -/
def sums (E : FVec F S8x32x2x4x128x384 .f32) : FVec F S8x32x2x4x128 .f32 :=
  Host.reduceAdd E (constant S_ .f32 0x00000000#32) reducesTo_S8x32x2x4x128x384_S8x32x2x4x128_d5 h_S_

/-- The shift of every row: the largest of its scores and its sink. -/
def shifts (S : FVec F S8x32x2x4x128x384 .f32) (sink : FVec F S8 .f32) : FVec F S8x32x2x4x128x1 .f32 :=
  maximumf (broadcastInDim S8x32x2x4x128x1 ![0, 1, 2, 3, 4] bcast_S8x32x2x4x128_S8x32x2x4x128x1_0_1_2_3_4 (maxes S)) (sinks sink)

/-- The shifted scores' exponentials. -/
def exps (S : FVec F S8x32x2x4x128x384 .f32) (sink : FVec F S8 .f32) : FVec F S8x32x2x4x128x384 .f32 :=
  Host.exp (subf S (broadcastInDim S8x32x2x4x128x384 ![0, 1, 2, 3, 4, 5] bcast_S8x32x2x4x128x1_S8x32x2x4x128x384_0_1_2_3_4_5 (shifts S sink)))

/-- The denominator of every row. -/
def dens (S : FVec F S8x32x2x4x128x384 .f32) (sink : FVec F S8 .f32) : FVec F S8x32x2x4x128x1 .f32 :=
  addf (broadcastInDim S8x32x2x4x128x1 ![0, 1, 2, 3, 4] bcast_S8x32x2x4x128_S8x32x2x4x128x1_0_1_2_3_4 (sums (exps S sink))) (Host.exp (subf (sinks sink) (shifts S sink)))

/-- The softmax weights. -/
def weights (S : FVec F S8x32x2x4x128x384 .f32) (sink : FVec F S8 .f32) : FVec F S8x32x2x4x128x384 .f32 :=
  Host.divf (exps S sink) (broadcastInDim S8x32x2x4x128x384 ![0, 1, 2, 3, 4, 5] bcast_S8x32x2x4x128x1_S8x32x2x4x128x384_0_1_2_3_4_5 (dens S sink))

/-- The attention's result. -/
def result (q : FVec F S8x4096x1024 .bf16) (k v : FVec F S8x4096x256 .bf16) (sink : FVec F S8 .f32) : FVec F S8x4096x1024 .bf16 :=
  truncf .bf16 (shapeCast _ (transpose S8x32x128x2x4x128 [0, 1, 5, 2, 4, 3] (Host.dotGeneral dot_S8x32x384x2x128_S8x32x2x4x128x384_S8x32x2x128x4x128_2_5_4_34_013_012 none (windows v) (weights (scores q k) sink)) transposes_S8x32x2x128x4x128_S8x32x128x2x4x128_0_1_5_2_4_3) shapeCasts_S8x32x128x2x4x128_S8x4096x1024) bitsLt_bf16_f32

/-- The run's result is this result of the arguments. -/
theorem res_eq (m : (ℓ : Loc nD τ sig) → Buf (Elt F) ℓ) (c : Dev nD) :
    Value.res_out0 m c = result (m ((c.tc : Thread nD τ).loc main_arg0)) (m ((c.tc : Thread nD τ).loc main_arg1)) (m ((c.tc : Thread nD τ).loc main_arg2)) (m ((c.tc : Thread nD τ).loc main_arg3)) := by
  unfold Value.res_out0 Value.res_main_v77
  rfl

/-- The index of a row that lies above a row's index is that row's with the reduced coordinate. -/
theorem fiber (b : Fin 8) (n : Fin 32) (kv : Fin 2) (g : Fin 4) (r : Fin 128) (i : S8x32x2x4x128x384.Idx) :
    (reducesTo_S8x32x2x4x128x384_S8x32x2x4x128_d5).drop i = ix5 b n kv g r ↔ ∃ s : Fin 384, ix6 b n kv g r s = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨s, rfl⟩
    funext a; apply Fin.ext
    match a with
    | ⟨0, _⟩ => rfl
    | ⟨1, _⟩ => rfl
    | ⟨2, _⟩ => rfl
    | ⟨3, _⟩ => rfl
    | ⟨4, _⟩ => rfl

/-- The largest score of a row. -/
theorem maxes_at (S : FVec Ideal S8x32x2x4x128x384 .f32) (b : Fin 8) (n : Fin 32) (kv : Fin 2) (g : Fin 4) (r : Fin 128) :
    maxes S (ix5 b n kv g r) = Finset.univ.fold max (⊥ : EReal) (fun s : Fin 384 => S (ix6 b n kv g r s)) := by
  unfold maxes
  refine (Host.reduce_eq_fold _ _ _ _ _ _).trans ?_
  rw [← Cert.Attn.word_bot]
  exact Finset.fold_filter_eq_fold_of_fiber _ _ (fun s : Fin 384 => ix6 b n kv g r s) (fun _ _ e => congrFun e 5) (fiber b n kv g r) _ _

/-- The sum of a row. -/
theorem sums_at (E : FVec Ideal S8x32x2x4x128x384 .f32) (b : Fin 8) (n : Fin 32) (kv : Fin 2) (g : Fin 4) (r : Fin 128) :
    sums E (ix5 b n kv g r) = ∑ s : Fin 384, E (ix6 b n kv g r s) := by
  have e : (constant (F := Ideal) S_ .f32 0x00000000#32) (Shape.Idx.first h_S_) = (0 : EReal) := by pointwise []
  have e' := (fiber b n kv g r)
  unfold sums
  refine (ValueIdx.hostReduceAdd_apply _ _ _ _ _).trans ?_
  unfold Ideal.hostReduceAdd
  rw [e, zero_add]
  exact Finset.sum_filter_eq_sum_of_fiber _ (fun s : Fin 384 => ix6 b n kv g r s) (fun _ _ e => congrFun e 5) e' _

/-- A row's sink logit. -/
theorem sinks_at (sink : FVec Ideal S8 .f32) (b : Fin 8) (n : Fin 32) (kv : Fin 2) (g : Fin 4) (r : Fin 128) :
    sinks sink (ix6 b n kv g r 0) = sink (ix1 ⟨kv * 4 + g, by omega⟩) := by
  pointwise [sinks]

/-- A number per row as a column beside the scores. -/
theorem column_at (M : FVec Ideal S8x32x2x4x128 .f32) (b : Fin 8) (n : Fin 32) (kv : Fin 2) (g : Fin 4) (r : Fin 128) (z : Fin 1) :
    (broadcastInDim S8x32x2x4x128x1 ![0, 1, 2, 3, 4] bcast_S8x32x2x4x128_S8x32x2x4x128x1_0_1_2_3_4 M : FVec Ideal S8x32x2x4x128x1 .f32) (ix6 b n kv g r z) = M (ix5 b n kv g r) := by
  pointwise []

/-- The larger of two arrays, at an index. -/
theorem max_at (M N : FVec Ideal S8x32x2x4x128x1 .f32) (i) : maximumf M N i = (max (M i) (N i) : EReal) := rfl

/-- The shift of a row. -/
theorem shifts_at (S : FVec Ideal S8x32x2x4x128x384 .f32) (sink : FVec Ideal S8 .f32) (b : Fin 8) (n : Fin 32) (kv : Fin 2) (g : Fin 4) (r : Fin 128) :
    shifts S sink (ix6 b n kv g r 0) = Cert.Attn.peak (fun s => S (ix6 b n kv g r s)) (sink (ix1 ⟨kv * 4 + g, by omega⟩)) := by
  unfold shifts
  rw [max_at, column_at, sinks_at, maxes_at, Cert.Attn.peak]

/-- A weight of a row. -/
theorem weights_at (S : FVec Ideal S8x32x2x4x128x384 .f32) (sink : FVec Ideal S8 .f32) (b : Fin 8) (n : Fin 32) (kv : Fin 2) (g : Fin 4) (r : Fin 128) (s : Fin 384) :
    weights S sink (ix6 b n kv g r s)
      = Ideal.div (Ideal.exp (S (ix6 b n kv g r s) - Cert.Attn.peak (fun s => S (ix6 b n kv g r s)) (sink (ix1 ⟨kv * 4 + g, by omega⟩))))
          (Cert.Attn.denom (fun s => S (ix6 b n kv g r s)) (sink (ix1 ⟨kv * 4 + g, by omega⟩))) := by
  pointwise [weights, exps, dens, sinks, sums_at, shifts_at, Cert.Attn.denom]

/-- Whether the query at row `r` of block `n` sees the window's key `s`, in numbers. -/
def Sees (n : Fin 32) (r : Fin 128) (s : Fin 384) : Prop :=
  (r : ℕ) ≤ s ∧ (s : ℕ) ≤ r + 256 ∧ 128 ≤ n * 128 + (s : ℕ) ∧ n * 128 + (s : ℕ) < 4224

instance (n : Fin 32) (r : Fin 128) (s : Fin 384) : Decidable (Sees n r s) := inferInstanceAs (Decidable (_ ∧ _))

/-- The key's place in the sequence (only asked where the key is seen). -/
def place (n : Fin 32) (s : Fin 384) : Fin 4096 := ⟨min (n * 128 + (s : ℕ) - 128) 4095, by omega⟩

/-- Whether the query sees the key. -/
theorem valid_at (n : Fin 32) (r : Fin 128) (s : Fin 384) :
    valid (ix3 n r s) = BitVec.ofBool (decide (Sees n r s)) := by
  pointwise [valid, near, keyPos]
  exact Cert.Attn.mask_word (n * 128) s r _ (Cert.Attn.block_word n (by omega)) (by omega) (by omega) (by omega)

/-- The window's entry is the sequence's, where the key is in the sequence. -/
theorem windows_at (x : FVec Ideal S8x4096x256 .bf16) (b : Fin 8) (n : Fin 32) (s : Fin 384) (kv : Fin 2) (d : Fin 128)
    (h : 128 ≤ n * 128 + (s : ℕ) ∧ n * 128 + (s : ℕ) < 4224) :
    windows x (ix5 b n s kv d) = x (ix3 b (place n s) ⟨kv * 128 + d, by omega⟩) := by
  obtain ⟨h1, h2⟩ := h
  pointwise [windows, padded, place]
  have e : min ((n : ℕ) * 128 + (s : ℕ) - 128) 4095 = n * 128 + s - 128 := by omega
  by_cases c1 : (s : ℕ) < 128
  · rw [dif_pos c1, dif_pos (by omega)]
    exact congrArg x (congrArg (fun a => ix3 b a _) (Fin.ext e.symm))
  · rw [dif_neg c1]
    by_cases c2 : (s : ℕ) - 128 < 128
    · rw [dif_pos c2, dif_pos (by omega)]
      exact congrArg x (congrArg (fun a => ix3 b a _) (Fin.ext (by simp only; omega)))
    · rw [dif_neg c2, dif_pos (by omega)]
      exact congrArg x (congrArg (fun a => ix3 b a _) (Fin.ext (by simp only; omega)))

/-- The score of a query and a key. -/
def score (q : FVec Ideal S8x4096x1024 .bf16) (k : FVec Ideal S8x4096x256 .bf16) (b : Fin 8) (n : Fin 32) (kv : Fin 2) (g : Fin 4) (r : Fin 128) (s : Fin 384) : EReal :=
  if Sees n r s then
    (∑ d : Fin 128, k (ix3 b (place n s) ⟨kv * 128 + d, by omega⟩) * q (ix3 b ⟨n * 128 + r, by omega⟩ ⟨kv * 512 + g * 128 + d, by omega⟩)) * Ideal.ofBits .f32 0x3DB504F3#32
  else ⊥

/-- A masked score. -/
theorem scores_at (q : FVec Ideal S8x4096x1024 .bf16) (k : FVec Ideal S8x4096x256 .bf16) (b : Fin 8) (n : Fin 32) (kv : Fin 2) (g : Fin 4) (r : Fin 128) (s : Fin 384) :
    scores q k (ix6 b n kv g r s) = score q k b n kv g r s := by
  pointwise [scores, logits, valid_at]
  unfold score
  by_cases h : Sees n r s
  · rw [if_pos h, if_pos h]
    simp only [windows_at _ _ _ _ _ _ h.2.2]
  · rw [if_neg h, if_neg h]
    exact Cert.Attn.word_bot

/-- The reference's result at an index. -/
theorem result_at (q : FVec Ideal S8x4096x1024 .bf16) (k v : FVec Ideal S8x4096x256 .bf16) (sink : FVec Ideal S8 .f32) (b : Fin 8) (n : Fin 32) (kv : Fin 2) (g : Fin 4) (r : Fin 128) (d : Fin 128) :
    result q k v sink (ix3 b ⟨n * 128 + r, by omega⟩ ⟨kv * 512 + g * 128 + d, by omega⟩)
      = Cert.Attn.outFirst (score q k b n kv g r) (fun s => windows v (ix5 b n s kv d)) (sink (ix1 ⟨kv * 4 + g, by omega⟩)) := by
  pointwise [result, weights_at, scores_at, Cert.Attn.outFirst]
  exact Finset.sum_congr rfl fun _ _ => mul_comm _ _

end Cert.ReferenceIdeal.Attn

end
-- ==== Proof.Attn.Kernel.lean ====
/- What one piece of the attention kernel's block computes, read at an index. The kernel's block holds sixteen
   pieces, one for each of two query blocks and eight heads; each is `piece` at its slices of the keys and values. -/
module

public import proofs.«01_k».proof.Proof.Attn.Math
public import proofs.«01_k».proof.Proof.Attn.Mask
public import proofs.«01_k».proof.Proof.Attn.Ref
public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen Cert.KernelIdeal.Value Idealize.ShloMosaic Idealize.ShloMosaic.TcCoe Idealize.SL.Sem Idealize.ShloMosaic.Pipeline

variable {F : FTy → Type} [FloatOps F]

/-- The scores of one piece: 128 queries against 384 keys, scaled, with the mask added. -/
def logits (kk : FVec F S384x128 .bf16) (bias : FVec F S128x384 .f32) (qv : Vec F S1x128x128 .bf16) : FVec F S128x384 .f32 :=
  addf (mulf (matmul dot_S128x128_S384x128_S128x384_1_1_0_0_n_n none (shapeCast S128x128 qv shapeCasts_S1x128x128_S128x128) kk (constant S128x384 .f32 0x00000000#32)) (broadcast S128x384 (Scalar.ofBits .f32 0x3DB504F3#32))) bias

/-- The shift of each row. -/
def shift (S : FVec F S128x384 .f32) (sink : Elt F .f32) : FVec F S128x1 .f32 :=
  maximumf (shapeCast S128x1 (multiReduction .maximumf [1] S128 S 0xFF800000#32 reduces_S128x384_S128 (.inl rfl) rfl) shapeCasts_S128_S128x1) (broadcast S128x1 sink)

/-- The exponentials of the shifted scores. -/
def exps (S : FVec F S128x384 .f32) (sink : Elt F .f32) : FVec F S128x384 .f32 :=
  exp (subf S (broadcastTo S128x384 (shift S sink) broadcasts_S128x1_S128x384))

/-- The denominator of each row. -/
def dens (S : FVec F S128x384 .f32) (sink : Elt F .f32) : FVec F S128x1 .f32 :=
  addf (shapeCast S128x1 (multiReduction .add [1] S128 (exps S sink) 0x00000000#32 reduces_S128x384_S128 (.inl rfl) rfl) shapeCasts_S128_S128x1) (exp (subf (broadcast S128x1 sink) (shift S sink)))

/-- The piece: the weighted values, divided by the denominators. -/
def mix (S : FVec F S128x384 .f32) (vv : FVec F S384x128 .bf16) (sink : Elt F .f32) : FVec F S1x128x128 .bf16 :=
  shapeCast S1x128x128 (truncf .bf16 (divf (matmul dot_S128x384_S384x128_S128x128_1_0_0_1_n_n none (truncf .bf16 (exps S sink) bitsLt_bf16_f32) vv (constant S128x128 .f32 0x00000000#32)) (broadcastTo S128x128 (dens S sink) broadcasts_S128x1_S128x128)) bitsLt_bf16_f32) shapeCasts_S128x128_S1x128x128

/-- A score at an index. -/
theorem logits_at (kk : FVec Ideal S384x128 .bf16) (bias : FVec Ideal S128x384 .f32) (qv : Vec Ideal S1x128x128 .bf16) (r : Fin 128) (s : Fin 384) :
    logits kk bias qv (ix2 r s) = (∑ d : Fin 128, qv (ix3 0 r d) * kk (ix2 s d)) * Ideal.ofBits .f32 0x3DB504F3#32 + bias (ix2 r s) := by
  pointwise [logits]

/-- The shift at a row. -/
theorem shift_at (S : FVec Ideal S128x384 .f32) (sink : EReal) (r : Fin 128) :
    shift (F := Ideal) S sink (ix2 r 0) = Cert.Attn.peak (fun s => S (ix2 r s)) sink := by
  pointwise [shift, Cert.Attn.peak, Cert.Attn.word_bot]

/-- The denominator at a row. -/
theorem dens_at (S : FVec Ideal S128x384 .f32) (sink : EReal) (r : Fin 128) :
    dens (F := Ideal) S sink (ix2 r 0) = Cert.Attn.denom (fun s => S (ix2 r s)) sink := by
  pointwise [dens, exps, shift_at, Cert.Attn.denom]

/-- The piece at an index: a softmax row, divided last. -/
theorem mix_at (S : FVec Ideal S128x384 .f32) (vv : FVec Ideal S384x128 .bf16) (sink : EReal) (r d : Fin 128) :
    mix (F := Ideal) S vv sink (ix3 0 r d) = Cert.Attn.outLast (fun s => S (ix2 r s)) (fun s => vv (ix2 s d)) sink := by
  pointwise [mix, dens_at, exps, shift_at, Cert.Attn.outLast]

/-- The query block's first position, as the kernel's words compute it. -/
theorem origin_word (a j : ℕ) (ha : a < 16) (hj : j < 2) :
    Scalar.muli (Scalar.addi (Scalar.muli (BitVec.ofNat 32 a) 2#32) (BitVec.ofNat 32 j)) 128#32 = BitVec.ofNat 32 ((a * 2 + j) * 128) := by
  apply BitVec.eq_of_toNat_eq
  simp only [Scalar.muli, Scalar.addi, IntOp.muli, IntOp.addi, BitVec.toNat_mul, BitVec.toNat_add, BitVec.toNat_ofNat]
  omega

/-- The mask to be added to a score: nothing where the key is seen, minus infinity where it is not. -/
def bias (n : ℕ) (r : Fin 128) (s : Fin 384) : EReal :=
  if (r : ℕ) ≤ s ∧ (s : ℕ) ≤ r + 256 ∧ 128 ≤ n * 128 + (s : ℕ) ∧ n * 128 + (s : ℕ) < 4224 then 0 else ⊥

/-- A selection on a decided bit. -/
theorem select_bit (p : Prop) [Decidable p] (a b : EReal) : Scalar.select (BitVec.ofBool (decide p)) a b = if p then a else b := by
  by_cases h : p
  · rw [if_pos h, decide_eq_true h]; rfl
  · rw [if_neg h, decide_eq_false h]; rfl

/-- The first query block's mask at an index. -/
theorem bias0_at (i : grid0.Coords) (r : Fin 128) (s : Fin 384) :
    k0_pay6 (F := Ideal) (k0_pay4 i) (k0_pay5 i) 4096#32 (ix2 r s) = bias ((i 1 : ℕ) * 2 + 0) r s := by
  have hi : (i 1 : ℕ) < 16 := (i 1).isLt
  pointwise [k0_pay6, k0_pay5, k0_pay4, k0_pay3]
  rw [Cert.Attn.mask_word _ s r _ (origin_word (i 1) 0 hi (by omega)) (by omega) (by omega) (by omega), select_bit, Cert.Attn.word_bot]
  rfl

/-- The second query block's mask at an index. -/
theorem bias1_at (i : grid0.Coords) (r : Fin 128) (s : Fin 384) :
    k0_pay7 (F := Ideal) (BitVec.ofNat 32 (i 1).val) (iota .tc S128x384 32 [1] iota_S128x384_d1_w32) k0_pay3 (ix2 r s) = bias ((i 1 : ℕ) * 2 + 1) r s := by
  have hi : (i 1 : ℕ) < 16 := (i 1).isLt
  pointwise [k0_pay7, k0_pay3]
  rw [Cert.Attn.mask_word _ s r _ (origin_word (i 1) 1 hi (by omega)) (by omega) (by omega) (by omega), select_bit, Cert.Attn.word_bot]
  rfl

variable (m : (ℓ : Loc nD τ sig) → Buf (Elt Ideal) ℓ)

/-- Where each window's block lies, at every grid point. -/
theorem idx : ∀ t : Fin cfg0.N,
    win0_0.index t 0 = 0
    ∧ win0_1.index t 0 = t.val / 16 ∧ win0_1.index t 1 = t.val % 16 ∧ win0_1.index t 2 = 0
    ∧ win0_2.index t 0 = t.val / 16 ∧ win0_2.index t 1 = t.val % 16 * 2 - 1 ∧ win0_2.index t 2 = 0
    ∧ win0_3.index t 0 = t.val / 16 ∧ win0_3.index t 1 = t.val % 16 ∧ win0_3.index t 2 = 0
    ∧ win0_4.index t 0 = t.val / 16 ∧ win0_4.index t 1 = min (t.val % 16 * 2 + 2) 31 ∧ win0_4.index t 2 = 0
    ∧ win0_5.index t 0 = t.val / 16 ∧ win0_5.index t 1 = t.val % 16 * 2 - 1 ∧ win0_5.index t 2 = 0
    ∧ win0_6.index t 0 = t.val / 16 ∧ win0_6.index t 1 = t.val % 16 ∧ win0_6.index t 2 = 0
    ∧ win0_7.index t 0 = t.val / 16 ∧ win0_7.index t 1 = min (t.val % 16 * 2 + 2) 31 ∧ win0_7.index t 2 = 0
    ∧ win0_8.index t 0 = t.val / 16 ∧ win0_8.index t 1 = t.val % 16 ∧ win0_8.index t 2 = 0
    ∧ (grid0.coords t 1 : ℕ) = t.val % 16 := by
  decide +kernel

/-- The window of keys that a grid point sees. -/
def keys (c : Dev nD) (t : Fin cfg0.N) : FVec Ideal S512x256 .bf16 := k0_pay1 (iblk m c 2 t) (iblk m c 3 t) (iblk m c 4 t)

/-- The window of values that a grid point sees. -/
def vals (c : Dev nD) (t : Fin cfg0.N) : FVec Ideal S512x256 .bf16 := k0_pay2 (iblk m c 5 t) (iblk m c 6 t) (iblk m c 7 t)

/-- The queries' array. -/
abbrev argQ (c : Dev nD) : FVec Ideal S8x4096x1024 .bf16 := m ((c.tc : Thread nD τ).loc main_arg0)
/-- The keys' array. -/
abbrev argK (c : Dev nD) : FVec Ideal S8x4096x256 .bf16 := m ((c.tc : Thread nD τ).loc main_arg1)
/-- The values' array. -/
abbrev argV (c : Dev nD) : FVec Ideal S8x4096x256 .bf16 := m ((c.tc : Thread nD τ).loc main_arg2)
/-- The sinks' array. -/
abbrev argS (c : Dev nD) : FVec Ideal S8 .f32 := m ((c.tc : Thread nD τ).loc main_arg3)

/-- A slice of a window at an index. -/
theorem slice_at (o1 o2 : ℕ) (h) (W : FVec Ideal S512x256 .bf16) (s : Fin 384) (d : Fin 128) (h1 : o1 + (s : ℕ) < 512) (h2 : o2 + (d : ℕ) < 256) :
    extractStridedSlice S384x128 ![o1, o2] W h (ix2 s d) = W (ix2 ⟨o1 + s, h1⟩ ⟨o2 + d, h2⟩) := by
  pointwise []

/-- A key of the window that lies in the sequence. -/
theorem keys_at (c : Dev nD) (t : Fin cfg0.N) (a : Fin 512) (d : Fin 256) (h1 : 128 ≤ t.val % 16 * 256 + (a : ℕ)) (h2 : t.val % 16 * 256 + (a : ℕ) < 4224) (hb : t.val / 16 < 8) :
    keys m c t (ix2 a d) = argK m c (ix3 ⟨t.val / 16, hb⟩ ⟨t.val % 16 * 256 + a - 128, by omega⟩ d) := by
  unfold keys
  pointwise [k0_pay1]
  blk_point [iblk, V, idx t]

/-- A value of the window that lies in the sequence. -/
theorem vals_at (c : Dev nD) (t : Fin cfg0.N) (a : Fin 512) (d : Fin 256) (h1 : 128 ≤ t.val % 16 * 256 + (a : ℕ)) (h2 : t.val % 16 * 256 + (a : ℕ) < 4224) (hb : t.val / 16 < 8) :
    vals m c t (ix2 a d) = argV m c (ix3 ⟨t.val / 16, hb⟩ ⟨t.val % 16 * 256 + a - 128, by omega⟩ d) := by
  unfold vals
  pointwise [k0_pay2]
  blk_point [iblk, V, idx t]

/-- A query of the block. -/
theorem query_at (c : Dev nD) (t : Fin cfg0.N) (o1 o2 : ℕ) (h) (r d : Fin 128) (h1 : o1 + (r : ℕ) < 256) (h2 : o2 + (d : ℕ) < 1024) (hb : t.val / 16 < 8) :
    View.ld (iblk m c 1 t) (Rect.unit (s := S1x256x1024) ![0, o1, o2] S1x128x128.size h) (ix3 0 r d)
      = argQ m c (ix3 ⟨t.val / 16, hb⟩ ⟨t.val % 16 * 256 + (o1 + r), by omega⟩ ⟨o2 + d, h2⟩) := by
  pointwise []
  blk_point [iblk, V, idx t]

/-- The head's sink. -/
theorem sink_at (c : Dev nD) (t : Fin cfg0.N) (o : ℕ) (h) (x) (h1 : o < 8) :
    View.ld (iblk m c 0 t) (Rect.unit (s := S8) ![o] S1.size h) x = argS m c (ix1 ⟨o, h1⟩) := by
  pointwise []
  blk_point [iblk, V, idx t]

end Cert.KernelIdeal.Attn

end
-- ==== Proof.Attn.Final.lean ====
/- The attention kernel's array is the reference's result: each of the sixteen pieces of each block is one softmax
   row's output for every row and lane, and the blocks cover the array. -/
module

public import proofs.«01_k».proof.Proof.Attn.Kernel

@[expose] public section

set_option maxRecDepth 16384

noncomputable section

namespace Cert.KernelIdeal.Attn

open Cert.KernelIdeal Cert.KernelIdeal.Gen Cert.KernelIdeal.Value Idealize.ShloMosaic Idealize.ShloMosaic.TcCoe Idealize.SL.Sem Idealize.ShloMosaic.Pipeline
open Cert.ReferenceIdeal.Attn (Sees place score result windows_at result_at)

variable (m : (ℓ : Loc nD τ sig) → Buf (Elt Ideal) ℓ)

/-- Being a real number, of an extended one. -/
def IsReal (x : EReal) : Prop := ∃ r : ℝ, x = r

/-- A product of real numbers is one. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is one. -/
theorem IsReal.sum {n : ℕ} (f : Fin n → EReal) (h : ∀ i, IsReal (f i)) : IsReal (∑ i, f i) := by
  choose g hg using h
  refine ⟨∑ i, g i, ?_⟩
  rw [Finset.sum_congr rfl fun i _ => hg i]
  exact (map_sum (⟨⟨Real.toEReal, EReal.coe_zero⟩, EReal.coe_add⟩ : ℝ →+ EReal) g Finset.univ).symm

/-- A real number is not the greatest extended one. -/
theorem IsReal.ne_top {x : EReal} (hx : IsReal x) : x ≠ ⊤ := by obtain ⟨a, rfl⟩ := hx; exact EReal.coe_ne_top a
/-- A real number is not the least extended one. -/
theorem IsReal.ne_bot {x : EReal} (hx : IsReal x) : x ≠ ⊥ := by obtain ⟨a, rfl⟩ := hx; exact EReal.coe_ne_bot a

/-- The scale is a real number. -/
theorem scale_real : IsReal (Ideal.ofBits .f32 0x3DB504F3#32) := by
  show IsReal (Ideal.ieee 8 23 (0x3DB504F3#32 : BitVec 32))
  unfold Ideal.ieee
  dsimp only
  rw [if_neg (by decide), if_neg (by decide)]
  exact ⟨_, rfl⟩

/-- The scores of real queries and keys are never `⊤`. -/
theorem score_ne_top (q : FVec Ideal Cert.ReferenceIdeal.S8x4096x1024 .bf16) (k : FVec Ideal Cert.ReferenceIdeal.S8x4096x256 .bf16)
    (hq : ∀ i, IsReal (q i)) (hk : ∀ i, IsReal (k i)) (b : Fin 8) (n : Fin 32) (kv : Fin 2) (g : Fin 4) (r : Fin 128) (s : Fin 384) :
    score q k b n kv g r s ≠ ⊤ := by
  unfold score
  split
  · exact (IsReal.mul (IsReal.sum _ fun d => (hk _).mul (hq _)) scale_real).ne_top
  · exact bot_ne_top

/-- Two indices with equal coordinates. -/
theorem key_ix {a b c : ℕ} {i : Fin a} {j j' : Fin b} {k k' : Fin c} (hj : (j : ℕ) = j') (hk : (k : ℕ) = k') : ix3 i j k = ix3 i j' k' := by
  rw [Fin.ext hj, Fin.ext hk]

/-- ONE PIECE: query block `j`, head `(kv, g)`, at the piece's own index `x`, is the reference's result at `i`. -/
theorem core (c : Dev nD) (hq : ∀ i, IsReal (argQ m c i)) (hk : ∀ i, IsReal (argK m c i)) (hs : ∀ i, IsReal (argS m c i))
    (t : Fin cfg0.N) (j kv g o1 o2 o3 o4 : ℕ) (hj : j < 2) (hkv : kv < 2) (hg : g < 4)
    (e1 : o1 = 128 * j) (e2 : o2 = 128 * kv) (e3 : o3 = 512 * kv + 128 * g) (e4 : o4 = 4 * kv + g)
    (B : FVec Ideal S128x384 .f32) (hB : ∀ r s, B (ix2 r s) = bias (t.val % 16 * 2 + j) r s)
    (hk' hv' hq' hs' y) (x : S1x128x128.Idx) (i : S8x4096x1024.Idx)
    (hi0 : (i 0 : ℕ) = t.val / 16) (hi1 : (i 1 : ℕ) = t.val % 16 * 256 + (o1 + x 1)) (hi2 : (i 2 : ℕ) = o3 + x 2) :
    mix (F := Ideal) (logits (extractStridedSlice S384x128 ![o1, o2] (keys m c t) hk') B (View.ld (iblk m c 1 t) (Rect.unit (s := S1x256x1024) ![0, o1, o3] S1x128x128.size hq')))
        (extractStridedSlice S384x128 ![o1, o2] (vals m c t) hv') (View.ld (iblk m c 0 t) (Rect.unit (s := S8) ![o4] S1.size hs') y) x
      = result (argQ m c) (argK m c) (argV m c) (argS m c) i := by
  subst e1 e2 e3 e4
  have ht : t.val < 128 := t.isLt
  idx_vars x
  rename' x0 => z, x1 => r, x2 => d
  have hr : (r : ℕ) < 128 := r.isLt
  have hd : (d : ℕ) < 128 := d.isLt
  have hb : t.val / 16 < 8 := by omega
  have ei : i = ix3 (⟨t.val / 16, hb⟩ : Fin 8) (⟨(⟨t.val % 16 * 2 + j, by omega⟩ : Fin 32) * 128 + r, by simp only; omega⟩ : Fin 4096)
      (⟨(⟨kv, hkv⟩ : Fin 2) * 512 + (⟨g, hg⟩ : Fin 4) * 128 + d, by simp only; omega⟩ : Fin 1024) := by
    funext a; apply Fin.ext
    match a with
    | ⟨0, _⟩ => exact hi0
    | ⟨1, _⟩ => refine hi1.trans ?_; show t.val % 16 * 256 + (128 * j + (r : ℕ)) = (t.val % 16 * 2 + j) * 128 + (r : ℕ); omega
    | ⟨2, _⟩ => refine hi2.trans ?_; show 512 * kv + 128 * g + (d : ℕ) = kv * 512 + g * 128 + (d : ℕ); omega
  have ez : z = 0 := Subsingleton.elim _ _
  subst ez
  rw [ei, result_at, mix_at, sink_at m c t _ _ _ (by omega : 4 * kv + g < 8)]
  have hS : ∀ s : Fin 384, logits (F := Ideal) (extractStridedSlice S384x128 ![128 * j, 128 * kv] (keys m c t) hk') B (View.ld (iblk m c 1 t) (Rect.unit (s := S1x256x1024) ![0, 128 * j, 512 * kv + 128 * g] S1x128x128.size hq')) (ix2 r s)
      = score (argQ m c) (argK m c) ⟨t.val / 16, hb⟩ ⟨t.val % 16 * 2 + j, by omega⟩ ⟨kv, hkv⟩ ⟨g, hg⟩ r s := by
    intro s
    rw [logits_at, hB, score, show bias (t.val % 16 * 2 + j) r s = if Sees ⟨t.val % 16 * 2 + j, by omega⟩ r s then 0 else ⊥ from rfl]
    by_cases h : Sees ⟨t.val % 16 * 2 + j, by omega⟩ r s
    · rw [if_pos h, if_pos h, add_zero]
      refine congrArg (· * _) (Finset.sum_congr rfl fun d' _ => ?_)
      rw [slice_at _ _ _ _ _ _ (by omega) (by omega), query_at m c t _ _ _ _ _ (by omega) (by omega) hb]
      have hp : 128 ≤ (t.val % 16 * 2 + j) * 128 + (s : ℕ) ∧ (t.val % 16 * 2 + j) * 128 + (s : ℕ) < 4224 := h.2.2
      have hs' : (s : ℕ) < 384 := s.isLt
      have e1 : 128 ≤ t.val % 16 * 256 + (128 * j + (s : ℕ)) := by omega
      have e2 : t.val % 16 * 256 + (128 * j + (s : ℕ)) < 4224 := by omega
      have e3 : t.val % 16 * 256 + (128 * j + (s : ℕ)) - 128 = min ((t.val % 16 * 2 + j) * 128 + (s : ℕ) - 128) 4095 := by omega
      rw [keys_at m c t _ _ e1 e2 hb, mul_comm]
      refine congrArg₂ (· * ·) (congrArg (argK m c) ?_) (congrArg (argQ m c) ?_)
      · refine key_ix e3 ?_
        show 128 * kv + (d' : ℕ) = kv * 128 + (d' : ℕ); omega
      · refine key_ix ?_ ?_
        · show t.val % 16 * 256 + (128 * j + (r : ℕ)) = (t.val % 16 * 2 + j) * 128 + (r : ℕ); omega
        · show 512 * kv + 128 * g + (d' : ℕ) = kv * 512 + g * 128 + (d' : ℕ); omega
    · rw [if_neg h, if_neg h, EReal.add_bot]
  simp only [hS]
  rw [show (argS m c (ix1 ⟨4 * kv + g, by omega⟩)) = argS m c (ix1 ⟨(⟨kv, hkv⟩ : Fin 2) * 4 + (⟨g, hg⟩ : Fin 4), by simp only; omega⟩) from congrArg (fun x => argS m c (ix1 x)) (Fin.ext (by simp only; omega))]
  refine Cert.Attn.outLast_eq_outFirst _ _ _ _ (hs _).ne_bot (hs _).ne_top (fun s => score_ne_top _ _ hq hk _ _ _ _ _ _) fun s => ?_
  by_cases h : Sees ⟨t.val % 16 * 2 + j, by omega⟩ r s
  · right
    have hp : 128 ≤ (t.val % 16 * 2 + j) * 128 + (s : ℕ) ∧ (t.val % 16 * 2 + j) * 128 + (s : ℕ) < 4224 := h.2.2
    have hs' : (s : ℕ) < 384 := s.isLt
    have e1 : 128 ≤ t.val % 16 * 256 + (128 * j + (s : ℕ)) := by omega
    have e2 : t.val % 16 * 256 + (128 * j + (s : ℕ)) < 4224 := by omega
    have e3 : t.val % 16 * 256 + (128 * j + (s : ℕ)) - 128 = min ((t.val % 16 * 2 + j) * 128 + (s : ℕ) - 128) 4095 := by omega
    rw [slice_at _ _ _ _ _ _ (by omega) (by omega), windows_at _ _ _ _ _ _ h.2.2, vals_at m c t _ _ e1 e2 hb]
    refine congrArg (argV m c) (key_ix e3 ?_)
    show 128 * kv + (d : ℕ) = kv * 128 + (d : ℕ); omega
  · left
    rw [score, if_neg h]

/-- THE ARRAY: what the launch leaves is the reference's result. -/
theorem final (c : Dev nD) (hq : ∀ i, IsReal (argQ m c i)) (hk : ∀ i, IsReal (argK m c i)) (hs : ∀ i, IsReal (argS m c i)) :
    (dats m 0 c).arrAt 8 (cfgs 0).N = result (argQ m c) (argK m c) (argV m c) (argS m c) := by
  refine (dats m 0 c).arrAt_eq_of_covers 8 _ (by decide +kernel) (fun t hf y => ?_)
  have k0 : (((cfg0.win 8).blk t).view.emb y 0 : ℕ) = t.val / 16 := by
    have := (y 0).isLt
    blk_simp [idx t]
  have k1 : (((cfg0.win 8).blk t).view.emb y 1 : ℕ) = t.val % 16 * 256 + y 1 := by blk_simp [idx t]
  have k2 : (((cfg0.win 8).blk t).view.emb y 2 : ℕ) = y 2 := by blk_simp [idx t]
  have it : (grid0.coords t 1 : ℕ) = t.val % 16 := by have := idx t; omega
  have b0 : ∀ (r : Fin 128) (s : Fin 384), k0_pay6 (F := Ideal) (k0_pay4 (grid0.coords t)) (k0_pay5 (grid0.coords t)) 4096#32 (ix2 r s) = bias (t.val % 16 * 2 + 0) r s := by
    intro r s; rw [bias0_at, it]
  have b1 : ∀ (r : Fin 128) (s : Fin 384), k0_pay7 (F := Ideal) (BitVec.ofNat 32 (grid0.coords t 1).val) (iota .tc S128x384 32 [1] iota_S128x384_d1_w32) k0_pay3 (ix2 r s) = bias (t.val % 16 * 2 + 1) r s := by
    intro r s; rw [bias1_at, it]
  rw [after0_8]
  unfold outsAt0
  frame_out
  generalize ((cfg0.win 8).blk t).view.emb y = i at k0 k1 k2 ⊢
  canon_tiles x h
  · exact core m c hq hk hs t 1 1 3 128 128 896 7 (by decide) (by decide) (by decide) rfl rfl rfl rfl _ b1 _ _ _ _ _ x i k0 (k1.trans (congrArg (t.val % 16 * 256 + ·) h1)) (k2.trans h2)
  · exact core m c hq hk hs t 1 1 2 128 128 768 6 (by decide) (by decide) (by decide) rfl rfl rfl rfl _ b1 _ _ _ _ _ x i k0 (k1.trans (congrArg (t.val % 16 * 256 + ·) h1)) (k2.trans h2)
  · exact core m c hq hk hs t 1 1 1 128 128 640 5 (by decide) (by decide) (by decide) rfl rfl rfl rfl _ b1 _ _ _ _ _ x i k0 (k1.trans (congrArg (t.val % 16 * 256 + ·) h1)) (k2.trans h2)
  · exact core m c hq hk hs t 1 1 0 128 128 512 4 (by decide) (by decide) (by decide) rfl rfl rfl rfl _ b1 _ _ _ _ _ x i k0 (k1.trans (congrArg (t.val % 16 * 256 + ·) h1)) (k2.trans h2)
  · exact core m c hq hk hs t 1 0 3 128 0 384 3 (by decide) (by decide) (by decide) rfl rfl rfl rfl _ b1 _ _ _ _ _ x i k0 (k1.trans (congrArg (t.val % 16 * 256 + ·) h1)) (k2.trans h2)
  · exact core m c hq hk hs t 1 0 2 128 0 256 2 (by decide) (by decide) (by decide) rfl rfl rfl rfl _ b1 _ _ _ _ _ x i k0 (k1.trans (congrArg (t.val % 16 * 256 + ·) h1)) (k2.trans h2)
  · exact core m c hq hk hs t 1 0 1 128 0 128 1 (by decide) (by decide) (by decide) rfl rfl rfl rfl _ b1 _ _ _ _ _ x i k0 (k1.trans (congrArg (t.val % 16 * 256 + ·) h1)) (k2.trans h2)
  · exact core m c hq hk hs t 1 0 0 128 0 0 0 (by decide) (by decide) (by decide) rfl rfl rfl rfl _ b1 _ _ _ _ _ x i k0 (k1.trans (congrArg (t.val % 16 * 256 + ·) h1)) (k2.trans (h2.trans (Nat.zero_add _).symm))
  · exact core m c hq hk hs t 0 1 3 0 128 896 7 (by decide) (by decide) (by decide) rfl rfl rfl rfl _ b0 _ _ _ _ _ x i k0 (k1.trans (congrArg (t.val % 16 * 256 + ·) (h1.trans (Nat.zero_add _).symm))) (k2.trans h2)
  · exact core m c hq hk hs t 0 1 2 0 128 768 6 (by decide) (by decide) (by decide) rfl rfl rfl rfl _ b0 _ _ _ _ _ x i k0 (k1.trans (congrArg (t.val % 16 * 256 + ·) (h1.trans (Nat.zero_add _).symm))) (k2.trans h2)
  · exact core m c hq hk hs t 0 1 1 0 128 640 5 (by decide) (by decide) (by decide) rfl rfl rfl rfl _ b0 _ _ _ _ _ x i k0 (k1.trans (congrArg (t.val % 16 * 256 + ·) (h1.trans (Nat.zero_add _).symm))) (k2.trans h2)
  · exact core m c hq hk hs t 0 1 0 0 128 512 4 (by decide) (by decide) (by decide) rfl rfl rfl rfl _ b0 _ _ _ _ _ x i k0 (k1.trans (congrArg (t.val % 16 * 256 + ·) (h1.trans (Nat.zero_add _).symm))) (k2.trans h2)
  · exact core m c hq hk hs t 0 0 3 0 0 384 3 (by decide) (by decide) (by decide) rfl rfl rfl rfl _ b0 _ _ _ _ _ x i k0 (k1.trans (congrArg (t.val % 16 * 256 + ·) (h1.trans (Nat.zero_add _).symm))) (k2.trans h2)
  · exact core m c hq hk hs t 0 0 2 0 0 256 2 (by decide) (by decide) (by decide) rfl rfl rfl rfl _ b0 _ slices_S512x256_o0_0_S384x128 _ _ _ x i k0 (k1.trans (congrArg (t.val % 16 * 256 + ·) (h1.trans (Nat.zero_add _).symm))) (k2.trans h2)
  · exact core m c hq hk hs t 0 0 1 0 0 128 1 (by decide) (by decide) (by decide) rfl rfl rfl rfl _ b0 _ _ _ _ _ x i k0 (k1.trans (congrArg (t.val % 16 * 256 + ·) (h1.trans (Nat.zero_add _).symm))) (k2.trans h2)
  · exact core m c hq hk hs t 0 0 0 0 0 0 0 (by decide) (by decide) (by decide) rfl rfl rfl rfl _ b0 _ _ _ _ _ x i k0 (k1.trans (congrArg (t.val % 16 * 256 + ·) (h1.trans (Nat.zero_add _).symm))) (k2.trans (h2.trans (Nat.zero_add _).symm))

end Cert.KernelIdeal.Attn

end
-- ==== Proof.Attn.Pre.lean ====
/- What the precondition says of each entry: it compares the absolute value of every query, key and sink logit with
   infinity, so each of them is a real number. -/
module

public import proofs.«01_k».proof.Proof.Gen.Pre_finite_scores
public import proofs.«01_k».proof.Proof.Attn.Final

@[expose] public section

set_option maxRecDepth 16384

noncomputable section

namespace Cert.KernelIdeal.Attn

open Cert.Pre_finite_scores Idealize.ShloMosaic

/-- The word of infinity is `⊤`. -/
theorem word_top : Ideal.ofBits .f32 2139095040#32 = (⊤ : EReal) := by
  simp [Ideal.ofBits, Ideal.ieee]

/-- An extended real whose absolute value compares below infinity is a real number. -/
theorem isReal_of_lt (x : EReal)
    (h : BitVec.ofBool (decide (max x (-x) < Ideal.ofBits .f32 2139095040#32)) = 1#1) : IsReal x := by
  rw [word_top] at h
  induction x with
  | bot => simp at h
  | top => simp at h
  | coe r => exact ⟨r, rfl⟩

variable {q : FVec Ideal S8x4096x1024 .bf16} {k v : FVec Ideal S8x4096x256 .bf16} {sink : FVec Ideal S8 .f32}

/-- Every query is a real number. -/
theorem pre_query (h : Cert.Pre_finite_scores.fn q k v sink = fun _ => 1#1) (i : S8x4096x1024.Idx) : IsReal (q i) := by
  idx_vars i
  have hd : (i2 : ℕ) < 1024 := i2.isLt
  have e : Cert.Pre_finite_scores.fn q k v sink (ix3 i0 i1 ⟨i2.val, by omega⟩)
      = BitVec.ofBool (decide (FloatOps.absf (F := Ideal) (φ := .bf16) (q (ix3 i0 i1 i2)) < Ideal.ofBits .f32 2139095040#32)) := by
    pointwise [Cert.Pre_finite_scores.fn]
    rfl
  exact isReal_of_lt _ (e.symm.trans (congrFun h _))

/-- Every key is a real number. -/
theorem pre_key (h : Cert.Pre_finite_scores.fn q k v sink = fun _ => 1#1) (i : S8x4096x256.Idx) : IsReal (k i) := by
  idx_vars i
  have hd : (i2 : ℕ) < 256 := i2.isLt
  have e : Cert.Pre_finite_scores.fn q k v sink (ix3 i0 i1 ⟨1024 + i2.val, by omega⟩)
      = BitVec.ofBool (decide (FloatOps.absf (F := Ideal) (φ := .bf16) (k (ix3 i0 i1 i2)) < Ideal.ofBits .f32 2139095040#32)) := by
    pointwise [Cert.Pre_finite_scores.fn]
    rfl
  exact isReal_of_lt _ (e.symm.trans (congrFun h _))

/-- Every sink logit is a real number. -/
theorem pre_sink (h : Cert.Pre_finite_scores.fn q k v sink = fun _ => 1#1) (i : S8.Idx) : IsReal (sink i) := by
  idx_vars i
  have hd : (i0 : ℕ) < 8 := i0.isLt
  have e : Cert.Pre_finite_scores.fn q k v sink (ix3 0 0 ⟨1280 + i0.val, by omega⟩)
      = BitVec.ofBool (decide (FloatOps.absf (F := Ideal) (φ := .f32) (sink (ix1 i0)) < Ideal.ofBits .f32 2139095040#32)) := by
    pointwise [Cert.Pre_finite_scores.fn]
    rw [dif_neg (by omega), dif_neg (by omega)]
    refine congrArg (fun x => BitVec.ofBool (decide (FloatOps.absf (F := Ideal) (φ := .f32) (sink (ix1 x)) < Ideal.ofBits .f32 2139095040#32))) (Fin.ext ?_)
    show 1280 + (i0 : ℕ) - 1024 - 256 = i0
    omega
  exact isReal_of_lt _ (e.symm.trans (congrFun h _))

end Cert.KernelIdeal.Attn

end
-- ==== Proof.Rows.Basic.lean ====
/- The layer's row functions over the extended reals: the norms, the activations and the feed-forward half of one
   token, written once for every program that computes them. -/
module

public import Idealize.ShloMosaic.Lib.Pointwise

@[expose] public section

noncomputable section

namespace Cert.Rows

open Idealize.ShloMosaic

/-- The number that the word of the norms' small constant denotes. -/
abbrev eps : EReal := Ideal.ofBits .f32 0x358637BD#32

/-- The root-mean-square norm of a row, `n` the word of its length, with its weights. -/
def norm {k : ℕ} (n : BitVec 32) (x w : Fin k → EReal) (j : Fin k) : EReal :=
  x j * Ideal.rsqrt (Ideal.div (∑ i, x i * x i) (Ideal.ofBits .f32 n) + eps) * w j

/-- The norm with the conditioning's scale and shift. -/
def ada (x w shift scale : Fin 1024 → EReal) (j : Fin 1024) : EReal :=
  norm 0x44800000#32 x w j * (1 + scale j) + shift j

/-- The logistic function. -/
def sigm (x : EReal) : EReal := Ideal.div 1 (1 + Ideal.exp (-x))

/-- The activation `x · σ(x)`. -/
def silu (x : EReal) : EReal := x * sigm x

/-- A row times a matrix. -/
def dot {k n : ℕ} (x : Fin k → EReal) (w : Fin k → Fin n → EReal) (j : Fin n) : EReal := ∑ i, x i * w i j

/-- The feed-forward half of one token: its residual, and half the gate times the gated units' output. -/
def half (x nw shift scale gate : Fin 1024 → EReal) (wg wu : Fin 1024 → Fin 2816 → EReal) (wo : Fin 2816 → Fin 1024 → EReal)
    (j : Fin 1024) : EReal :=
  x j + Ideal.ofBits .f32 0x3F000000#32 * gate j
    * dot (fun i => silu (dot (ada x nw shift scale) wg i) * dot (ada x nw shift scale) wu i) wo j

/-- Lane `j` of the scans' output: each head of 128 lanes normed with the heads' weights, times its activated gate. -/
def heads (o z : Fin 1024 → EReal) (w : Fin 128 → EReal) (j : Fin 1024) : EReal :=
  norm 0x43000000#32 (fun e : Fin 128 => o ⟨j / 128 * 128 + e, by omega⟩) w ⟨j % 128, by omega⟩ * silu (z j)

/-- A lane of a head, by the head and the lane within it. -/
theorem heads_lane (o z : Fin 1024 → EReal) (w : Fin 128 → EReal) (h : Fin 8) (d : Fin 128) :
    heads o z w ⟨h * 128 + d, by omega⟩
      = norm 0x43000000#32 (fun e : Fin 128 => o ⟨h * 128 + e, by omega⟩) w d * silu (z ⟨h * 128 + d, by omega⟩) := by
  have e1 : ((h : ℕ) * 128 + d) / 128 = h := by omega
  have e2 : (⟨((h : ℕ) * 128 + d) % 128, by omega⟩ : Fin 128) = d := Fin.ext (by simp only; omega)
  unfold heads
  simp only [e1, e2]

/-- The mixer's output of one token: its residual, and the gate times the product of the two gated projections. -/
def mixed (x gate y at' ga gb : Fin 1024 → EReal) (wa wb wo : Fin 1024 → Fin 1024 → EReal) (j : Fin 1024) : EReal :=
  x j + gate j * dot (fun k => sigm (ga k) * dot y wa k + sigm (gb k) * dot at' wb k) wo j

end Cert.Rows

end
-- ==== Proof.Half.Ref2.lean ====
/- What the second feed-forward half's reference computes, read at an index, for the batch of prompts. -/
module

public import proofs.«01_k».proof.Proof.Rows.Basic
public import proofs.«01_k».proof.Proof.Gen.Reference2Ideal.Run
public import Idealize.ShloMosaic.Lib.Pointwise

@[expose] public section

set_option maxRecDepth 16384

noncomputable section

namespace Cert.Reference2Ideal.Half

open Cert.Reference2Ideal Cert.Reference2Ideal.Gen Idealize.ShloMosaic Idealize.ShloMosaic.TcCoe Idealize.SL.Sem
open Cert

variable {F : FTy → Type} [FloatOps F]

/-- The modulation with an axis for the tokens. -/
def mods (c : FVec F S8x9216 .f32) : FVec F S8x1x9216 .f32 :=
  broadcastInDim S8x1x9216 ![0, 2] bcast_S8x9216_S8x1x9216_0_2 c

/-- The norm of every token with its weights. -/
def normed (x : FVec F S8x4096x1024 .f32) (w : FVec F S1024 .f32) : FVec F S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 w))

/-- The norm with the conditioning's scale and shift. -/
def hidden (x : FVec F S8x4096x1024 .f32) (c : FVec F S8x9216 .f32) (w : FVec F S1024 .f32) : FVec F S8x4096x1024 .f32 :=
  addf (mulf (normed x w) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 7168] (mods c) slices_S8x1x9216_S8x1x1024_0_0_7168)))) (broadcastInDim S8x4096x1024 ![0, 1, 2] bcast_S8x1x1024_S8x4096x1024_0_1_2 (extractStridedSlice S8x1x1024 ![0, 0, 6144] (mods c) slices_S8x1x9216_S8x1x1024_0_0_6144))

/-- The two halves of the first product, side by side. -/
def wide (h : FVec F S8x4096x1024 .f32) (w : FVec F S1024x5632 .f32) : FVec F S8x4096x5632 .f32 :=
  Host.dotGeneral dot_S8x4096x1024_S1024x5632_S8x4096x5632_2_0_01_1_n_n none h w

/-- The gated units. -/
def units (p : FVec F S8x4096x5632 .f32) : FVec F S8x4096x2816 .f32 :=
  mulf (mulf (extractStridedSlice S8x4096x2816 ![0, 0, 0] p slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] p slices_S8x4096x5632_S8x4096x2816_0_0_0)))))) (extractStridedSlice S8x4096x2816 ![0, 0, 2816] p slices_S8x4096x5632_S8x4096x2816_0_0_2816)

/-- The token and its half step. -/
def stepped (x : FVec F S8x4096x1024 .f32) (c : FVec F S8x9216 .f32) (a : FVec F S8x4096x2816 .f32) (wo : FVec F S2816x1024 .f32) : FVec F S8x4096x1024 .f32 :=
  addf x (mulf (broadcastInDim S8x4096x1024 ![0, 1, 2] bcast_S8x1x1024_S8x4096x1024_0_1_2 (mulf (broadcastInDim S8x1x1024 ![] bcast_S_S8x1x1024 (constant S_ .f32 0x3F000000#32)) (extractStridedSlice S8x1x1024 ![0, 0, 8192] (mods c) slices_S8x1x9216_S8x1x1024_0_0_8192))) (Host.dotGeneral dot_S8x4096x2816_S2816x1024_S8x4096x1024_2_0_01_1_n_n none a wo))

/-- The whole reference. -/
def result (x : FVec F S8x4096x1024 .f32) (c : FVec F S8x9216 .f32) (w : FVec F S1024 .f32) (wi : FVec F S1024x5632 .f32) (wo : FVec F S2816x1024 .f32) (fw : FVec F S1024 .f32) : FVec F S8x4096x1024 .f32 :=
  normed (stepped x c (units (wide (hidden x c w) wi)) wo) fw

/-- The reference's run leaves that result. -/
theorem res_eq (m : (ℓ : Loc nD τ sig) → Buf (Elt F) ℓ) (c : Dev nD) :
    Value.res_out0 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_out0 Value.res_main_v52
  rfl

/-- The norm at an index. -/
theorem normed_at (x : FVec Ideal S8x4096x1024 .f32) (w : FVec Ideal S1024 .f32) (b : Fin 8) (t : Fin 4096) (d : Fin 1024) :
    normed x w (ix3 b t d) = Rows.norm 0x44800000#32 (fun k => x (ix3 b t k)) (fun k => w (ix1 k)) d := by
  pointwise [normed]
  rfl

/-- The scaled and shifted norm at an index. -/
theorem hidden_at (x : FVec Ideal S8x4096x1024 .f32) (c : FVec Ideal S8x9216 .f32) (w : FVec Ideal S1024 .f32) (b : Fin 8) (t : Fin 4096) (d : Fin 1024) :
    hidden x c w (ix3 b t d) = Rows.ada (fun k => x (ix3 b t k)) (fun k => w (ix1 k))
      (fun k => c (ix2 b ⟨6144 + k, by omega⟩)) (fun k => c (ix2 b ⟨7168 + k, by omega⟩)) d := by
  rw [Rows.ada, ← normed_at]
  pointwise [hidden, mods]

/-- The first product at an index. -/
theorem wide_at (h : FVec Ideal S8x4096x1024 .f32) (w : FVec Ideal S1024x5632 .f32) (b : Fin 8) (t : Fin 4096) (u : Fin 5632) :
    wide h w (ix3 b t u) = Rows.dot (fun k => h (ix3 b t k)) (fun k u => w (ix2 k u)) u := by
  pointwise [wide, Rows.dot]

/-- A gated unit. -/
theorem units_at (p : FVec Ideal S8x4096x5632 .f32) (b : Fin 8) (t : Fin 4096) (u : Fin 2816) :
    units p (ix3 b t u) = Rows.silu (p (ix3 b t ⟨u, by omega⟩)) * p (ix3 b t ⟨2816 + u, by omega⟩) := by
  pointwise [units]
  rfl

/-- The half step at an index. -/
theorem stepped_at (x : FVec Ideal S8x4096x1024 .f32) (c : FVec Ideal S8x9216 .f32) (a : FVec Ideal S8x4096x2816 .f32) (wo : FVec Ideal S2816x1024 .f32) (b : Fin 8) (t : Fin 4096) (d : Fin 1024) :
    stepped x c a wo (ix3 b t d) = x (ix3 b t d) + Ideal.ofBits .f32 0x3F000000#32 * c (ix2 b ⟨8192 + d, by omega⟩)
      * Rows.dot (fun u => a (ix3 b t u)) (fun u d => wo (ix2 u d)) d := by
  pointwise [stepped, mods]
  rfl

/-- The feed-forward half at an index, as the row function of the token. -/
theorem half_at (x : FVec Ideal S8x4096x1024 .f32) (c : FVec Ideal S8x9216 .f32) (w : FVec Ideal S1024 .f32) (wi : FVec Ideal S1024x5632 .f32) (wo : FVec Ideal S2816x1024 .f32) (b : Fin 8) (t : Fin 4096) (d : Fin 1024) :
    stepped x c (units (wide (hidden x c w) wi)) wo (ix3 b t d) = Rows.half (fun k => x (ix3 b t k)) (fun k => w (ix1 k))
      (fun k => c (ix2 b ⟨6144 + k, by omega⟩)) (fun k => c (ix2 b ⟨7168 + k, by omega⟩)) (fun k => c (ix2 b ⟨8192 + k, by omega⟩))
      (fun k u => wi (ix2 k ⟨u, by omega⟩)) (fun k u => wi (ix2 k ⟨2816 + u, by omega⟩)) (fun u d => wo (ix2 u d)) d := by
  simp only [stepped_at, units_at, wide_at, hidden_at]
  rfl

end Cert.Reference2Ideal.Half

end
-- ==== Proof.Half.Kernel2.lean ====
/- What the second feed-forward half's kernel leaves, for the batch of prompts: each block of 512 tokens is the row function of each
   of its tokens, and so is the reference. -/
module

public import proofs.«01_k».proof.Proof.Half.Ref2
public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Kernel2Ideal.Half

open Cert Cert.Kernel2Ideal Cert.Kernel2Ideal.Gen Cert.Kernel2Ideal.Value Idealize.ShloMosaic Idealize.ShloMosaic.TcCoe Idealize.SL.Sem Idealize.ShloMosaic.Pipeline

section block

variable {F : FTy → Type} [FloatOps F]

/-- The gated units of a block: the activation of the one product, times the other. -/
def units (g : FVec F S512x2816 .f32) (h : FVec F S512x1024 .bf16) (wu : FVec F S1024x2816 .bf16) : FVec F S512x2816 .bf16 :=
  truncf .bf16 (mulf (mulf g (divf (broadcast S512x2816 (Scalar.ofBits .f32 0x3F800000#32)) (addf (broadcast S512x2816 (Scalar.ofBits .f32 0x3F800000#32)) (exp (subf (broadcast S512x2816 (Scalar.ofBits .f32 0x00000000#32)) g))))) (matmul dot_S512x1024_S1024x2816_S512x2816_1_0_0_1_n_n none h wu (constant S512x2816 .f32 0x00000000#32))) bitsLt_bf16_f32

/-- The block's rows and their half steps. -/
def stepped (x : FVec F S512x1024 .f32) (gate : FVec F S1x1024 .f32) (a : FVec F S512x2816 .bf16) (wo : Vec F S2816x1024 .bf16) : FVec F S512x1024 .f32 :=
  addf x (mulf (broadcastTo S512x1024 (mulf (broadcast S1x1024 (Scalar.ofBits .f32 0x3F000000#32)) gate) broadcasts_S1x1024_S512x1024) (matmul dot_S512x2816_S2816x1024_S512x1024_1_0_0_1_n_n none a (shapeCast S2816x1024 wo shapeCasts_S2816x1024_S2816x1024) (constant S512x1024 .f32 0x00000000#32)))

/-- The final norm of every row with its weights. -/
def normed (x : FVec F S512x1024 .f32) (fw : Vec F S1x1024 .f32) : FVec F S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 fw shapeCasts_S1x1024_S1x1024) broadcasts_S1x1024_S512x1024)

/-- The final norm at an index. -/
theorem normed_at (x : FVec Ideal S512x1024 .f32) (fw : Vec Ideal S1x1024 .f32) (r : Fin 512) (d : Fin 1024) :
    normed x fw (ix2 r d) = Rows.norm 0x44800000#32 (fun k => x (ix2 r k)) (fun k => fw (ix2 0 k)) d := by
  pointwise [normed]
  rfl

/-- The block that is stored, from the values read. -/
theorem pay_eq (x : FVec F S512x1024 .f32) (gate : FVec F S1x1024 .f32) (h : FVec F S512x1024 .bf16) (g : FVec F S512x2816 .f32) (wu : FVec F S1024x2816 .bf16) (wo : Vec F S2816x1024 .bf16) (fw : Vec F S1x1024 .f32) :
    k0_pay1 x gate h g wu (constant S512x2816 .f32 0x00000000#32) wo fw = shapeCast S1x512x1024 (normed (stepped x gate (units g h wu) wo) fw) shapeCasts_S512x1024_S1x512x1024 := rfl

end block

/-- The scaled and shifted norm at an index. -/
theorem hidden_at (x : Vec Ideal S1x512x1024 .f32) (sh sc : Vec Ideal S1x1x1024 .f32) (w : Vec Ideal S1x1024 .f32) (r : Fin 512) (d : Fin 1024) :
    k0_pay4 x sh sc w (ix2 r d) = Rows.ada (fun k => x (ix3 0 r k)) (fun k => w (ix2 0 k)) (fun k => sh (ix3 0 0 k)) (fun k => sc (ix3 0 0 k)) d := by
  pointwise [k0_pay4, k0_pay2]
  rfl

/-- The first product at an index. -/
theorem first_at (x : Vec Ideal S1x512x1024 .f32) (sh sc : Vec Ideal S1x1x1024 .f32) (w : Vec Ideal S1x1024 .f32) (wg : Vec Ideal S1024x2816 .bf16) (r : Fin 512) (u : Fin 2816) :
    k0_pay5 x sh sc w wg (ix2 r u) = Rows.dot (fun k => k0_pay4 x sh sc w (ix2 r k)) (fun k u => wg (ix2 k u)) u := by
  pointwise [k0_pay5, Rows.dot]

/-- A gated unit. -/
theorem units_at (g : FVec Ideal S512x2816 .f32) (h : FVec Ideal S512x1024 .bf16) (wu : FVec Ideal S1024x2816 .bf16) (r : Fin 512) (u : Fin 2816) :
    units g h wu (ix2 r u) = Rows.silu (g (ix2 r u)) * Rows.dot (fun k => h (ix2 r k)) (fun k u => wu (ix2 k u)) u := by
  pointwise [units, Rows.dot, Rows.silu, Rows.sigm]
  rw [show (0 : EReal) - g (ix2 r u) = -g (ix2 r u) from (sub_eq_add_neg _ _).trans (zero_add _)]

/-- The half step at an index. -/
theorem stepped_at (x : FVec Ideal S512x1024 .f32) (gate : FVec Ideal S1x1024 .f32) (a : FVec Ideal S512x2816 .bf16) (wo : Vec Ideal S2816x1024 .bf16) (r : Fin 512) (d : Fin 1024) :
    stepped x gate a wo (ix2 r d) = x (ix2 r d) + Ideal.ofBits .f32 0x3F000000#32 * gate (ix2 0 d)
      * Rows.dot (fun u => a (ix2 r u)) (fun u d => wo (ix2 u d)) d := by
  pointwise [stepped, Rows.dot]

/-- The half of a block's row, as the row function of the values read. -/
theorem half_at (x : Vec Ideal S1x512x1024 .f32) (sh sc gate : Vec Ideal S1x1x1024 .f32) (w : Vec Ideal S1x1024 .f32) (wg wu : Vec Ideal S1024x2816 .bf16) (wo : Vec Ideal S2816x1024 .bf16) (r : Fin 512) (d : Fin 1024) :
    stepped (k0_pay2 x) (k0_pay3 gate) (units (k0_pay5 x sh sc w wg) (k0_pay4 x sh sc w) (k0_pay6 wu)) wo (ix2 r d)
      = Rows.half (fun k => x (ix3 0 r k)) (fun k => w (ix2 0 k)) (fun k => sh (ix3 0 0 k)) (fun k => sc (ix3 0 0 k)) (fun k => gate (ix3 0 0 k))
        (fun k u => wg (ix2 k u)) (fun k u => wu (ix2 k u)) (fun u d => wo (ix2 u d)) d := by
  have e2 : ∀ d, k0_pay2 x (ix2 r d) = x (ix3 0 r d) := by intro d; pointwise [k0_pay2]
  have e3 : k0_pay3 gate (ix2 0 d) = gate (ix3 0 0 d) := by pointwise [k0_pay3]
  have e6 : ∀ k u, k0_pay6 wu (ix2 k u) = wu (ix2 k u) := by intro k u; pointwise [k0_pay6]
  simp only [stepped_at, units_at, first_at, hidden_at, e2, e3, e6]
  rfl

variable (m : (ℓ : Loc nD τ sig) → Buf (Elt Ideal) ℓ)

/-- Where each window's block lies, per grid point. -/
theorem idx : ∀ t : Fin cfg0.N,
    win0_0.index t 0 = t.val / 8 ∧ win0_0.index t 1 = t.val % 8 ∧ win0_0.index t 2 = 0
    ∧ win0_1.index t 0 = t.val / 8 ∧ win0_1.index t 1 = 0 ∧ win0_1.index t 2 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0
    ∧ win0_7.index t 0 = t.val / 8 ∧ win0_7.index t 1 = t.val % 8 ∧ win0_7.index t 2 = 0 := by
  decide +kernel

/-- The tokens' array. -/
abbrev argX (c : Dev nD) : FVec Ideal S8x4096x1024 .f32 := m ((c.tc : Thread nD τ).loc main_arg0)
/-- The modulation's array. -/
abbrev argC (c : Dev nD) : FVec Ideal S8x9216 .f32 := m ((c.tc : Thread nD τ).loc main_arg1)
/-- The norm weights' array. -/
abbrev argW (c : Dev nD) : FVec Ideal S1024 .f32 := m ((c.tc : Thread nD τ).loc main_arg2)
/-- The first product's array. -/
abbrev argWi (c : Dev nD) : FVec Ideal S1024x5632 .f32 := m ((c.tc : Thread nD τ).loc main_arg3)
/-- The second product's array. -/
abbrev argWo (c : Dev nD) : FVec Ideal S2816x1024 .f32 := m ((c.tc : Thread nD τ).loc main_arg4)
/-- The final norm's array. -/
abbrev argFw (c : Dev nD) : FVec Ideal S1024 .f32 := m ((c.tc : Thread nD τ).loc main_arg5)

/-- A token's entry, in the block of a grid point. -/
theorem token_at (c : Dev nD) (t : Fin cfg0.N) (hb : t.val / 8 < 8) (r : Fin 512) (k : Fin 1024) :
    View.ld (iblk m c 0 t) r0_0 (ix3 0 r k) = argX m c (ix3 ⟨t.val / 8, hb⟩ ⟨t.val % 8 * 512 + r, by omega⟩ k) := by
  pointwise []
  blk_point [iblk, V, idx t]

/-- The shift's entry. -/
theorem shift_at (c : Dev nD) (t : Fin cfg0.N) (hb : t.val / 8 < 8) (k : Fin 1024) :
    View.ld (iblk m c 1 t) r0_1 (ix3 0 0 k) = argC m c (ix2 ⟨t.val / 8, hb⟩ ⟨6144 + k, by omega⟩) := by
  pointwise []
  blk_point [iblk, V, idx t]

/-- The scale's entry. -/
theorem scale_at (c : Dev nD) (t : Fin cfg0.N) (hb : t.val / 8 < 8) (k : Fin 1024) :
    View.ld (iblk m c 1 t) r0_2 (ix3 0 0 k) = argC m c (ix2 ⟨t.val / 8, hb⟩ ⟨7168 + k, by omega⟩) := by
  pointwise []
  blk_point [iblk, V, idx t]

/-- The gate's entry. -/
theorem gate_at (c : Dev nD) (t : Fin cfg0.N) (hb : t.val / 8 < 8) (k : Fin 1024) :
    View.ld (iblk m c 1 t) r0_3 (ix3 0 0 k) = argC m c (ix2 ⟨t.val / 8, hb⟩ ⟨8192 + k, by omega⟩) := by
  pointwise []
  blk_point [iblk, V, idx t]

/-- The norm's weight. -/
theorem weight_at (c : Dev nD) (t : Fin cfg0.N) (k : Fin 1024) :
    View.ld (iblk m c 2 t) r0_4 (ix2 0 k) = argW m c (ix1 k) := by
  pointwise []
  blk_point [iblk, V, idx t]

/-- The gated product's matrix. -/
theorem gated_at (c : Dev nD) (t : Fin cfg0.N) (k : Fin 1024) (u : Fin 2816) :
    View.ld (iblk m c 3 t) r0_5 (ix2 k u) = argWi m c (ix2 k ⟨u, by omega⟩) := by
  pointwise []
  blk_point [iblk, V, idx t]

/-- The other product's matrix. -/
theorem other_at (c : Dev nD) (t : Fin cfg0.N) (k : Fin 1024) (u : Fin 2816) :
    View.ld (iblk m c 4 t) r0_5 (ix2 k u) = argWi m c (ix2 k ⟨2816 + u, by omega⟩) := by
  pointwise []
  blk_point [iblk, V, idx t]

/-- The last product's matrix. -/
theorem last_at (c : Dev nD) (t : Fin cfg0.N) (u : Fin 2816) (d : Fin 1024) :
    View.ld (iblk m c 5 t) r0_6 (ix2 u d) = argWo m c (ix2 u d) := by
  pointwise []
  blk_point [iblk, V, idx t]

/-- The final norm's weight. -/
theorem closing_at (c : Dev nD) (t : Fin cfg0.N) (k : Fin 1024) :
    View.ld (iblk m c 6 t) r0_4 (ix2 0 k) = argFw m c (ix1 k) := by
  pointwise []
  blk_point [iblk, V, idx t]

/-- A row of a grid point's block, before the final norm. -/
theorem row_at (c : Dev nD) (t : Fin cfg0.N) (hb : t.val / 8 < 8) (r : Fin 512) (d : Fin 1024) :
    stepped (k0_pay2 (View.ld (iblk m c 0 t) r0_0)) (k0_pay3 (View.ld (iblk m c 1 t) r0_3)) (units (k0_pay5 (View.ld (iblk m c 0 t) r0_0) (View.ld (iblk m c 1 t) r0_1) (View.ld (iblk m c 1 t) r0_2) (View.ld (iblk m c 2 t) r0_4) (View.ld (iblk m c 3 t) r0_5)) (k0_pay4 (View.ld (iblk m c 0 t) r0_0) (View.ld (iblk m c 1 t) r0_1) (View.ld (iblk m c 1 t) r0_2) (View.ld (iblk m c 2 t) r0_4)) (k0_pay6 (View.ld (iblk m c 4 t) r0_5))) (View.ld (iblk m c 5 t) r0_6) (ix2 r d)
      = Rows.half (fun k => argX m c (ix3 ⟨t.val / 8, hb⟩ ⟨t.val % 8 * 512 + r, by omega⟩ k)) (fun k => argW m c (ix1 k))
      (fun k => argC m c (ix2 ⟨t.val / 8, hb⟩ ⟨6144 + k, by omega⟩)) (fun k => argC m c (ix2 ⟨t.val / 8, hb⟩ ⟨7168 + k, by omega⟩)) (fun k => argC m c (ix2 ⟨t.val / 8, hb⟩ ⟨8192 + k, by omega⟩))
      (fun k u => argWi m c (ix2 k ⟨u, by omega⟩)) (fun k u => argWi m c (ix2 k ⟨2816 + u, by omega⟩)) (fun u d => argWo m c (ix2 u d)) d := by
  rw [half_at]
  simp only [token_at m c t hb, shift_at m c t hb, scale_at m c t hb, gate_at m c t hb, weight_at m c t, gated_at m c t, other_at m c t, last_at m c t]

/-- What a grid point stores, at an index, is the reference's result there. -/
theorem core (c : Dev nD) (t : Fin cfg0.N) (x : S1x512x1024.Idx) (i : S8x4096x1024.Idx)
    (hi0 : (i 0 : ℕ) = t.val / 8) (hi1 : (i 1 : ℕ) = t.val % 8 * 512 + x 1) (hi2 : (i 2 : ℕ) = x 2) :
    k0_pay1 (k0_pay2 (View.ld (iblk m c 0 t) r0_0)) (k0_pay3 (View.ld (iblk m c 1 t) r0_3)) (k0_pay4 (View.ld (iblk m c 0 t) r0_0) (View.ld (iblk m c 1 t) r0_1) (View.ld (iblk m c 1 t) r0_2) (View.ld (iblk m c 2 t) r0_4)) (k0_pay5 (View.ld (iblk m c 0 t) r0_0) (View.ld (iblk m c 1 t) r0_1) (View.ld (iblk m c 1 t) r0_2) (View.ld (iblk m c 2 t) r0_4) (View.ld (iblk m c 3 t) r0_5)) (k0_pay6 (View.ld (iblk m c 4 t) r0_5)) (constant S512x2816 .f32 0x00000000#32) (View.ld (iblk m c 5 t) r0_6) (View.ld (iblk m c 6 t) r0_4) x
      = Cert.Reference2Ideal.Half.result (argX m c) (argC m c) (argW m c) (argWi m c) (argWo m c) (argFw m c) i := by
  have ht : t.val < 64 := t.isLt
  idx_vars x
  rename' x0 => z, x1 => r, x2 => d
  have hr : (r : ℕ) < 512 := r.isLt
  have hb : t.val / 8 < 8 := by omega
  have ei : i = ix3 (⟨t.val / 8, hb⟩ : Fin 8) (⟨t.val % 8 * 512 + r, by omega⟩ : Fin 4096) d := by
    funext a; apply Fin.ext
    match a with
    | ⟨0, _⟩ => exact hi0
    | ⟨1, _⟩ => exact hi1
    | ⟨2, _⟩ => exact hi2
  have ez : z = 0 := Subsingleton.elim _ _
  subst ez
  rw [ei, pay_eq, Cert.Reference2Ideal.Half.result]
  have cast : ∀ Y : FVec Ideal S512x1024 .f32, shapeCast S1x512x1024 Y shapeCasts_S512x1024_S1x512x1024 (ix3 0 r d) = Y (ix2 r d) := by
    intro Y; pointwise []
  rw [cast, normed_at, Cert.Reference2Ideal.Half.normed_at]
  simp only [row_at m c t hb, closing_at m c t, Cert.Reference2Ideal.Half.half_at]

/-- THE ARRAY: what the launch leaves is the reference's result. -/
theorem final (c : Dev nD) : (dats m 0 c).arrAt 7 cfg0.N = Cert.Reference2Ideal.Half.result (argX m c) (argC m c) (argW m c) (argWi m c) (argWo m c) (argFw m c) := by
  refine (dats m 0 c).arrAt_eq_of_covers 7 _ (by decide +kernel) (fun t hf y => ?_)
  have k0 : (((cfg0.win 7).blk t).view.emb y 0 : ℕ) = t.val / 8 := by
    have := (y 0).isLt
    blk_simp [idx t]
  have k1 : (((cfg0.win 7).blk t).view.emb y 1 : ℕ) = t.val % 8 * 512 + y 1 := by blk_simp [idx t]
  have k2 : (((cfg0.win 7).blk t).view.emb y 2 : ℕ) = y 2 := by blk_simp [idx t]
  rw [after0_7]
  unfold out0_7
  generalize ((cfg0.win 7).blk t).view.emb y = i at k0 k1 k2 ⊢
  canon_tiles x h
  exact core m c t x i k0 (k1.trans (congrArg (t.val % 8 * 512 + ·) h1)) (k2.trans h2)

end Cert.Kernel2Ideal.Half

end
-- ==== Proof.Half.Ref3.lean ====
/- What the second feed-forward half's reference computes, read at an index, for the batch of samples. -/
module

public import proofs.«01_k».proof.Proof.Rows.Basic
public import proofs.«01_k».proof.Proof.Gen.Reference3Ideal.Run
public import Idealize.ShloMosaic.Lib.Pointwise

@[expose] public section

set_option maxRecDepth 16384

noncomputable section

namespace Cert.Reference3Ideal.Half

open Cert.Reference3Ideal Cert.Reference3Ideal.Gen Idealize.ShloMosaic Idealize.ShloMosaic.TcCoe Idealize.SL.Sem
open Cert

variable {F : FTy → Type} [FloatOps F]

/-- The modulation with an axis for the tokens. -/
def mods (c : FVec F S2x9216 .f32) : FVec F S2x1x9216 .f32 :=
  broadcastInDim S2x1x9216 ![0, 2] bcast_S2x9216_S2x1x9216_0_2 c

/-- The norm of every token with its weights. -/
def normed (x : FVec F S2x8192x1024 .f32) (w : FVec F S1024 .f32) : FVec F S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 w))

/-- The norm with the conditioning's scale and shift. -/
def hidden (x : FVec F S2x8192x1024 .f32) (c : FVec F S2x9216 .f32) (w : FVec F S1024 .f32) : FVec F S2x8192x1024 .f32 :=
  addf (mulf (normed x w) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 7168] (mods c) slices_S2x1x9216_S2x1x1024_0_0_7168)))) (broadcastInDim S2x8192x1024 ![0, 1, 2] bcast_S2x1x1024_S2x8192x1024_0_1_2 (extractStridedSlice S2x1x1024 ![0, 0, 6144] (mods c) slices_S2x1x9216_S2x1x1024_0_0_6144))

/-- The two halves of the first product, side by side. -/
def wide (h : FVec F S2x8192x1024 .f32) (w : FVec F S1024x5632 .f32) : FVec F S2x8192x5632 .f32 :=
  Host.dotGeneral dot_S2x8192x1024_S1024x5632_S2x8192x5632_2_0_01_1_n_n none h w

/-- The gated units. -/
def units (p : FVec F S2x8192x5632 .f32) : FVec F S2x8192x2816 .f32 :=
  mulf (mulf (extractStridedSlice S2x8192x2816 ![0, 0, 0] p slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] p slices_S2x8192x5632_S2x8192x2816_0_0_0)))))) (extractStridedSlice S2x8192x2816 ![0, 0, 2816] p slices_S2x8192x5632_S2x8192x2816_0_0_2816)

/-- The token and its half step. -/
def stepped (x : FVec F S2x8192x1024 .f32) (c : FVec F S2x9216 .f32) (a : FVec F S2x8192x2816 .f32) (wo : FVec F S2816x1024 .f32) : FVec F S2x8192x1024 .f32 :=
  addf x (mulf (broadcastInDim S2x8192x1024 ![0, 1, 2] bcast_S2x1x1024_S2x8192x1024_0_1_2 (mulf (broadcastInDim S2x1x1024 ![] bcast_S_S2x1x1024 (constant S_ .f32 0x3F000000#32)) (extractStridedSlice S2x1x1024 ![0, 0, 8192] (mods c) slices_S2x1x9216_S2x1x1024_0_0_8192))) (Host.dotGeneral dot_S2x8192x2816_S2816x1024_S2x8192x1024_2_0_01_1_n_n none a wo))

/-- The whole reference. -/
def result (x : FVec F S2x8192x1024 .f32) (c : FVec F S2x9216 .f32) (w : FVec F S1024 .f32) (wi : FVec F S1024x5632 .f32) (wo : FVec F S2816x1024 .f32) (fw : FVec F S1024 .f32) : FVec F S2x8192x1024 .f32 :=
  normed (stepped x c (units (wide (hidden x c w) wi)) wo) fw

/-- The reference's run leaves that result. -/
theorem res_eq (m : (ℓ : Loc nD τ sig) → Buf (Elt F) ℓ) (c : Dev nD) :
    Value.res_out0 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_out0 Value.res_main_v52
  rfl

/-- The norm at an index. -/
theorem normed_at (x : FVec Ideal S2x8192x1024 .f32) (w : FVec Ideal S1024 .f32) (b : Fin 2) (t : Fin 8192) (d : Fin 1024) :
    normed x w (ix3 b t d) = Rows.norm 0x44800000#32 (fun k => x (ix3 b t k)) (fun k => w (ix1 k)) d := by
  pointwise [normed]
  rfl

/-- The scaled and shifted norm at an index. -/
theorem hidden_at (x : FVec Ideal S2x8192x1024 .f32) (c : FVec Ideal S2x9216 .f32) (w : FVec Ideal S1024 .f32) (b : Fin 2) (t : Fin 8192) (d : Fin 1024) :
    hidden x c w (ix3 b t d) = Rows.ada (fun k => x (ix3 b t k)) (fun k => w (ix1 k))
      (fun k => c (ix2 b ⟨6144 + k, by omega⟩)) (fun k => c (ix2 b ⟨7168 + k, by omega⟩)) d := by
  rw [Rows.ada, ← normed_at]
  pointwise [hidden, mods]

/-- The first product at an index. -/
theorem wide_at (h : FVec Ideal S2x8192x1024 .f32) (w : FVec Ideal S1024x5632 .f32) (b : Fin 2) (t : Fin 8192) (u : Fin 5632) :
    wide h w (ix3 b t u) = Rows.dot (fun k => h (ix3 b t k)) (fun k u => w (ix2 k u)) u := by
  pointwise [wide, Rows.dot]

/-- A gated unit. -/
theorem units_at (p : FVec Ideal S2x8192x5632 .f32) (b : Fin 2) (t : Fin 8192) (u : Fin 2816) :
    units p (ix3 b t u) = Rows.silu (p (ix3 b t ⟨u, by omega⟩)) * p (ix3 b t ⟨2816 + u, by omega⟩) := by
  pointwise [units]
  rfl

/-- The half step at an index. -/
theorem stepped_at (x : FVec Ideal S2x8192x1024 .f32) (c : FVec Ideal S2x9216 .f32) (a : FVec Ideal S2x8192x2816 .f32) (wo : FVec Ideal S2816x1024 .f32) (b : Fin 2) (t : Fin 8192) (d : Fin 1024) :
    stepped x c a wo (ix3 b t d) = x (ix3 b t d) + Ideal.ofBits .f32 0x3F000000#32 * c (ix2 b ⟨8192 + d, by omega⟩)
      * Rows.dot (fun u => a (ix3 b t u)) (fun u d => wo (ix2 u d)) d := by
  pointwise [stepped, mods]
  rfl

/-- The feed-forward half at an index, as the row function of the token. -/
theorem half_at (x : FVec Ideal S2x8192x1024 .f32) (c : FVec Ideal S2x9216 .f32) (w : FVec Ideal S1024 .f32) (wi : FVec Ideal S1024x5632 .f32) (wo : FVec Ideal S2816x1024 .f32) (b : Fin 2) (t : Fin 8192) (d : Fin 1024) :
    stepped x c (units (wide (hidden x c w) wi)) wo (ix3 b t d) = Rows.half (fun k => x (ix3 b t k)) (fun k => w (ix1 k))
      (fun k => c (ix2 b ⟨6144 + k, by omega⟩)) (fun k => c (ix2 b ⟨7168 + k, by omega⟩)) (fun k => c (ix2 b ⟨8192 + k, by omega⟩))
      (fun k u => wi (ix2 k ⟨u, by omega⟩)) (fun k u => wi (ix2 k ⟨2816 + u, by omega⟩)) (fun u d => wo (ix2 u d)) d := by
  simp only [stepped_at, units_at, wide_at, hidden_at]
  rfl

end Cert.Reference3Ideal.Half

end
-- ==== Proof.Half.Kernel3.lean ====
/- What the second feed-forward half's kernel leaves, for the batch of samples: each block of 512 tokens is the row function of each
   of its tokens, and so is the reference. -/
module

public import proofs.«01_k».proof.Proof.Half.Ref3
public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Kernel3Ideal.Half

open Cert Cert.Kernel3Ideal Cert.Kernel3Ideal.Gen Cert.Kernel3Ideal.Value Idealize.ShloMosaic Idealize.ShloMosaic.TcCoe Idealize.SL.Sem Idealize.ShloMosaic.Pipeline

section block

variable {F : FTy → Type} [FloatOps F]

/-- The gated units of a block: the activation of the one product, times the other. -/
def units (g : FVec F S512x2816 .f32) (h : FVec F S512x1024 .bf16) (wu : FVec F S1024x2816 .bf16) : FVec F S512x2816 .bf16 :=
  truncf .bf16 (mulf (mulf g (divf (broadcast S512x2816 (Scalar.ofBits .f32 0x3F800000#32)) (addf (broadcast S512x2816 (Scalar.ofBits .f32 0x3F800000#32)) (exp (subf (broadcast S512x2816 (Scalar.ofBits .f32 0x00000000#32)) g))))) (matmul dot_S512x1024_S1024x2816_S512x2816_1_0_0_1_n_n none h wu (constant S512x2816 .f32 0x00000000#32))) bitsLt_bf16_f32

/-- The block's rows and their half steps. -/
def stepped (x : FVec F S512x1024 .f32) (gate : FVec F S1x1024 .f32) (a : FVec F S512x2816 .bf16) (wo : Vec F S2816x1024 .bf16) : FVec F S512x1024 .f32 :=
  addf x (mulf (broadcastTo S512x1024 (mulf (broadcast S1x1024 (Scalar.ofBits .f32 0x3F000000#32)) gate) broadcasts_S1x1024_S512x1024) (matmul dot_S512x2816_S2816x1024_S512x1024_1_0_0_1_n_n none a (shapeCast S2816x1024 wo shapeCasts_S2816x1024_S2816x1024) (constant S512x1024 .f32 0x00000000#32)))

/-- The final norm of every row with its weights. -/
def normed (x : FVec F S512x1024 .f32) (fw : Vec F S1x1024 .f32) : FVec F S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 fw shapeCasts_S1x1024_S1x1024) broadcasts_S1x1024_S512x1024)

/-- The final norm at an index. -/
theorem normed_at (x : FVec Ideal S512x1024 .f32) (fw : Vec Ideal S1x1024 .f32) (r : Fin 512) (d : Fin 1024) :
    normed x fw (ix2 r d) = Rows.norm 0x44800000#32 (fun k => x (ix2 r k)) (fun k => fw (ix2 0 k)) d := by
  pointwise [normed]
  rfl

/-- The block that is stored, from the values read. -/
theorem pay_eq (x : FVec F S512x1024 .f32) (gate : FVec F S1x1024 .f32) (h : FVec F S512x1024 .bf16) (g : FVec F S512x2816 .f32) (wu : FVec F S1024x2816 .bf16) (wo : Vec F S2816x1024 .bf16) (fw : Vec F S1x1024 .f32) :
    k0_pay1 x gate h g wu (constant S512x2816 .f32 0x00000000#32) wo fw = shapeCast S1x512x1024 (normed (stepped x gate (units g h wu) wo) fw) shapeCasts_S512x1024_S1x512x1024 := rfl

end block

/-- The scaled and shifted norm at an index. -/
theorem hidden_at (x : Vec Ideal S1x512x1024 .f32) (sh sc : Vec Ideal S1x1x1024 .f32) (w : Vec Ideal S1x1024 .f32) (r : Fin 512) (d : Fin 1024) :
    k0_pay4 x sh sc w (ix2 r d) = Rows.ada (fun k => x (ix3 0 r k)) (fun k => w (ix2 0 k)) (fun k => sh (ix3 0 0 k)) (fun k => sc (ix3 0 0 k)) d := by
  pointwise [k0_pay4, k0_pay2]
  rfl

/-- The first product at an index. -/
theorem first_at (x : Vec Ideal S1x512x1024 .f32) (sh sc : Vec Ideal S1x1x1024 .f32) (w : Vec Ideal S1x1024 .f32) (wg : Vec Ideal S1024x2816 .bf16) (r : Fin 512) (u : Fin 2816) :
    k0_pay5 x sh sc w wg (ix2 r u) = Rows.dot (fun k => k0_pay4 x sh sc w (ix2 r k)) (fun k u => wg (ix2 k u)) u := by
  pointwise [k0_pay5, Rows.dot]

/-- A gated unit. -/
theorem units_at (g : FVec Ideal S512x2816 .f32) (h : FVec Ideal S512x1024 .bf16) (wu : FVec Ideal S1024x2816 .bf16) (r : Fin 512) (u : Fin 2816) :
    units g h wu (ix2 r u) = Rows.silu (g (ix2 r u)) * Rows.dot (fun k => h (ix2 r k)) (fun k u => wu (ix2 k u)) u := by
  pointwise [units, Rows.dot, Rows.silu, Rows.sigm]
  rw [show (0 : EReal) - g (ix2 r u) = -g (ix2 r u) from (sub_eq_add_neg _ _).trans (zero_add _)]

/-- The half step at an index. -/
theorem stepped_at (x : FVec Ideal S512x1024 .f32) (gate : FVec Ideal S1x1024 .f32) (a : FVec Ideal S512x2816 .bf16) (wo : Vec Ideal S2816x1024 .bf16) (r : Fin 512) (d : Fin 1024) :
    stepped x gate a wo (ix2 r d) = x (ix2 r d) + Ideal.ofBits .f32 0x3F000000#32 * gate (ix2 0 d)
      * Rows.dot (fun u => a (ix2 r u)) (fun u d => wo (ix2 u d)) d := by
  pointwise [stepped, Rows.dot]

/-- The half of a block's row, as the row function of the values read. -/
theorem half_at (x : Vec Ideal S1x512x1024 .f32) (sh sc gate : Vec Ideal S1x1x1024 .f32) (w : Vec Ideal S1x1024 .f32) (wg wu : Vec Ideal S1024x2816 .bf16) (wo : Vec Ideal S2816x1024 .bf16) (r : Fin 512) (d : Fin 1024) :
    stepped (k0_pay2 x) (k0_pay3 gate) (units (k0_pay5 x sh sc w wg) (k0_pay4 x sh sc w) (k0_pay6 wu)) wo (ix2 r d)
      = Rows.half (fun k => x (ix3 0 r k)) (fun k => w (ix2 0 k)) (fun k => sh (ix3 0 0 k)) (fun k => sc (ix3 0 0 k)) (fun k => gate (ix3 0 0 k))
        (fun k u => wg (ix2 k u)) (fun k u => wu (ix2 k u)) (fun u d => wo (ix2 u d)) d := by
  have e2 : ∀ d, k0_pay2 x (ix2 r d) = x (ix3 0 r d) := by intro d; pointwise [k0_pay2]
  have e3 : k0_pay3 gate (ix2 0 d) = gate (ix3 0 0 d) := by pointwise [k0_pay3]
  have e6 : ∀ k u, k0_pay6 wu (ix2 k u) = wu (ix2 k u) := by intro k u; pointwise [k0_pay6]
  simp only [stepped_at, units_at, first_at, hidden_at, e2, e3, e6]
  rfl

variable (m : (ℓ : Loc nD τ sig) → Buf (Elt Ideal) ℓ)

/-- Where each window's block lies, per grid point. -/
theorem idx : ∀ t : Fin cfg0.N,
    win0_0.index t 0 = t.val / 16 ∧ win0_0.index t 1 = t.val % 16 ∧ win0_0.index t 2 = 0
    ∧ win0_1.index t 0 = t.val / 16 ∧ win0_1.index t 1 = 0 ∧ win0_1.index t 2 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0
    ∧ win0_7.index t 0 = t.val / 16 ∧ win0_7.index t 1 = t.val % 16 ∧ win0_7.index t 2 = 0 := by
  decide +kernel

/-- The tokens' array. -/
abbrev argX (c : Dev nD) : FVec Ideal S2x8192x1024 .f32 := m ((c.tc : Thread nD τ).loc main_arg0)
/-- The modulation's array. -/
abbrev argC (c : Dev nD) : FVec Ideal S2x9216 .f32 := m ((c.tc : Thread nD τ).loc main_arg1)
/-- The norm weights' array. -/
abbrev argW (c : Dev nD) : FVec Ideal S1024 .f32 := m ((c.tc : Thread nD τ).loc main_arg2)
/-- The first product's array. -/
abbrev argWi (c : Dev nD) : FVec Ideal S1024x5632 .f32 := m ((c.tc : Thread nD τ).loc main_arg3)
/-- The second product's array. -/
abbrev argWo (c : Dev nD) : FVec Ideal S2816x1024 .f32 := m ((c.tc : Thread nD τ).loc main_arg4)
/-- The final norm's array. -/
abbrev argFw (c : Dev nD) : FVec Ideal S1024 .f32 := m ((c.tc : Thread nD τ).loc main_arg5)

/-- A token's entry, in the block of a grid point. -/
theorem token_at (c : Dev nD) (t : Fin cfg0.N) (hb : t.val / 16 < 2) (r : Fin 512) (k : Fin 1024) :
    View.ld (iblk m c 0 t) r0_0 (ix3 0 r k) = argX m c (ix3 ⟨t.val / 16, hb⟩ ⟨t.val % 16 * 512 + r, by omega⟩ k) := by
  pointwise []
  blk_point [iblk, V, idx t]

/-- The shift's entry. -/
theorem shift_at (c : Dev nD) (t : Fin cfg0.N) (hb : t.val / 16 < 2) (k : Fin 1024) :
    View.ld (iblk m c 1 t) r0_1 (ix3 0 0 k) = argC m c (ix2 ⟨t.val / 16, hb⟩ ⟨6144 + k, by omega⟩) := by
  pointwise []
  blk_point [iblk, V, idx t]

/-- The scale's entry. -/
theorem scale_at (c : Dev nD) (t : Fin cfg0.N) (hb : t.val / 16 < 2) (k : Fin 1024) :
    View.ld (iblk m c 1 t) r0_2 (ix3 0 0 k) = argC m c (ix2 ⟨t.val / 16, hb⟩ ⟨7168 + k, by omega⟩) := by
  pointwise []
  blk_point [iblk, V, idx t]

/-- The gate's entry. -/
theorem gate_at (c : Dev nD) (t : Fin cfg0.N) (hb : t.val / 16 < 2) (k : Fin 1024) :
    View.ld (iblk m c 1 t) r0_3 (ix3 0 0 k) = argC m c (ix2 ⟨t.val / 16, hb⟩ ⟨8192 + k, by omega⟩) := by
  pointwise []
  blk_point [iblk, V, idx t]

/-- The norm's weight. -/
theorem weight_at (c : Dev nD) (t : Fin cfg0.N) (k : Fin 1024) :
    View.ld (iblk m c 2 t) r0_4 (ix2 0 k) = argW m c (ix1 k) := by
  pointwise []
  blk_point [iblk, V, idx t]

/-- The gated product's matrix. -/
theorem gated_at (c : Dev nD) (t : Fin cfg0.N) (k : Fin 1024) (u : Fin 2816) :
    View.ld (iblk m c 3 t) r0_5 (ix2 k u) = argWi m c (ix2 k ⟨u, by omega⟩) := by
  pointwise []
  blk_point [iblk, V, idx t]

/-- The other product's matrix. -/
theorem other_at (c : Dev nD) (t : Fin cfg0.N) (k : Fin 1024) (u : Fin 2816) :
    View.ld (iblk m c 4 t) r0_5 (ix2 k u) = argWi m c (ix2 k ⟨2816 + u, by omega⟩) := by
  pointwise []
  blk_point [iblk, V, idx t]

/-- The last product's matrix. -/
theorem last_at (c : Dev nD) (t : Fin cfg0.N) (u : Fin 2816) (d : Fin 1024) :
    View.ld (iblk m c 5 t) r0_6 (ix2 u d) = argWo m c (ix2 u d) := by
  pointwise []
  blk_point [iblk, V, idx t]

/-- The final norm's weight. -/
theorem closing_at (c : Dev nD) (t : Fin cfg0.N) (k : Fin 1024) :
    View.ld (iblk m c 6 t) r0_4 (ix2 0 k) = argFw m c (ix1 k) := by
  pointwise []
  blk_point [iblk, V, idx t]

/-- A row of a grid point's block, before the final norm. -/
theorem row_at (c : Dev nD) (t : Fin cfg0.N) (hb : t.val / 16 < 2) (r : Fin 512) (d : Fin 1024) :
    stepped (k0_pay2 (View.ld (iblk m c 0 t) r0_0)) (k0_pay3 (View.ld (iblk m c 1 t) r0_3)) (units (k0_pay5 (View.ld (iblk m c 0 t) r0_0) (View.ld (iblk m c 1 t) r0_1) (View.ld (iblk m c 1 t) r0_2) (View.ld (iblk m c 2 t) r0_4) (View.ld (iblk m c 3 t) r0_5)) (k0_pay4 (View.ld (iblk m c 0 t) r0_0) (View.ld (iblk m c 1 t) r0_1) (View.ld (iblk m c 1 t) r0_2) (View.ld (iblk m c 2 t) r0_4)) (k0_pay6 (View.ld (iblk m c 4 t) r0_5))) (View.ld (iblk m c 5 t) r0_6) (ix2 r d)
      = Rows.half (fun k => argX m c (ix3 ⟨t.val / 16, hb⟩ ⟨t.val % 16 * 512 + r, by omega⟩ k)) (fun k => argW m c (ix1 k))
      (fun k => argC m c (ix2 ⟨t.val / 16, hb⟩ ⟨6144 + k, by omega⟩)) (fun k => argC m c (ix2 ⟨t.val / 16, hb⟩ ⟨7168 + k, by omega⟩)) (fun k => argC m c (ix2 ⟨t.val / 16, hb⟩ ⟨8192 + k, by omega⟩))
      (fun k u => argWi m c (ix2 k ⟨u, by omega⟩)) (fun k u => argWi m c (ix2 k ⟨2816 + u, by omega⟩)) (fun u d => argWo m c (ix2 u d)) d := by
  rw [half_at]
  simp only [token_at m c t hb, shift_at m c t hb, scale_at m c t hb, gate_at m c t hb, weight_at m c t, gated_at m c t, other_at m c t, last_at m c t]

/-- What a grid point stores, at an index, is the reference's result there. -/
theorem core (c : Dev nD) (t : Fin cfg0.N) (x : S1x512x1024.Idx) (i : S2x8192x1024.Idx)
    (hi0 : (i 0 : ℕ) = t.val / 16) (hi1 : (i 1 : ℕ) = t.val % 16 * 512 + x 1) (hi2 : (i 2 : ℕ) = x 2) :
    k0_pay1 (k0_pay2 (View.ld (iblk m c 0 t) r0_0)) (k0_pay3 (View.ld (iblk m c 1 t) r0_3)) (k0_pay4 (View.ld (iblk m c 0 t) r0_0) (View.ld (iblk m c 1 t) r0_1) (View.ld (iblk m c 1 t) r0_2) (View.ld (iblk m c 2 t) r0_4)) (k0_pay5 (View.ld (iblk m c 0 t) r0_0) (View.ld (iblk m c 1 t) r0_1) (View.ld (iblk m c 1 t) r0_2) (View.ld (iblk m c 2 t) r0_4) (View.ld (iblk m c 3 t) r0_5)) (k0_pay6 (View.ld (iblk m c 4 t) r0_5)) (constant S512x2816 .f32 0x00000000#32) (View.ld (iblk m c 5 t) r0_6) (View.ld (iblk m c 6 t) r0_4) x
      = Cert.Reference3Ideal.Half.result (argX m c) (argC m c) (argW m c) (argWi m c) (argWo m c) (argFw m c) i := by
  have ht : t.val < 32 := t.isLt
  idx_vars x
  rename' x0 => z, x1 => r, x2 => d
  have hr : (r : ℕ) < 512 := r.isLt
  have hb : t.val / 16 < 2 := by omega
  have ei : i = ix3 (⟨t.val / 16, hb⟩ : Fin 2) (⟨t.val % 16 * 512 + r, by omega⟩ : Fin 8192) d := by
    funext a; apply Fin.ext
    match a with
    | ⟨0, _⟩ => exact hi0
    | ⟨1, _⟩ => exact hi1
    | ⟨2, _⟩ => exact hi2
  have ez : z = 0 := Subsingleton.elim _ _
  subst ez
  rw [ei, pay_eq, Cert.Reference3Ideal.Half.result]
  have cast : ∀ Y : FVec Ideal S512x1024 .f32, shapeCast S1x512x1024 Y shapeCasts_S512x1024_S1x512x1024 (ix3 0 r d) = Y (ix2 r d) := by
    intro Y; pointwise []
  rw [cast, normed_at, Cert.Reference3Ideal.Half.normed_at]
  simp only [row_at m c t hb, closing_at m c t, Cert.Reference3Ideal.Half.half_at]

/-- THE ARRAY: what the launch leaves is the reference's result. -/
theorem final (c : Dev nD) : (dats m 0 c).arrAt 7 cfg0.N = Cert.Reference3Ideal.Half.result (argX m c) (argC m c) (argW m c) (argWi m c) (argWo m c) (argFw m c) := by
  refine (dats m 0 c).arrAt_eq_of_covers 7 _ (by decide +kernel) (fun t hf y => ?_)
  have k0 : (((cfg0.win 7).blk t).view.emb y 0 : ℕ) = t.val / 16 := by
    have := (y 0).isLt
    blk_simp [idx t]
  have k1 : (((cfg0.win 7).blk t).view.emb y 1 : ℕ) = t.val % 16 * 512 + y 1 := by blk_simp [idx t]
  have k2 : (((cfg0.win 7).blk t).view.emb y 2 : ℕ) = y 2 := by blk_simp [idx t]
  rw [after0_7]
  unfold out0_7
  generalize ((cfg0.win 7).blk t).view.emb y = i at k0 k1 k2 ⊢
  canon_tiles x h
  exact core m c t x i k0 (k1.trans (congrArg (t.val % 16 * 512 + ·) h1)) (k2.trans h2)

end Cert.Kernel3Ideal.Half

end
-- ==== Proof.Half.Ref4.lean ====
/- What the first feed-forward half's reference computes, read at an index, for the batch of prompts. -/
module

public import proofs.«01_k».proof.Proof.Rows.Basic
public import proofs.«01_k».proof.Proof.Gen.Reference4Ideal.Run
public import Idealize.ShloMosaic.Lib.Pointwise

@[expose] public section

set_option maxRecDepth 16384

noncomputable section

namespace Cert.Reference4Ideal.Half

open Cert.Reference4Ideal Cert.Reference4Ideal.Gen Idealize.ShloMosaic Idealize.ShloMosaic.TcCoe Idealize.SL.Sem
open Cert

variable {F : FTy → Type} [FloatOps F]

/-- The modulation with an axis for the tokens. -/
def mods (c : FVec F S8x9216 .f32) : FVec F S8x1x9216 .f32 :=
  broadcastInDim S8x1x9216 ![0, 2] bcast_S8x9216_S8x1x9216_0_2 c

/-- The norm of every token with its weights. -/
def normed (x : FVec F S8x4096x1024 .f32) (w : FVec F S1024 .f32) : FVec F S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 w))

/-- The norm with the conditioning's scale and shift. -/
def hidden (x : FVec F S8x4096x1024 .f32) (c : FVec F S8x9216 .f32) (w : FVec F S1024 .f32) : FVec F S8x4096x1024 .f32 :=
  addf (mulf (normed x w) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 1024] (mods c) slices_S8x1x9216_S8x1x1024_0_0_1024)))) (broadcastInDim S8x4096x1024 ![0, 1, 2] bcast_S8x1x1024_S8x4096x1024_0_1_2 (extractStridedSlice S8x1x1024 ![0, 0, 0] (mods c) slices_S8x1x9216_S8x1x1024_0_0_0))

/-- The two halves of the first product, side by side. -/
def wide (h : FVec F S8x4096x1024 .f32) (w : FVec F S1024x5632 .f32) : FVec F S8x4096x5632 .f32 :=
  Host.dotGeneral dot_S8x4096x1024_S1024x5632_S8x4096x5632_2_0_01_1_n_n none h w

/-- The gated units. -/
def units (p : FVec F S8x4096x5632 .f32) : FVec F S8x4096x2816 .f32 :=
  mulf (mulf (extractStridedSlice S8x4096x2816 ![0, 0, 0] p slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] p slices_S8x4096x5632_S8x4096x2816_0_0_0)))))) (extractStridedSlice S8x4096x2816 ![0, 0, 2816] p slices_S8x4096x5632_S8x4096x2816_0_0_2816)

/-- The token and its half step. -/
def stepped (x : FVec F S8x4096x1024 .f32) (c : FVec F S8x9216 .f32) (a : FVec F S8x4096x2816 .f32) (wo : FVec F S2816x1024 .f32) : FVec F S8x4096x1024 .f32 :=
  addf x (mulf (broadcastInDim S8x4096x1024 ![0, 1, 2] bcast_S8x1x1024_S8x4096x1024_0_1_2 (mulf (broadcastInDim S8x1x1024 ![] bcast_S_S8x1x1024 (constant S_ .f32 0x3F000000#32)) (extractStridedSlice S8x1x1024 ![0, 0, 2048] (mods c) slices_S8x1x9216_S8x1x1024_0_0_2048))) (Host.dotGeneral dot_S8x4096x2816_S2816x1024_S8x4096x1024_2_0_01_1_n_n none a wo))

/-- The whole reference. -/
def result (x : FVec F S8x4096x1024 .f32) (c : FVec F S8x9216 .f32) (w : FVec F S1024 .f32) (wi : FVec F S1024x5632 .f32) (wo : FVec F S2816x1024 .f32) : FVec F S8x4096x1024 .f32 :=
  stepped x c (units (wide (hidden x c w) wi)) wo

/-- The reference's run leaves that result. -/
theorem res_eq (m : (ℓ : Loc nD τ sig) → Buf (Elt F) ℓ) (c : Dev nD) :
    Value.res_out0 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_out0 Value.res_main_v39
  rfl

/-- The norm at an index. -/
theorem normed_at (x : FVec Ideal S8x4096x1024 .f32) (w : FVec Ideal S1024 .f32) (b : Fin 8) (t : Fin 4096) (d : Fin 1024) :
    normed x w (ix3 b t d) = Rows.norm 0x44800000#32 (fun k => x (ix3 b t k)) (fun k => w (ix1 k)) d := by
  pointwise [normed]
  rfl

/-- The scaled and shifted norm at an index. -/
theorem hidden_at (x : FVec Ideal S8x4096x1024 .f32) (c : FVec Ideal S8x9216 .f32) (w : FVec Ideal S1024 .f32) (b : Fin 8) (t : Fin 4096) (d : Fin 1024) :
    hidden x c w (ix3 b t d) = Rows.ada (fun k => x (ix3 b t k)) (fun k => w (ix1 k))
      (fun k => c (ix2 b ⟨0 + k, by omega⟩)) (fun k => c (ix2 b ⟨1024 + k, by omega⟩)) d := by
  rw [Rows.ada, ← normed_at]
  pointwise [hidden, mods]

/-- The first product at an index. -/
theorem wide_at (h : FVec Ideal S8x4096x1024 .f32) (w : FVec Ideal S1024x5632 .f32) (b : Fin 8) (t : Fin 4096) (u : Fin 5632) :
    wide h w (ix3 b t u) = Rows.dot (fun k => h (ix3 b t k)) (fun k u => w (ix2 k u)) u := by
  pointwise [wide, Rows.dot]

/-- A gated unit. -/
theorem units_at (p : FVec Ideal S8x4096x5632 .f32) (b : Fin 8) (t : Fin 4096) (u : Fin 2816) :
    units p (ix3 b t u) = Rows.silu (p (ix3 b t ⟨u, by omega⟩)) * p (ix3 b t ⟨2816 + u, by omega⟩) := by
  pointwise [units]
  rfl

/-- The half step at an index. -/
theorem stepped_at (x : FVec Ideal S8x4096x1024 .f32) (c : FVec Ideal S8x9216 .f32) (a : FVec Ideal S8x4096x2816 .f32) (wo : FVec Ideal S2816x1024 .f32) (b : Fin 8) (t : Fin 4096) (d : Fin 1024) :
    stepped x c a wo (ix3 b t d) = x (ix3 b t d) + Ideal.ofBits .f32 0x3F000000#32 * c (ix2 b ⟨2048 + d, by omega⟩)
      * Rows.dot (fun u => a (ix3 b t u)) (fun u d => wo (ix2 u d)) d := by
  pointwise [stepped, mods]
  rfl

/-- The feed-forward half at an index, as the row function of the token. -/
theorem half_at (x : FVec Ideal S8x4096x1024 .f32) (c : FVec Ideal S8x9216 .f32) (w : FVec Ideal S1024 .f32) (wi : FVec Ideal S1024x5632 .f32) (wo : FVec Ideal S2816x1024 .f32) (b : Fin 8) (t : Fin 4096) (d : Fin 1024) :
    stepped x c (units (wide (hidden x c w) wi)) wo (ix3 b t d) = Rows.half (fun k => x (ix3 b t k)) (fun k => w (ix1 k))
      (fun k => c (ix2 b ⟨0 + k, by omega⟩)) (fun k => c (ix2 b ⟨1024 + k, by omega⟩)) (fun k => c (ix2 b ⟨2048 + k, by omega⟩))
      (fun k u => wi (ix2 k ⟨u, by omega⟩)) (fun k u => wi (ix2 k ⟨2816 + u, by omega⟩)) (fun u d => wo (ix2 u d)) d := by
  simp only [stepped_at, units_at, wide_at, hidden_at]
  rfl

end Cert.Reference4Ideal.Half

end
-- ==== Proof.Half.Kernel4.lean ====
/- What the first feed-forward half's kernel leaves, for the batch of prompts: each block of 512 tokens is the row function of each
   of its tokens, and so is the reference. -/
module

public import proofs.«01_k».proof.Proof.Half.Ref4
public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Kernel4Ideal.Half

open Cert Cert.Kernel4Ideal Cert.Kernel4Ideal.Gen Cert.Kernel4Ideal.Value Idealize.ShloMosaic Idealize.ShloMosaic.TcCoe Idealize.SL.Sem Idealize.ShloMosaic.Pipeline

section block

variable {F : FTy → Type} [FloatOps F]

/-- The gated units of a block: the activation of the one product, times the other. -/
def units (g : FVec F S512x2816 .f32) (h : FVec F S512x1024 .bf16) (wu : FVec F S1024x2816 .bf16) : FVec F S512x2816 .bf16 :=
  truncf .bf16 (mulf (mulf g (divf (broadcast S512x2816 (Scalar.ofBits .f32 0x3F800000#32)) (addf (broadcast S512x2816 (Scalar.ofBits .f32 0x3F800000#32)) (exp (subf (broadcast S512x2816 (Scalar.ofBits .f32 0x00000000#32)) g))))) (matmul dot_S512x1024_S1024x2816_S512x2816_1_0_0_1_n_n none h wu (constant S512x2816 .f32 0x00000000#32))) bitsLt_bf16_f32

/-- The block's rows and their half steps. -/
def stepped (x : FVec F S512x1024 .f32) (gate : FVec F S1x1024 .f32) (a : FVec F S512x2816 .bf16) (wo : Vec F S2816x1024 .bf16) : FVec F S512x1024 .f32 :=
  addf x (mulf (broadcastTo S512x1024 (mulf (broadcast S1x1024 (Scalar.ofBits .f32 0x3F000000#32)) gate) broadcasts_S1x1024_S512x1024) (matmul dot_S512x2816_S2816x1024_S512x1024_1_0_0_1_n_n none a (shapeCast S2816x1024 wo shapeCasts_S2816x1024_S2816x1024) (constant S512x1024 .f32 0x00000000#32)))

/-- The block that is stored, from the values read. -/
theorem pay_eq (x : FVec F S512x1024 .f32) (gate : FVec F S1x1024 .f32) (h : FVec F S512x1024 .bf16) (g : FVec F S512x2816 .f32) (wu : FVec F S1024x2816 .bf16) (wo : Vec F S2816x1024 .bf16) :
    k0_pay1 x gate h g wu (constant S512x2816 .f32 0x00000000#32) wo = shapeCast S1x512x1024 (stepped x gate (units g h wu) wo) shapeCasts_S512x1024_S1x512x1024 := rfl

end block

/-- The scaled and shifted norm at an index. -/
theorem hidden_at (x : Vec Ideal S1x512x1024 .f32) (sh sc : Vec Ideal S1x1x1024 .f32) (w : Vec Ideal S1x1024 .f32) (r : Fin 512) (d : Fin 1024) :
    k0_pay4 x sh sc w (ix2 r d) = Rows.ada (fun k => x (ix3 0 r k)) (fun k => w (ix2 0 k)) (fun k => sh (ix3 0 0 k)) (fun k => sc (ix3 0 0 k)) d := by
  pointwise [k0_pay4, k0_pay2]
  rfl

/-- The first product at an index. -/
theorem first_at (x : Vec Ideal S1x512x1024 .f32) (sh sc : Vec Ideal S1x1x1024 .f32) (w : Vec Ideal S1x1024 .f32) (wg : Vec Ideal S1024x2816 .bf16) (r : Fin 512) (u : Fin 2816) :
    k0_pay5 x sh sc w wg (ix2 r u) = Rows.dot (fun k => k0_pay4 x sh sc w (ix2 r k)) (fun k u => wg (ix2 k u)) u := by
  pointwise [k0_pay5, Rows.dot]

/-- A gated unit. -/
theorem units_at (g : FVec Ideal S512x2816 .f32) (h : FVec Ideal S512x1024 .bf16) (wu : FVec Ideal S1024x2816 .bf16) (r : Fin 512) (u : Fin 2816) :
    units g h wu (ix2 r u) = Rows.silu (g (ix2 r u)) * Rows.dot (fun k => h (ix2 r k)) (fun k u => wu (ix2 k u)) u := by
  pointwise [units, Rows.dot, Rows.silu, Rows.sigm]
  rw [show (0 : EReal) - g (ix2 r u) = -g (ix2 r u) from (sub_eq_add_neg _ _).trans (zero_add _)]

/-- The half step at an index. -/
theorem stepped_at (x : FVec Ideal S512x1024 .f32) (gate : FVec Ideal S1x1024 .f32) (a : FVec Ideal S512x2816 .bf16) (wo : Vec Ideal S2816x1024 .bf16) (r : Fin 512) (d : Fin 1024) :
    stepped x gate a wo (ix2 r d) = x (ix2 r d) + Ideal.ofBits .f32 0x3F000000#32 * gate (ix2 0 d)
      * Rows.dot (fun u => a (ix2 r u)) (fun u d => wo (ix2 u d)) d := by
  pointwise [stepped, Rows.dot]

/-- The half of a block's row, as the row function of the values read. -/
theorem half_at (x : Vec Ideal S1x512x1024 .f32) (sh sc gate : Vec Ideal S1x1x1024 .f32) (w : Vec Ideal S1x1024 .f32) (wg wu : Vec Ideal S1024x2816 .bf16) (wo : Vec Ideal S2816x1024 .bf16) (r : Fin 512) (d : Fin 1024) :
    stepped (k0_pay2 x) (k0_pay3 gate) (units (k0_pay5 x sh sc w wg) (k0_pay4 x sh sc w) (k0_pay6 wu)) wo (ix2 r d)
      = Rows.half (fun k => x (ix3 0 r k)) (fun k => w (ix2 0 k)) (fun k => sh (ix3 0 0 k)) (fun k => sc (ix3 0 0 k)) (fun k => gate (ix3 0 0 k))
        (fun k u => wg (ix2 k u)) (fun k u => wu (ix2 k u)) (fun u d => wo (ix2 u d)) d := by
  have e2 : ∀ d, k0_pay2 x (ix2 r d) = x (ix3 0 r d) := by intro d; pointwise [k0_pay2]
  have e3 : k0_pay3 gate (ix2 0 d) = gate (ix3 0 0 d) := by pointwise [k0_pay3]
  have e6 : ∀ k u, k0_pay6 wu (ix2 k u) = wu (ix2 k u) := by intro k u; pointwise [k0_pay6]
  simp only [stepped_at, units_at, first_at, hidden_at, e2, e3, e6]
  rfl

variable (m : (ℓ : Loc nD τ sig) → Buf (Elt Ideal) ℓ)

/-- Where each window's block lies, per grid point. -/
theorem idx : ∀ t : Fin cfg0.N,
    win0_0.index t 0 = t.val / 8 ∧ win0_0.index t 1 = t.val % 8 ∧ win0_0.index t 2 = 0
    ∧ win0_1.index t 0 = t.val / 8 ∧ win0_1.index t 1 = 0 ∧ win0_1.index t 2 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0
    ∧ win0_7.index t 0 = t.val / 8 ∧ win0_7.index t 1 = t.val % 8 ∧ win0_7.index t 2 = 0 := by
  decide +kernel

/-- The tokens' array. -/
abbrev argX (c : Dev nD) : FVec Ideal S8x4096x1024 .f32 := m ((c.tc : Thread nD τ).loc main_arg0)
/-- The modulation's array. -/
abbrev argC (c : Dev nD) : FVec Ideal S8x9216 .f32 := m ((c.tc : Thread nD τ).loc main_arg1)
/-- The norm weights' array. -/
abbrev argW (c : Dev nD) : FVec Ideal S1024 .f32 := m ((c.tc : Thread nD τ).loc main_arg2)
/-- The first product's array. -/
abbrev argWi (c : Dev nD) : FVec Ideal S1024x5632 .f32 := m ((c.tc : Thread nD τ).loc main_arg3)
/-- The second product's array. -/
abbrev argWo (c : Dev nD) : FVec Ideal S2816x1024 .f32 := m ((c.tc : Thread nD τ).loc main_arg4)

/-- A token's entry, in the block of a grid point. -/
theorem token_at (c : Dev nD) (t : Fin cfg0.N) (hb : t.val / 8 < 8) (r : Fin 512) (k : Fin 1024) :
    View.ld (iblk m c 0 t) r0_0 (ix3 0 r k) = argX m c (ix3 ⟨t.val / 8, hb⟩ ⟨t.val % 8 * 512 + r, by omega⟩ k) := by
  pointwise []
  blk_point [iblk, V, idx t]

/-- The shift's entry. -/
theorem shift_at (c : Dev nD) (t : Fin cfg0.N) (hb : t.val / 8 < 8) (k : Fin 1024) :
    View.ld (iblk m c 1 t) r0_1 (ix3 0 0 k) = argC m c (ix2 ⟨t.val / 8, hb⟩ ⟨0 + k, by omega⟩) := by
  pointwise []
  blk_point [iblk, V, idx t]

/-- The scale's entry. -/
theorem scale_at (c : Dev nD) (t : Fin cfg0.N) (hb : t.val / 8 < 8) (k : Fin 1024) :
    View.ld (iblk m c 1 t) r0_2 (ix3 0 0 k) = argC m c (ix2 ⟨t.val / 8, hb⟩ ⟨1024 + k, by omega⟩) := by
  pointwise []
  blk_point [iblk, V, idx t]

/-- The gate's entry. -/
theorem gate_at (c : Dev nD) (t : Fin cfg0.N) (hb : t.val / 8 < 8) (k : Fin 1024) :
    View.ld (iblk m c 1 t) r0_3 (ix3 0 0 k) = argC m c (ix2 ⟨t.val / 8, hb⟩ ⟨2048 + k, by omega⟩) := by
  pointwise []
  blk_point [iblk, V, idx t]

/-- The norm's weight. -/
theorem weight_at (c : Dev nD) (t : Fin cfg0.N) (k : Fin 1024) :
    View.ld (iblk m c 2 t) r0_4 (ix2 0 k) = argW m c (ix1 k) := by
  pointwise []
  blk_point [iblk, V, idx t]

/-- The gated product's matrix. -/
theorem gated_at (c : Dev nD) (t : Fin cfg0.N) (k : Fin 1024) (u : Fin 2816) :
    View.ld (iblk m c 3 t) r0_5 (ix2 k u) = argWi m c (ix2 k ⟨u, by omega⟩) := by
  pointwise []
  blk_point [iblk, V, idx t]

/-- The other product's matrix. -/
theorem other_at (c : Dev nD) (t : Fin cfg0.N) (k : Fin 1024) (u : Fin 2816) :
    View.ld (iblk m c 4 t) r0_5 (ix2 k u) = argWi m c (ix2 k ⟨2816 + u, by omega⟩) := by
  pointwise []
  blk_point [iblk, V, idx t]

/-- The last product's matrix. -/
theorem last_at (c : Dev nD) (t : Fin cfg0.N) (u : Fin 2816) (d : Fin 1024) :
    View.ld (iblk m c 5 t) r0_6 (ix2 u d) = argWo m c (ix2 u d) := by
  pointwise []
  blk_point [iblk, V, idx t]

/-- A row of a grid point's block, before it is stored. -/
theorem row_at (c : Dev nD) (t : Fin cfg0.N) (hb : t.val / 8 < 8) (r : Fin 512) (d : Fin 1024) :
    stepped (k0_pay2 (View.ld (iblk m c 0 t) r0_0)) (k0_pay3 (View.ld (iblk m c 1 t) r0_3)) (units (k0_pay5 (View.ld (iblk m c 0 t) r0_0) (View.ld (iblk m c 1 t) r0_1) (View.ld (iblk m c 1 t) r0_2) (View.ld (iblk m c 2 t) r0_4) (View.ld (iblk m c 3 t) r0_5)) (k0_pay4 (View.ld (iblk m c 0 t) r0_0) (View.ld (iblk m c 1 t) r0_1) (View.ld (iblk m c 1 t) r0_2) (View.ld (iblk m c 2 t) r0_4)) (k0_pay6 (View.ld (iblk m c 4 t) r0_5))) (View.ld (iblk m c 5 t) r0_6) (ix2 r d)
      = Rows.half (fun k => argX m c (ix3 ⟨t.val / 8, hb⟩ ⟨t.val % 8 * 512 + r, by omega⟩ k)) (fun k => argW m c (ix1 k))
      (fun k => argC m c (ix2 ⟨t.val / 8, hb⟩ ⟨0 + k, by omega⟩)) (fun k => argC m c (ix2 ⟨t.val / 8, hb⟩ ⟨1024 + k, by omega⟩)) (fun k => argC m c (ix2 ⟨t.val / 8, hb⟩ ⟨2048 + k, by omega⟩))
      (fun k u => argWi m c (ix2 k ⟨u, by omega⟩)) (fun k u => argWi m c (ix2 k ⟨2816 + u, by omega⟩)) (fun u d => argWo m c (ix2 u d)) d := by
  rw [half_at]
  simp only [token_at m c t hb, shift_at m c t hb, scale_at m c t hb, gate_at m c t hb, weight_at m c t, gated_at m c t, other_at m c t, last_at m c t]

/-- What a grid point stores, at an index, is the reference's result there. -/
theorem core (c : Dev nD) (t : Fin cfg0.N) (x : S1x512x1024.Idx) (i : S8x4096x1024.Idx)
    (hi0 : (i 0 : ℕ) = t.val / 8) (hi1 : (i 1 : ℕ) = t.val % 8 * 512 + x 1) (hi2 : (i 2 : ℕ) = x 2) :
    k0_pay1 (k0_pay2 (View.ld (iblk m c 0 t) r0_0)) (k0_pay3 (View.ld (iblk m c 1 t) r0_3)) (k0_pay4 (View.ld (iblk m c 0 t) r0_0) (View.ld (iblk m c 1 t) r0_1) (View.ld (iblk m c 1 t) r0_2) (View.ld (iblk m c 2 t) r0_4)) (k0_pay5 (View.ld (iblk m c 0 t) r0_0) (View.ld (iblk m c 1 t) r0_1) (View.ld (iblk m c 1 t) r0_2) (View.ld (iblk m c 2 t) r0_4) (View.ld (iblk m c 3 t) r0_5)) (k0_pay6 (View.ld (iblk m c 4 t) r0_5)) (constant S512x2816 .f32 0x00000000#32) (View.ld (iblk m c 5 t) r0_6) x
      = Cert.Reference4Ideal.Half.result (argX m c) (argC m c) (argW m c) (argWi m c) (argWo m c) i := by
  have ht : t.val < 64 := t.isLt
  idx_vars x
  rename' x0 => z, x1 => r, x2 => d
  have hr : (r : ℕ) < 512 := r.isLt
  have hb : t.val / 8 < 8 := by omega
  have ei : i = ix3 (⟨t.val / 8, hb⟩ : Fin 8) (⟨t.val % 8 * 512 + r, by omega⟩ : Fin 4096) d := by
    funext a; apply Fin.ext
    match a with
    | ⟨0, _⟩ => exact hi0
    | ⟨1, _⟩ => exact hi1
    | ⟨2, _⟩ => exact hi2
  have ez : z = 0 := Subsingleton.elim _ _
  subst ez
  rw [ei, pay_eq, Cert.Reference4Ideal.Half.result]
  have cast : ∀ Y : FVec Ideal S512x1024 .f32, shapeCast S1x512x1024 Y shapeCasts_S512x1024_S1x512x1024 (ix3 0 r d) = Y (ix2 r d) := by
    intro Y; pointwise []
  rw [cast, row_at m c t hb, Cert.Reference4Ideal.Half.half_at]

/-- THE ARRAY: what the launch leaves is the reference's result. -/
theorem final (c : Dev nD) : (dats m 0 c).arrAt 7 cfg0.N = Cert.Reference4Ideal.Half.result (argX m c) (argC m c) (argW m c) (argWi m c) (argWo m c) := by
  refine (dats m 0 c).arrAt_eq_of_covers 7 _ (by decide +kernel) (fun t hf y => ?_)
  have k0 : (((cfg0.win 7).blk t).view.emb y 0 : ℕ) = t.val / 8 := by
    have := (y 0).isLt
    blk_simp [idx t]
  have k1 : (((cfg0.win 7).blk t).view.emb y 1 : ℕ) = t.val % 8 * 512 + y 1 := by blk_simp [idx t]
  have k2 : (((cfg0.win 7).blk t).view.emb y 2 : ℕ) = y 2 := by blk_simp [idx t]
  rw [after0_7]
  unfold out0_7
  generalize ((cfg0.win 7).blk t).view.emb y = i at k0 k1 k2 ⊢
  canon_tiles x h
  exact core m c t x i k0 (k1.trans (congrArg (t.val % 8 * 512 + ·) h1)) (k2.trans h2)

end Cert.Kernel4Ideal.Half

end
-- ==== Proof.MixOut.Ref.lean ====
/- What the mixer's reference computes from the scans' and the attention's outputs, read at an index. -/
module

public import proofs.«01_k».proof.Proof.Rows.Basic
public import proofs.«01_k».proof.Proof.Gen.Reference5Ideal.Run
public import Idealize.ShloMosaic.Lib.Pointwise

@[expose] public section

set_option maxRecDepth 16384

noncomputable section

namespace Cert.Reference5Ideal.Mix

open Cert Cert.Reference5Ideal Cert.Reference5Ideal.Gen Idealize.ShloMosaic Idealize.ShloMosaic.TcCoe Idealize.SL.Sem

variable {F : FTy → Type} [FloatOps F]

/-- The sum of the two scans, by heads. -/
def both (f b : FVec F S8x4096x1024 .f32) : FVec F S8x4096x8x128 .f32 :=
  addf (shapeCast _ f shapeCasts_S8x4096x1024_S8x4096x8x128) (shapeCast _ b shapeCasts_S8x4096x1024_S8x4096x8x128)

/-- The norm of every head with the heads' weights. -/
def normed (o : FVec F S8x4096x8x128 .f32) (w : FVec F S128 .f32) : FVec F S8x4096x8x128 .f32 :=
  mulf (mulf o (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf o o) (constant S_ .f32 0x00000000#32) reducesTo_S8x4096x8x128_S8x4096x8_d3 h_S_)) (broadcastInDim S8x4096x8x1 ![] bcast_S_S8x4096x8x1 (constant S_ .f32 0x43000000#32))) (broadcastInDim S8x4096x8x1 ![] bcast_S_S8x4096x8x1 (constant S_ .f32 0x358637BD#32)))))) (broadcastInDim S8x4096x8x128 ![0, 1, 2, 3] bcast_S1x1x1x128_S8x4096x8x128_0_1_2_3 (broadcastInDim S1x1x1x128 ![3] bcast_S128_S1x1x1x128_3 w))

/-- The activated gate of every head. -/
def gates (z : FVec F S8x4096x1024 .bf16) : FVec F S8x4096x8x128 .f32 :=
  mulf (extf .f32 (shapeCast _ z shapeCasts_S8x4096x1024_S8x4096x8x128) bitsLt_bf16_f32) (Host.divf (broadcastInDim S8x4096x8x128 ![] bcast_S_S8x4096x8x128 (constant S_ .f32 0x3F800000#32)) (addf (broadcastInDim S8x4096x8x128 ![] bcast_S_S8x4096x8x128 (constant S_ .f32 0x3F800000#32)) (Host.exp (Host.negf (extf .f32 (shapeCast _ z shapeCasts_S8x4096x1024_S8x4096x8x128) bitsLt_bf16_f32)))))

/-- The gated norms, as rows again. -/
def heads (f b : FVec F S8x4096x1024 .f32) (z : FVec F S8x4096x1024 .bf16) (w : FVec F S128 .f32) : FVec F S8x4096x1024 .f32 :=
  shapeCast _ (mulf (normed (both f b) w) (gates z)) shapeCasts_S8x4096x8x128_S8x4096x1024

/-- A gate's logistic function. -/
def opened (g : FVec F S8x4096x1024 .bf16) : FVec F S8x4096x1024 .f32 :=
  Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extf .f32 g bitsLt_bf16_f32))))

/-- A row times a matrix. -/
def times (y : FVec F S8x4096x1024 .f32) (w : FVec F S1024x1024 .f32) : FVec F S8x4096x1024 .f32 :=
  Host.dotGeneral dot_S8x4096x1024_S1024x1024_S8x4096x1024_2_0_01_1_n_n none y w

/-- The two gated projections' sum. -/
def merged (y : FVec F S8x4096x1024 .f32) (a ga gb : FVec F S8x4096x1024 .bf16) (wa wb : FVec F S1024x1024 .f32) : FVec F S8x4096x1024 .f32 :=
  addf (mulf (opened ga) (times y wa)) (mulf (opened gb) (times (extf .f32 a bitsLt_bf16_f32) wb))

/-- The whole reference. -/
def result (x : FVec F S8x4096x1024 .f32) (c : FVec F S8x9216 .f32) (f b : FVec F S8x4096x1024 .f32) (z a ga gb : FVec F S8x4096x1024 .bf16) (w : FVec F S128 .f32) (wa wb wo : FVec F S1024x1024 .f32) : FVec F S8x4096x1024 .f32 :=
  addf x (mulf (broadcastInDim S8x4096x1024 ![0, 1, 2] bcast_S8x1x1024_S8x4096x1024_0_1_2 (extractStridedSlice S8x1x1024 ![0, 0, 5120] (broadcastInDim S8x1x9216 ![0, 2] bcast_S8x9216_S8x1x9216_0_2 c) slices_S8x1x9216_S8x1x1024_0_0_5120)) (times (merged (heads f b z w) a ga gb wa wb) wo))

/-- A lane of a head's norm. -/
theorem normed_at (o : FVec Ideal S8x4096x8x128 .f32) (w : FVec Ideal S128 .f32) (b : Fin 8) (t : Fin 4096) (h : Fin 8) (d : Fin 128) :
    normed o w (ix4 b t h d) = Rows.norm 0x43000000#32 (fun e => o (ix4 b t h e)) (fun e => w (ix1 e)) d := by
  pointwise [normed]
  rfl

/-- A lane of the scans' sum. -/
theorem both_at (f g : FVec Ideal S8x4096x1024 .f32) (b : Fin 8) (t : Fin 4096) (h : Fin 8) (d : Fin 128) :
    both f g (ix4 b t h d) = f (ix3 b t ⟨h * 128 + d, by omega⟩) + g (ix3 b t ⟨h * 128 + d, by omega⟩) := by
  pointwise [both]

/-- A lane of a head's activated gate. -/
theorem gates_at (z : FVec Ideal S8x4096x1024 .bf16) (b : Fin 8) (t : Fin 4096) (h : Fin 8) (d : Fin 128) :
    gates z (ix4 b t h d) = Rows.silu (z (ix3 b t ⟨h * 128 + d, by omega⟩)) := by
  pointwise [gates]
  rfl

/-- A lane of the gated norms. -/
theorem heads_at (f g : FVec Ideal S8x4096x1024 .f32) (z : FVec Ideal S8x4096x1024 .bf16) (w : FVec Ideal S128 .f32) (b : Fin 8) (t : Fin 4096) (j : Fin 1024) :
    heads f g z w (ix3 b t j) = Rows.heads (fun k => f (ix3 b t k) + g (ix3 b t k)) (fun k => z (ix3 b t k)) (fun e => w (ix1 e)) j := by
  obtain ⟨h, d, rfl⟩ : ∃ (h : Fin 8) (d : Fin 128), (⟨h * 128 + d, by omega⟩ : Fin 1024) = j :=
    ⟨⟨j / 128, by omega⟩, ⟨j % 128, by omega⟩, Fin.ext (by simp only; omega)⟩
  rw [Rows.heads_lane]
  pointwise [heads, normed_at, both_at, gates_at]

/-- A gate's logistic function at an index. -/
theorem opened_at (g : FVec Ideal S8x4096x1024 .bf16) (b : Fin 8) (t : Fin 4096) (j : Fin 1024) :
    opened g (ix3 b t j) = Rows.sigm (g (ix3 b t j)) := by
  pointwise [opened]
  rfl

/-- A row times a matrix, at an index. -/
theorem times_at (y : FVec Ideal S8x4096x1024 .f32) (w : FVec Ideal S1024x1024 .f32) (b : Fin 8) (t : Fin 4096) (j : Fin 1024) :
    times y w (ix3 b t j) = Rows.dot (fun k => y (ix3 b t k)) (fun k j => w (ix2 k j)) j := by
  pointwise [times, Rows.dot]

/-- The merged projections at an index. -/
theorem merged_at (y : FVec Ideal S8x4096x1024 .f32) (a ga gb : FVec Ideal S8x4096x1024 .bf16) (wa wb : FVec Ideal S1024x1024 .f32) (b : Fin 8) (t : Fin 4096) (j : Fin 1024) :
    merged y a ga gb wa wb (ix3 b t j) = Rows.sigm (ga (ix3 b t j)) * Rows.dot (fun k => y (ix3 b t k)) (fun k j => wa (ix2 k j)) j
      + Rows.sigm (gb (ix3 b t j)) * Rows.dot (fun k => a (ix3 b t k)) (fun k j => wb (ix2 k j)) j := by
  pointwise [merged, opened_at, times_at]

/-- The reference's result at an index, as the row function of the token. -/
theorem result_at (x : FVec Ideal S8x4096x1024 .f32) (c : FVec Ideal S8x9216 .f32) (f g : FVec Ideal S8x4096x1024 .f32) (z a ga gb : FVec Ideal S8x4096x1024 .bf16) (w : FVec Ideal S128 .f32) (wa wb wo : FVec Ideal S1024x1024 .f32) (b : Fin 8) (t : Fin 4096) (j : Fin 1024) :
    result x c f g z a ga gb w wa wb wo (ix3 b t j) = Rows.mixed (fun k => x (ix3 b t k)) (fun k => c (ix2 b ⟨5120 + k, by omega⟩))
      (Rows.heads (fun k => f (ix3 b t k) + g (ix3 b t k)) (fun k => z (ix3 b t k)) (fun e => w (ix1 e)))
      (fun k => a (ix3 b t k)) (fun k => ga (ix3 b t k)) (fun k => gb (ix3 b t k))
      (fun k j => wa (ix2 k j)) (fun k j => wb (ix2 k j)) (fun k j => wo (ix2 k j)) j := by
  pointwise [result, times_at, merged_at, heads_at, Rows.mixed]

end Cert.Reference5Ideal.Mix

end
-- ==== Proof.MixOut.Kernel.lean ====
/- What the mixer's output kernel leaves: its scratch holds the gated norms of the block's heads, each block of 512 tokens is the
   row function of each of its tokens, and so is the reference. -/
module

public import proofs.«01_k».proof.Proof.MixOut.Ref
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Kernel5Ideal.Mix

open Cert Cert.Kernel5Ideal Cert.Kernel5Ideal.Gen Cert.Kernel5Ideal.Value Idealize.ShloMosaic Idealize.ShloMosaic.TcCoe Idealize.SL.Sem Idealize.ShloMosaic.Pipeline

section block

variable {F : FTy → Type} [FloatOps F]

/-- One head of a block: its norm times its activated gate. -/
def head (o : FVec F S512x1024 .f32) (w : FVec F S1x128 .f32) (z : Vec F S1x512x128 .bf16) (off : ℕ) (h : S512x1024.Slices ![0, off] S512x128) : FVec F S512x128 .bf16 :=
  shapeCast S512x128 (truncf .bf16 (mulf (mulf (mulf (extractStridedSlice S512x128 ![0, off] o h) (broadcastTo S512x128 (rsqrt (addf (divf (shapeCast S512x1 (multiReduction .add [1] S512 (mulf (extractStridedSlice S512x128 ![0, off] o h) (extractStridedSlice S512x128 ![0, off] o h)) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 w broadcasts_S1x128_S512x128))
    (mulf (extf .f32 (shapeCast S512x128 z shapeCasts_S1x512x128_S512x128) bitsLt_bf16_f32) (divf (broadcast S512x128 (Scalar.ofBits .f32 0x3F800000#32)) (addf (broadcast S512x128 (Scalar.ofBits .f32 0x3F800000#32)) (exp (subf (broadcast S512x128 (Scalar.ofBits .f32 0x00000000#32)) (extf .f32 (shapeCast S512x128 z shapeCasts_S1x512x128_S512x128) bitsLt_bf16_f32))))))) bitsLt_bf16_f32) shapeCasts_S512x128_S512x128

/-- A gate's logistic function, over a block. -/
def opened (g : Vec F S1x512x1024 .bf16) : FVec F S512x1024 .f32 :=
  divf (broadcast S512x1024 (Scalar.ofBits .f32 0x3F800000#32)) (addf (broadcast S512x1024 (Scalar.ofBits .f32 0x3F800000#32)) (exp (subf (broadcast S512x1024 (Scalar.ofBits .f32 0x00000000#32)) (extf .f32 (shapeCast S512x1024 g shapeCasts_S1x512x1024_S512x1024) bitsLt_bf16_f32))))

/-- A block's rows times a matrix. -/
def times (y : FVec F S512x1024 .bf16) (w : Vec F S1024x1024 .bf16) : FVec F S512x1024 .f32 :=
  matmul dot_S512x1024_S1024x1024_S512x1024_1_0_0_1_n_n none y (shapeCast S1024x1024 w shapeCasts_S1024x1024_S1024x1024) (constant S512x1024 .f32 0x00000000#32)

/-- The block that is stored, from the values read. -/
theorem pay_eq (x : Vec F S1x512x1024 .f32) (y : Vec F S512x1024 .bf16) (wa wb wo : Vec F S1024x1024 .bf16) (a ga gb : Vec F S1x512x1024 .bf16) (gate : Vec F S1x1x1024 .f32) :
    k0_pay1 (k0_pay22 (k0_pay2 x) (k0_pay21 y wa) a wb ga gb gate wo)
      = shapeCast S1x512x1024 (addf (shapeCast S512x1024 x shapeCasts_S1x512x1024_S512x1024) (mulf (broadcastTo S512x1024 (shapeCast S1x1024 gate shapeCasts_S1x1x1024_S1x1024) broadcasts_S1x1024_S512x1024)
        (times (truncf .bf16 (addf (mulf (opened ga) (times y wa)) (mulf (opened gb) (times (shapeCast S512x1024 a shapeCasts_S1x512x1024_S512x1024) wb))) bitsLt_bf16_f32) wo))) shapeCasts_S512x1024_S1x512x1024 := rfl

end block

/-- A lane of a head. -/
theorem head_at (o : FVec Ideal S512x1024 .f32) (w : FVec Ideal S1x128 .f32) (z : Vec Ideal S1x512x128 .bf16) (off : ℕ) (h) (ho : off + 128 ≤ 1024) (r : Fin 512) (d : Fin 128) :
    head o w z off h (ix2 r d) = Rows.norm 0x43000000#32 (fun e => o (ix2 r ⟨off + e, by omega⟩)) (fun e => w (ix2 0 e)) d * Rows.silu (z (ix3 0 r d)) := by
  pointwise [head]
  rw [show (0 : EReal) - z (ix3 0 r d) = -z (ix3 0 r d) from (sub_eq_add_neg _ _).trans (zero_add _)]
  rfl

/-- A gate's logistic function at an index. -/
theorem opened_at (g : Vec Ideal S1x512x1024 .bf16) (r : Fin 512) (j : Fin 1024) : opened g (ix2 r j) = Rows.sigm (g (ix3 0 r j)) := by
  pointwise [opened]
  rw [show (0 : EReal) - g (ix3 0 r j) = -g (ix3 0 r j) from (sub_eq_add_neg _ _).trans (zero_add _)]
  rfl

/-- A block's rows times a matrix, at an index. -/
theorem times_at (y : FVec Ideal S512x1024 .bf16) (w : Vec Ideal S1024x1024 .bf16) (r : Fin 512) (j : Fin 1024) :
    times y w (ix2 r j) = Rows.dot (fun k => y (ix2 r k)) (fun k j => w (ix2 k j)) j := by
  pointwise [times, Rows.dot]

/-- The block that is stored, at an index, as the row function of the values read. -/
theorem pay_at (x : Vec Ideal S1x512x1024 .f32) (y : Vec Ideal S512x1024 .bf16) (wa wb wo : Vec Ideal S1024x1024 .bf16) (a ga gb : Vec Ideal S1x512x1024 .bf16) (gate : Vec Ideal S1x1x1024 .f32) (r : Fin 512) (j : Fin 1024) :
    k0_pay1 (F := Ideal) (k0_pay22 (k0_pay2 x) (k0_pay21 y wa) a wb ga gb gate wo) (ix3 0 r j)
      = Rows.mixed (fun k => x (ix3 0 r k)) (fun k => gate (ix3 0 0 k)) (fun k => y (ix2 r k)) (fun k => a (ix3 0 r k)) (fun k => ga (ix3 0 r k)) (fun k => gb (ix3 0 r k))
        (fun k j => wa (ix2 k j)) (fun k j => wb (ix2 k j)) (fun k j => wo (ix2 k j)) j := by
  rw [pay_eq]
  pointwise [times_at, opened_at, Rows.mixed]

variable (m : (ℓ : Loc nD τ sig) → Buf (Elt Ideal) ℓ)

/-- Where each window's block lies, per grid point. -/
theorem idx : ∀ t : Fin cfg0.N,
    win0_0.index t 0 = t.val / 8 ∧ win0_0.index t 1 = t.val % 8 ∧ win0_0.index t 2 = 0
    ∧ win0_1.index t 0 = t.val / 8 ∧ win0_1.index t 1 = 0 ∧ win0_1.index t 2 = 0
    ∧ win0_2.index t 0 = t.val / 8 ∧ win0_2.index t 1 = t.val % 8 ∧ win0_2.index t 2 = 0
    ∧ win0_3.index t 0 = t.val / 8 ∧ win0_3.index t 1 = t.val % 8 ∧ win0_3.index t 2 = 0
    ∧ win0_4.index t 0 = t.val / 8 ∧ win0_4.index t 1 = t.val % 8 ∧ win0_4.index t 2 = 0
    ∧ win0_5.index t 0 = t.val / 8 ∧ win0_5.index t 1 = t.val % 8 ∧ win0_5.index t 2 = 0
    ∧ win0_6.index t 0 = t.val / 8 ∧ win0_6.index t 1 = t.val % 8 ∧ win0_6.index t 2 = 0
    ∧ win0_7.index t 0 = t.val / 8 ∧ win0_7.index t 1 = t.val % 8 ∧ win0_7.index t 2 = 0
    ∧ win0_8.index t 0 = 0 ∧ win0_8.index t 1 = 0
    ∧ win0_9.index t 0 = 0 ∧ win0_9.index t 1 = 0
    ∧ win0_10.index t 0 = 0 ∧ win0_10.index t 1 = 0
    ∧ win0_11.index t 0 = 0 ∧ win0_11.index t 1 = 0
    ∧ win0_12.index t 0 = t.val / 8 ∧ win0_12.index t 1 = t.val % 8 ∧ win0_12.index t 2 = 0 := by
  decide +kernel

/-- The tokens' array. -/
abbrev argX (c : Dev nD) : FVec Ideal S8x4096x1024 .f32 := m ((c.tc : Thread nD τ).loc main_arg0)
/-- The modulation's array. -/
abbrev argC (c : Dev nD) : FVec Ideal S8x9216 .f32 := m ((c.tc : Thread nD τ).loc main_arg1)
/-- The forward scan's array. -/
abbrev argF (c : Dev nD) : FVec Ideal S8x4096x1024 .f32 := m ((c.tc : Thread nD τ).loc main_arg2)
/-- The backward scan's array. -/
abbrev argB (c : Dev nD) : FVec Ideal S8x4096x1024 .f32 := m ((c.tc : Thread nD τ).loc main_arg3)
/-- The heads' gates' array. -/
abbrev argZ (c : Dev nD) : FVec Ideal S8x4096x1024 .bf16 := m ((c.tc : Thread nD τ).loc main_arg4)
/-- The attention's array. -/
abbrev argA (c : Dev nD) : FVec Ideal S8x4096x1024 .bf16 := m ((c.tc : Thread nD τ).loc main_arg5)
/-- The scan's gate's array. -/
abbrev argGa (c : Dev nD) : FVec Ideal S8x4096x1024 .bf16 := m ((c.tc : Thread nD τ).loc main_arg6)
/-- The attention's gate's array. -/
abbrev argGb (c : Dev nD) : FVec Ideal S8x4096x1024 .bf16 := m ((c.tc : Thread nD τ).loc main_arg7)
/-- The heads' norm's array. -/
abbrev argW (c : Dev nD) : FVec Ideal S128 .f32 := m ((c.tc : Thread nD τ).loc main_arg8)
/-- The scan's projection's array. -/
abbrev argWa (c : Dev nD) : FVec Ideal S1024x1024 .f32 := m ((c.tc : Thread nD τ).loc main_arg9)
/-- The attention's projection's array. -/
abbrev argWb (c : Dev nD) : FVec Ideal S1024x1024 .f32 := m ((c.tc : Thread nD τ).loc main_arg10)
/-- The output's projection's array. -/
abbrev argWo (c : Dev nD) : FVec Ideal S1024x1024 .f32 := m ((c.tc : Thread nD τ).loc main_arg11)

/-- The tokens' entry, in the block of a grid point. -/
theorem inX_at (c : Dev nD) (t : Fin cfg0.N) (hb : t.val / 8 < 8) (r : Fin 512) (k : Fin 1024) :
    iblk m c 0 t (ix3 0 r k) = argX m c (ix3 ⟨t.val / 8, hb⟩ ⟨t.val % 8 * 512 + r, by omega⟩ k) := by
  blk_point [iblk, V, idx t]

/-- The gate's entry. -/
theorem inC_at (c : Dev nD) (t : Fin cfg0.N) (hb : t.val / 8 < 8) (k : Fin 1024) :
    View.ld (iblk m c 1 t) (Rect.unit (s := S1x9x1024) ![0, 5, 0] S1x1x1024.size inb_S1x9x1024_S1x1x1024_0_5_0) (ix3 0 0 k) = argC m c (ix2 ⟨t.val / 8, hb⟩ ⟨5120 + k, by omega⟩) := by
  pointwise []
  blk_point [iblk, V, idx t]

/-- The forward scan's entry, in the block of a grid point. -/
theorem inF_at (c : Dev nD) (t : Fin cfg0.N) (hb : t.val / 8 < 8) (r : Fin 512) (k : Fin 1024) :
    iblk m c 2 t (ix3 0 r k) = argF m c (ix3 ⟨t.val / 8, hb⟩ ⟨t.val % 8 * 512 + r, by omega⟩ k) := by
  blk_point [iblk, V, idx t]

/-- The backward scan's entry, in the block of a grid point. -/
theorem inB_at (c : Dev nD) (t : Fin cfg0.N) (hb : t.val / 8 < 8) (r : Fin 512) (k : Fin 1024) :
    iblk m c 3 t (ix3 0 r k) = argB m c (ix3 ⟨t.val / 8, hb⟩ ⟨t.val % 8 * 512 + r, by omega⟩ k) := by
  blk_point [iblk, V, idx t]

/-- A lane of a head's gate, in the block of a grid point. -/
theorem inZ_at (c : Dev nD) (t : Fin cfg0.N) (hb : t.val / 8 < 8) (off : ℕ) (ho : off + 128 ≤ 1024) (h) (r : Fin 512) (k : Fin 128) :
    View.ld (iblk m c 4 t) (Rect.unit (s := S1x512x1024) ![0, 0, off] S1x512x128.size h) (ix3 0 r k) = argZ m c (ix3 ⟨t.val / 8, hb⟩ ⟨t.val % 8 * 512 + r, by omega⟩ ⟨off + k, by omega⟩) := by
  pointwise []
  blk_point [iblk, V, idx t]

/-- The attention's entry, in the block of a grid point. -/
theorem inA_at (c : Dev nD) (t : Fin cfg0.N) (hb : t.val / 8 < 8) (r : Fin 512) (k : Fin 1024) :
    iblk m c 5 t (ix3 0 r k) = argA m c (ix3 ⟨t.val / 8, hb⟩ ⟨t.val % 8 * 512 + r, by omega⟩ k) := by
  blk_point [iblk, V, idx t]

/-- The scan's gate's entry, in the block of a grid point. -/
theorem inGa_at (c : Dev nD) (t : Fin cfg0.N) (hb : t.val / 8 < 8) (r : Fin 512) (k : Fin 1024) :
    iblk m c 6 t (ix3 0 r k) = argGa m c (ix3 ⟨t.val / 8, hb⟩ ⟨t.val % 8 * 512 + r, by omega⟩ k) := by
  blk_point [iblk, V, idx t]

/-- The attention's gate's entry, in the block of a grid point. -/
theorem inGb_at (c : Dev nD) (t : Fin cfg0.N) (hb : t.val / 8 < 8) (r : Fin 512) (k : Fin 1024) :
    iblk m c 7 t (ix3 0 r k) = argGb m c (ix3 ⟨t.val / 8, hb⟩ ⟨t.val % 8 * 512 + r, by omega⟩ k) := by
  blk_point [iblk, V, idx t]

/-- The heads' norm's weight. -/
theorem inW_at (c : Dev nD) (t : Fin cfg0.N) (k : Fin 128) : iblk m c 8 t (ix2 0 k) = argW m c (ix1 k) := by
  blk_point [iblk, V, idx t]

/-- The scan's projection's entry. -/
theorem inWa_at (c : Dev nD) (t : Fin cfg0.N) (k j : Fin 1024) : iblk m c 9 t (ix2 k j) = argWa m c (ix2 k j) := by
  blk_point [iblk, V, idx t]

/-- The attention's projection's entry. -/
theorem inWb_at (c : Dev nD) (t : Fin cfg0.N) (k j : Fin 1024) : iblk m c 10 t (ix2 k j) = argWb m c (ix2 k j) := by
  blk_point [iblk, V, idx t]

/-- The output's projection's entry. -/
theorem inWo_at (c : Dev nD) (t : Fin cfg0.N) (k j : Fin 1024) : iblk m c 11 t (ix2 k j) = argWo m c (ix2 k j) := by
  blk_point [iblk, V, idx t]

/-- A lane of a head of a grid point's block. -/
theorem lane (c : Dev nD) (t : Fin cfg0.N) (hb : t.val / 8 < 8) (q off : ℕ) (hq : q < 8) (e : off = q * 128) (hs h) (x : S512x128.Idx) (r : Fin 512) (j : Fin 1024)
    (h0 : (r : ℕ) = x 0) (h1 : (j : ℕ) = off + x 1) :
    head (k0_pay3 (iblk m c 2 t) (iblk m c 3 t)) (k0_pay4 (iblk m c 8 t)) (View.ld (iblk m c 4 t) (Rect.unit (s := S1x512x1024) ![0, 0, off] S1x512x128.size h)) off hs x
      = Rows.heads (fun k => argF m c (ix3 ⟨t.val / 8, hb⟩ ⟨t.val % 8 * 512 + r, by omega⟩ k) + argB m c (ix3 ⟨t.val / 8, hb⟩ ⟨t.val % 8 * 512 + r, by omega⟩ k))
        (fun k => argZ m c (ix3 ⟨t.val / 8, hb⟩ ⟨t.val % 8 * 512 + r, by omega⟩ k)) (fun e => argW m c (ix1 e)) j := by
  subst e
  idx_vars x
  rename' x0 => r', x1 => d
  obtain rfl : r = r' := Fin.ext h0
  have hj : ((⟨q, hq⟩ : Fin 8) : ℕ) * 128 + d < 1024 := by
    clear h0 h1
    have := d.isLt
    simp only
    omega
  obtain rfl : j = ⟨(⟨q, hq⟩ : Fin 8) * 128 + d, hj⟩ := Fin.ext h1
  have e3 : ∀ k, k0_pay3 (F := Ideal) (iblk m c 2 t) (iblk m c 3 t) (ix2 r k) = argF m c (ix3 ⟨t.val / 8, hb⟩ ⟨t.val % 8 * 512 + r, by omega⟩ k) + argB m c (ix3 ⟨t.val / 8, hb⟩ ⟨t.val % 8 * 512 + r, by omega⟩ k) := by
    intro k
    pointwise [k0_pay3]
    rw [inF_at m c t hb, inB_at m c t hb]
  have e4 : ∀ k, k0_pay4 (F := Ideal) (iblk m c 8 t) (ix2 0 k) = argW m c (ix1 k) := by
    intro k
    pointwise [k0_pay4]
    rw [inW_at m c t]
  rw [Rows.heads_lane, head_at _ _ _ _ _ (by omega), inZ_at m c t hb _ (by omega)]
  simp only [e3, e4]

/-- What a grid point stores, at an index, is the reference's result there. -/
theorem core (c : Dev nD) (t : Fin cfg0.N) (x : S1x512x1024.Idx) (i : S8x4096x1024.Idx) (S : Vec Ideal S512x1024 .bf16)
    (hS : ∀ (hb : t.val / 8 < 8) (r : Fin 512) (j : Fin 1024), S (ix2 r j) = Rows.heads (fun k => argF m c (ix3 ⟨t.val / 8, hb⟩ ⟨t.val % 8 * 512 + r, by omega⟩ k) + argB m c (ix3 ⟨t.val / 8, hb⟩ ⟨t.val % 8 * 512 + r, by omega⟩ k))
        (fun k => argZ m c (ix3 ⟨t.val / 8, hb⟩ ⟨t.val % 8 * 512 + r, by omega⟩ k)) (fun e => argW m c (ix1 e)) j)
    (hi0 : (i 0 : ℕ) = t.val / 8) (hi1 : (i 1 : ℕ) = t.val % 8 * 512 + x 1) (hi2 : (i 2 : ℕ) = x 2) :
    k0_pay1 (F := Ideal) (k0_pay22 (k0_pay2 (iblk m c 0 t)) (k0_pay21 S (iblk m c 9 t)) (iblk m c 5 t) (iblk m c 10 t) (iblk m c 6 t) (iblk m c 7 t)
      (View.ld (iblk m c 1 t) (Rect.unit (s := S1x9x1024) ![0, 5, 0] S1x1x1024.size inb_S1x9x1024_S1x1x1024_0_5_0)) (iblk m c 11 t)) x
      = Cert.Reference5Ideal.Mix.result (argX m c) (argC m c) (argF m c) (argB m c) (argZ m c) (argA m c) (argGa m c) (argGb m c) (argW m c) (argWa m c) (argWb m c) (argWo m c) i := by
  have ht : t.val < 64 := t.isLt
  idx_vars x
  rename' x0 => z, x1 => r, x2 => d
  have hr : (r : ℕ) < 512 := r.isLt
  have hb : t.val / 8 < 8 := by omega
  have ei : i = ix3 (⟨t.val / 8, hb⟩ : Fin 8) (⟨t.val % 8 * 512 + r, by omega⟩ : Fin 4096) d := by
    funext a; apply Fin.ext
    match a with
    | ⟨0, _⟩ => exact hi0
    | ⟨1, _⟩ => exact hi1
    | ⟨2, _⟩ => exact hi2
  have ez : z = 0 := Subsingleton.elim _ _
  subst ez
  rw [ei, pay_at, Cert.Reference5Ideal.Mix.result_at]
  simp only [hS hb, inX_at m c t hb, inC_at m c t hb, inA_at m c t hb, inGa_at m c t hb, inGb_at m c t hb, inWa_at m c t, inWb_at m c t, inWo_at m c t]

/-- THE ARRAY: what the launch leaves is the reference's result. -/
theorem final (c : Dev nD) : (dats m 0 c).arrAt 12 cfg0.N = Cert.Reference5Ideal.Mix.result (argX m c) (argC m c) (argF m c) (argB m c) (argZ m c) (argA m c) (argGa m c) (argGb m c) (argW m c) (argWa m c) (argWb m c) (argWo m c) := by
  refine (dats m 0 c).arrAt_eq_of_covers 12 _ (by decide +kernel) (fun t hf y => ?_)
  have k0 : (((cfg0.win 12).blk t).view.emb y 0 : ℕ) = t.val / 8 := by
    have := (y 0).isLt
    blk_simp [idx t]
  have k1 : (((cfg0.win 12).blk t).view.emb y 1 : ℕ) = t.val % 8 * 512 + y 1 := by blk_simp [idx t]
  have k2 : (((cfg0.win 12).blk t).view.emb y 2 : ℕ) = y 2 := by blk_simp [idx t]
  rw [after0_12]
  unfold outsAt0
  frame_out
  generalize ((cfg0.win 12).blk t).view.emb y = i at k0 k1 k2 ⊢
  rw [cast_eq]
  refine core m c t _ i _ (fun hb r j => ?_) k0 k1 k2
  rw [View.readCov_eq_canon']
  have ey : (Rect.unit (s := S512x1024) ![0, 0] S512x1024.size inb_S512x1024_S512x1024_0_0).toLoadRect.idx (ix2 r j) = ix2 r j := by
    funext a; apply Fin.ext
    match a with
    | ⟨0, _⟩ => show 0 + 1 * (r : ℕ) = r; omega
    | ⟨1, _⟩ => show 0 + 1 * (j : ℕ) = j; omega
  beta_reduce
  rw [ey]
  canon_tiles x h
  · exact lane m c t hb 7 896 (by decide) rfl slices_S512x1024_o0_896_S512x128 _ x r j h0 h1
  · exact lane m c t hb 6 768 (by decide) rfl slices_S512x1024_o0_768_S512x128 _ x r j h0 h1
  · exact lane m c t hb 5 640 (by decide) rfl slices_S512x1024_o0_640_S512x128 _ x r j h0 h1
  · exact lane m c t hb 4 512 (by decide) rfl slices_S512x1024_o0_512_S512x128 _ x r j h0 h1
  · exact lane m c t hb 3 384 (by decide) rfl slices_S512x1024_o0_384_S512x128 _ x r j h0 h1
  · exact lane m c t hb 2 256 (by decide) rfl slices_S512x1024_o0_256_S512x128 _ x r j h0 h1
  · exact lane m c t hb 1 128 (by decide) rfl slices_S512x1024_o0_128_S512x128 _ x r j h0 h1
  · exact lane m c t hb 0 0 (by decide) rfl slices_S512x1024_o0_0_S512x128 _ x r j h0 (h1.trans (Nat.zero_add _).symm)

end Cert.Kernel5Ideal.Mix

end
-- ==== Proof.Mod.Kernel.lean ====
/- The modulation: what its kernel leaves is the reference's result, both being one row function of the conditioning. -/
module

public import proofs.«01_k».proof.Proof.Rows.Basic
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Kernel6Ideal.Mod

open Cert Cert.Kernel6Ideal Cert.Kernel6Ideal.Gen Cert.Kernel6Ideal.Value Idealize.ShloMosaic Idealize.ShloMosaic.TcCoe Idealize.SL.Sem Idealize.ShloMosaic.Pipeline

/-- The stored block at an index. -/
theorem pay_at (x : Vec Ideal S8x1024 .f32) (w : Vec Ideal S1024x1024 .bf16) (v : Vec Ideal S1x1024 .f32) (b : Fin 8) (j : Fin 1024) :
    k0_pay1 x w v (ix2 b j) = Rows.dot (fun k => Rows.silu (x (ix2 b k))) (fun k j => w (ix2 k j)) j + v (ix2 0 j) := by
  have e : ∀ y : EReal, (0 : EReal) - y = -y := fun y => (sub_eq_add_neg _ _).trans (zero_add _)
  pointwise [k0_pay1, Rows.dot]
  simp only [e]
  rfl

variable (m : (ℓ : Loc nD τ sig) → Buf (Elt Ideal) ℓ)

/-- Where each window's block lies, per grid point. -/
theorem idx : ∀ t : Fin cfg0.N,
    win0_0.index t 0 = 0 ∧ win0_0.index t 1 = 0
    ∧ win0_1.index t 0 = 0 ∧ win0_1.index t 1 = t.val
    ∧ win0_2.index t 0 = 0 ∧ win0_2.index t 1 = t.val
    ∧ win0_3.index t 0 = 0 ∧ win0_3.index t 1 = t.val := by
  decide +kernel

/-- The conditioning's array. -/
abbrev argC (c : Dev nD) : FVec Ideal S8x1024 .f32 := m ((c.tc : Thread nD τ).loc main_arg0)
/-- The weights' array. -/
abbrev argW (c : Dev nD) : FVec Ideal S1024x9216 .f32 := m ((c.tc : Thread nD τ).loc main_arg1)
/-- The shifts' array. -/
abbrev argB (c : Dev nD) : FVec Ideal S9216 .f32 := m ((c.tc : Thread nD τ).loc main_arg2)

/-- The conditioning's entry. -/
theorem inC_at (c : Dev nD) (t : Fin cfg0.N) (b : Fin 8) (k : Fin 1024) : View.ld (iblk m c 0 t) r0_0 (ix2 b k) = argC m c (ix2 b k) := by
  pointwise []
  blk_point [iblk, V, idx t]

/-- A weight's entry, in the block of a grid point. -/
theorem inW_at (c : Dev nD) (t : Fin cfg0.N) (ht : t.val < 9) (k j : Fin 1024) : View.ld (iblk m c 1 t) r0_1 (ix2 k j) = argW m c (ix2 k ⟨t.val * 1024 + j, by omega⟩) := by
  pointwise []
  blk_point [iblk, V, idx t]

/-- A shift's entry, in the block of a grid point. -/
theorem inB_at (c : Dev nD) (t : Fin cfg0.N) (ht : t.val < 9) (j : Fin 1024) : View.ld (iblk m c 2 t) r0_2 (ix2 0 j) = argB m c (ix1 ⟨t.val * 1024 + j, by omega⟩) := by
  pointwise []
  blk_point [iblk, V, idx t]

end Cert.Kernel6Ideal.Mod

namespace Cert.Reference6Ideal.Mod

open Cert Cert.Reference6Ideal Cert.Reference6Ideal.Gen Idealize.ShloMosaic Idealize.ShloMosaic.TcCoe Idealize.SL.Sem

/-- The whole reference. -/
def result {F : FTy → Type} [FloatOps F] (c : FVec F S8x1024 .f32) (w : FVec F S1024x9216 .f32) (v : FVec F S9216 .f32) : FVec F S8x9216 .f32 :=
  addf (Host.dotGeneral dot_S8x1024_S1024x9216_S8x9216_1_0_0_1_n_n none (mulf c (Host.divf (broadcastInDim S8x1024 ![] bcast_S_S8x1024 (constant S_ .f32 0x3F800000#32)) (addf (broadcastInDim S8x1024 ![] bcast_S_S8x1024 (constant S_ .f32 0x3F800000#32)) (Host.exp (Host.negf c))))) w)
    (broadcastInDim S8x9216 ![0, 1] bcast_S1x9216_S8x9216_0_1 (broadcastInDim S1x9216 ![1] bcast_S9216_S1x9216_1 v))

/-- The reference's result at an index. -/
theorem result_at (c : FVec Ideal S8x1024 .f32) (w : FVec Ideal S1024x9216 .f32) (v : FVec Ideal S9216 .f32) (b : Fin 8) (j : Fin 9216) :
    result c w v (ix2 b j) = Rows.dot (fun k => Rows.silu (c (ix2 b k))) (fun k j => w (ix2 k j)) j + v (ix1 j) := by
  pointwise [result, Rows.dot]
  rfl

end Cert.Reference6Ideal.Mod

namespace Cert.Kernel6Ideal.Mod

open Cert Cert.Kernel6Ideal Cert.Kernel6Ideal.Gen Cert.Kernel6Ideal.Value Idealize.ShloMosaic Idealize.ShloMosaic.TcCoe Idealize.SL.Sem Idealize.ShloMosaic.Pipeline

variable (m : (ℓ : Loc nD τ sig) → Buf (Elt Ideal) ℓ)

/-- What a grid point stores, at an index, is the reference's result there. -/
theorem core (c : Dev nD) (t : Fin cfg0.N) (x : S8x1024.Idx) (i : S8x9216.Idx) (hi0 : (i 0 : ℕ) = x 0) (hi1 : (i 1 : ℕ) = t.val * 1024 + x 1) :
    k0_pay1 (View.ld (iblk m c 0 t) r0_0) (View.ld (iblk m c 1 t) r0_1) (View.ld (iblk m c 2 t) r0_2) x
      = Cert.Reference6Ideal.Mod.result (argC m c) (argW m c) (argB m c) i := by
  have ht : t.val < 9 := t.isLt
  idx_vars x
  rename' x0 => b, x1 => j
  have hj : (j : ℕ) < 1024 := j.isLt
  have ei : i = ix2 b (⟨t.val * 1024 + j, by omega⟩ : Fin 9216) := by
    funext a; apply Fin.ext
    match a with
    | ⟨0, _⟩ => exact hi0
    | ⟨1, _⟩ => exact hi1
  rw [ei, pay_at, Cert.Reference6Ideal.Mod.result_at]
  simp only [inC_at m c t, inW_at m c t ht, inB_at m c t ht]
  rfl

/-- THE ARRAY: what the launch leaves is the reference's result. -/
theorem final (c : Dev nD) : (dats m 0 c).arrAt 3 cfg0.N = Cert.Reference6Ideal.Mod.result (argC m c) (argW m c) (argB m c) := by
  refine (dats m 0 c).arrAt_eq_of_covers 3 _ (by decide +kernel) (fun t hf y => ?_)
  have k0 : (((cfg0.win 3).blk t).view.emb y 0 : ℕ) = y 0 := by blk_simp [idx t]
  have k1 : (((cfg0.win 3).blk t).view.emb y 1 : ℕ) = t.val * 1024 + y 1 := by blk_simp [idx t]
  rw [after0_3]
  unfold out0_3
  generalize ((cfg0.win 3).blk t).view.emb y = i at k0 k1 ⊢
  canon_tiles x h
  exact core m c t x i (k0.trans h0) (k1.trans (congrArg (t.val * 1024 + ·) h1))

end Cert.Kernel6Ideal.Mod

end
-- ==== Proof.Rows.MixIn.lean ====
/- The row functions of the mixer's input over the extended reals: the projection's columns, the convolution along the
   tokens, the heads' norms, the rates of the recurrence and the rotary embedding, written once for the kernel and its reference. -/
module

public import proofs.«01_k».proof.Proof.Rows.Basic

@[expose] public section

noncomputable section

namespace Cert.Rows

open Idealize.ShloMosaic

/-- A column over the tokens with two zeros before it and zeros after it. -/
def padded (p : Fin 4096 → EReal) (s : ℕ) : EReal := if h : 2 ≤ s ∧ s - 2 < 4096 then p ⟨s - 2, h.2⟩ else 0

/-- The five products of a column's neighbours with the weights of the convolution. -/
def conv (p : ℕ → EReal) (w : Fin 5 → EReal) (t : ℕ) : EReal :=
  p t * w 0 + p (1 + t) * w 1 + p (2 + t) * w 2 + p (3 + t) * w 3 + p (4 + t) * w 4

/-- A lane of a head divided by the head's length. -/
def unit (x : Fin 128 → EReal) (d : Fin 128) : EReal := x d * Ideal.rsqrt (∑ e, x e * x e + eps)

/-- The three parts of the recurrence's rows: the queries' heads normed and scaled, the keys' heads normed, the values. -/
def qkv (a : Fin 3072 → EReal) (j : Fin 3072) : EReal :=
  if (j : ℕ) < 1024 then unit (fun e => a ⟨j / 128 * 128 + e, by omega⟩) ⟨j % 128, by omega⟩ * Ideal.ofBits .f32 0x3DB504F3#32
  else if (j : ℕ) < 2048 then unit (fun e => a ⟨j / 128 * 128 + e, by omega⟩) ⟨j % 128, by omega⟩
  else a j

/-- The rotary embedding of a head, with the angles' cosines and sines. -/
def rope (x : Fin 128 → EReal) (c s : Fin 16 → EReal) (l : Fin 128) : EReal :=
  if h : (l : ℕ) < 16 then x l * c ⟨l, h⟩ - x ⟨16 + l, by omega⟩ * s ⟨l, h⟩
  else if h' : (l : ℕ) < 32 then x l * c ⟨l - 16, by omega⟩ + x ⟨l - 16, by omega⟩ * s ⟨l - 16, by omega⟩
  else x l

/-- The logarithm of one and the exponential. -/
def softplus (z : EReal) : EReal := max z 0 + Ideal.log (1 + Ideal.exp (-max z (-z)))

/-- The recurrence's rates: sixteen logistic functions, sixteen decays, and zeros. -/
def rates (b a : Fin 16 → EReal) (al dt : Fin 16 → EReal) (l : Fin 128) : EReal :=
  if h : (l : ℕ) < 16 then sigm (b ⟨l, h⟩)
  else if h' : (l : ℕ) < 32 then -Ideal.exp (al ⟨l - 16, by omega⟩) * softplus (a ⟨l - 16, by omega⟩ + dt ⟨l - 16, by omega⟩)
  else 0

end Cert.Rows

end
-- ==== Proof.MixIn.Ref.lean ====
/- What the mixer's input's reference computes, read at an index: eight arrays of the tokens' columns. -/
module

public import proofs.«01_k».proof.Proof.Rows.MixIn
public import proofs.«01_k».proof.Proof.Gen.Reference7Ideal.Run
public import Idealize.ShloMosaic.Lib.Pointwise
public import Idealize.ShloMosaic.Lib.KernelVsHost

@[expose] public section

set_option maxRecDepth 16384

noncomputable section

namespace Cert.Reference7Ideal.MixIn

open Cert Cert.Reference7Ideal Cert.Reference7Ideal.Gen Idealize.ShloMosaic Idealize.ShloMosaic.TcCoe Idealize.SL.Sem

variable {F : FTy → Type} [FloatOps F]

/-- The norm of every token with its weights. -/
def normed (x : FVec F S8x4096x1024 .f32) (w : FVec F S1024 .f32) : FVec F S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 w))

/-- The modulation with an axis for the tokens. -/
def mods (c : FVec F S8x9216 .f32) : FVec F S8x1x9216 .f32 :=
  broadcastInDim S8x1x9216 ![0, 2] bcast_S8x9216_S8x1x9216_0_2 c

/-- The norm with the conditioning's scale and shift. -/
def hidden (x : FVec F S8x4096x1024 .f32) (c : FVec F S8x9216 .f32) (w : FVec F S1024 .f32) : FVec F S8x4096x1024 .f32 :=
  addf (mulf (normed x w) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 4096] (mods c) slices_S8x1x9216_S8x1x1024_0_0_4096)))) (broadcastInDim S8x4096x1024 ![0, 1, 2] bcast_S8x1x1024_S8x4096x1024_0_1_2 (extractStridedSlice S8x1x1024 ![0, 0, 3072] (mods c) slices_S8x1x9216_S8x1x1024_0_0_3072))

/-- The combined projection's columns. -/
def columns (x : FVec F S8x4096x1024 .f32) (c : FVec F S8x9216 .f32) (w : FVec F S1024 .f32) (wi : FVec F S1024x7712 .f32) : FVec F S8x4096x7712 .f32 :=
  Host.dotGeneral dot_S8x4096x1024_S1024x7712_S8x4096x7712_2_0_01_1_n_n none (hidden x c w) wi

/-- The recurrence's columns between two tokens of zeros. -/
def padded (u : FVec F S8x4096x7712 .f32) : FVec F S8x4100x3072 .f32 :=
  pad S8x4100x3072 ![0, 2, 0] ![0, 2, 0] ![0, 0, 0] (extractStridedSlice S8x4096x3072 ![0, 0, 0] u slices_S8x4096x7712_S8x4096x3072_0_0_0) (sitofp .f32 (constantI S_ 32 0#32)) pads_S8x4096x3072_S8x4100x3072_000_220_000 h_S_

/-- The convolution along the tokens. -/
def conv (p : FVec F S8x4100x3072 .f32) (k : FVec F S5x3072 .f32) : FVec F S8x4096x3072 .f32 :=
  addf (addf (addf (addf (mulf (extractStridedSlice S8x4096x3072 ![0, 0, 0] p slices_S8x4100x3072_S8x4096x3072_0_0_0) (broadcastInDim S8x4096x3072 ![0, 1, 2] bcast_S1x1x3072_S8x4096x3072_0_1_2 (broadcastInDim S1x1x3072 ![2] bcast_S3072_S1x1x3072_2 (shapeCast _ (extractStridedSlice S1x3072 ![0, 0] k slices_S5x3072_S1x3072_0_0) shapeCasts_S1x3072_S3072)))) (mulf (extractStridedSlice S8x4096x3072 ![0, 1, 0] p slices_S8x4100x3072_S8x4096x3072_0_1_0) (broadcastInDim S8x4096x3072 ![0, 1, 2] bcast_S1x1x3072_S8x4096x3072_0_1_2 (broadcastInDim S1x1x3072 ![2] bcast_S3072_S1x1x3072_2 (shapeCast _ (extractStridedSlice S1x3072 ![1, 0] k slices_S5x3072_S1x3072_1_0) shapeCasts_S1x3072_S3072))))) (mulf (extractStridedSlice S8x4096x3072 ![0, 2, 0] p slices_S8x4100x3072_S8x4096x3072_0_2_0) (broadcastInDim S8x4096x3072 ![0, 1, 2] bcast_S1x1x3072_S8x4096x3072_0_1_2 (broadcastInDim S1x1x3072 ![2] bcast_S3072_S1x1x3072_2 (shapeCast _ (extractStridedSlice S1x3072 ![2, 0] k slices_S5x3072_S1x3072_2_0) shapeCasts_S1x3072_S3072))))) (mulf (extractStridedSlice S8x4096x3072 ![0, 3, 0] p slices_S8x4100x3072_S8x4096x3072_0_3_0) (broadcastInDim S8x4096x3072 ![0, 1, 2] bcast_S1x1x3072_S8x4096x3072_0_1_2 (broadcastInDim S1x1x3072 ![2] bcast_S3072_S1x1x3072_2 (shapeCast _ (extractStridedSlice S1x3072 ![3, 0] k slices_S5x3072_S1x3072_3_0) shapeCasts_S1x3072_S3072))))) (mulf (extractStridedSlice S8x4096x3072 ![0, 4, 0] p slices_S8x4100x3072_S8x4096x3072_0_4_0) (broadcastInDim S8x4096x3072 ![0, 1, 2] bcast_S1x1x3072_S8x4096x3072_0_1_2 (broadcastInDim S1x1x3072 ![2] bcast_S3072_S1x1x3072_2 (shapeCast _ (extractStridedSlice S1x3072 ![4, 0] k slices_S5x3072_S1x3072_4_0) shapeCasts_S1x3072_S3072))))

/-- The activation `x · σ(x)`. -/
def active (y : FVec F S8x4096x3072 .f32) : FVec F S8x4096x3072 .f32 :=
  mulf y (Host.divf (broadcastInDim S8x4096x3072 ![] bcast_S_S8x4096x3072 (constant S_ .f32 0x3F800000#32)) (addf (broadcastInDim S8x4096x3072 ![] bcast_S_S8x4096x3072 (constant S_ .f32 0x3F800000#32)) (Host.exp (Host.negf y))))

/-- Every head divided by its length. -/
def unit (y : FVec F S8x4096x8x128 .f32) : FVec F S8x4096x8x128 .f32 :=
  mulf y (broadcastInDim S8x4096x8x128 ![0, 1, 2, 3] bcast_S8x4096x8x1_S8x4096x8x128_0_1_2_3 (Host.rsqrt (addf (broadcastInDim S8x4096x8x1 ![0, 1, 2] bcast_S8x4096x8_S8x4096x8x1_0_1_2 (Host.reduceAdd (mulf y y) (constant S_ .f32 0x00000000#32) reducesTo_S8x4096x8x128_S8x4096x8_d3 h_S_)) (broadcastInDim S8x4096x8x1 ![] bcast_S_S8x4096x8x1 (constant S_ .f32 0x358637BD#32)))))

/-- The queries of the recurrence. -/
def queries (a : FVec F S8x4096x3072 .f32) : FVec F S8x4096x1024 .f32 :=
  shapeCast _ (mulf (unit (shapeCast _ (extractStridedSlice S8x4096x1024 ![0, 0, 0] a slices_S8x4096x3072_S8x4096x1024_0_0_0) shapeCasts_S8x4096x1024_S8x4096x8x128)) (broadcastInDim S8x4096x8x128 ![] bcast_S_S8x4096x8x128 (constant S_ .f32 0x3DB504F3#32))) shapeCasts_S8x4096x8x128_S8x4096x1024

/-- The keys of the recurrence. -/
def keys (a : FVec F S8x4096x3072 .f32) : FVec F S8x4096x1024 .f32 :=
  shapeCast _ (unit (shapeCast _ (extractStridedSlice S8x4096x1024 ![0, 0, 1024] a slices_S8x4096x3072_S8x4096x1024_0_0_1024) shapeCasts_S8x4096x1024_S8x4096x8x128)) shapeCasts_S8x4096x8x128_S8x4096x1024

/-- The recurrence's queries, keys and values side by side. -/
def qkv (a : FVec F S8x4096x3072 .f32) : FVec F S8x4096x3072 .bf16 :=
  truncf .bf16 (concatenate S8x4096x3072 2 [⟨S8x4096x1024, queries a⟩, ⟨S8x4096x1024, keys a⟩, ⟨S8x4096x1024, extractStridedSlice S8x4096x1024 ![0, 0, 2048] a slices_S8x4096x3072_S8x4096x1024_0_0_2048⟩] concatenates_S8x4096x1024_S8x4096x1024_S8x4096x1024_S8x4096x3072_d2) bitsLt_bf16_f32

/-- The recurrence's step sizes. -/
def steps (u : FVec F S8x4096x7712 .f32) : FVec F S8x4096x16 .f32 :=
  Host.divf (broadcastInDim S8x4096x16 ![] bcast_S_S8x4096x16 (constant S_ .f32 0x3F800000#32)) (addf (broadcastInDim S8x4096x16 ![] bcast_S_S8x4096x16 (constant S_ .f32 0x3F800000#32)) (Host.exp (Host.negf (extractStridedSlice S8x4096x16 ![0, 0, 4096] u slices_S8x4096x7712_S8x4096x16_0_0_4096))))

/-- The recurrence's decays before the softplus. -/
def drives (u : FVec F S8x4096x7712 .f32) (dt : FVec F S2x8 .f32) : FVec F S8x4096x2x8 .f32 :=
  addf (shapeCast _ (extractStridedSlice S8x4096x16 ![0, 0, 4112] u slices_S8x4096x7712_S8x4096x16_0_0_4112) shapeCasts_S8x4096x16_S8x4096x2x8) (broadcastInDim S8x4096x2x8 ![0, 1, 2, 3] bcast_S1x1x2x8_S8x4096x2x8_0_1_2_3 (broadcastInDim S1x1x2x8 ![2, 3] bcast_S2x8_S1x1x2x8_2_3 dt))

/-- The softplus of every entry. -/
def soft (z : FVec F S8x4096x2x8 .f32) : FVec F S8x4096x2x8 .f32 :=
  have o : FVec F S8x4096x2x8 .f32 := broadcastInDim S8x4096x2x8 ![] bcast_S_S8x4096x2x8 (constant S_ .f32 0x00000000#32)
  select (cmpf .une (subf z o) (subf z o)) (addf z o) (addf (maximumf z o) (Host.log1p (Host.exp (Host.negf (Host.absf (subf z o))))))

/-- The recurrence's decays. -/
def decays (u : FVec F S8x4096x7712 .f32) (al dt : FVec F S2x8 .f32) : FVec F S8x4096x16 .f32 :=
  shapeCast _ (mulf (broadcastInDim S8x4096x2x8 ![0, 1, 2, 3] bcast_S1x1x2x8_S8x4096x2x8_0_1_2_3 (broadcastInDim S1x1x2x8 ![2, 3] bcast_S2x8_S1x1x2x8_2_3 (Host.negf (Host.exp al)))) (soft (drives u dt))) shapeCasts_S8x4096x2x8_S8x4096x16

/-- The recurrence's rates side by side. -/
def rates (u : FVec F S8x4096x7712 .f32) (al dt : FVec F S2x8 .f32) : FVec F S8x4096x128 .f32 :=
  concatenate S8x4096x128 2 [⟨S8x4096x16, steps u⟩, ⟨S8x4096x16, decays u al dt⟩, ⟨S8x4096x96, broadcastInDim S8x4096x96 ![] bcast_S_S8x4096x96 (constant S_ .f32 0x00000000#32)⟩] concatenates_S8x4096x16_S8x4096x16_S8x4096x96_S8x4096x128_d2

/-- The angles of the rotary embedding. -/
def angles : FVec F S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The rotary embedding of 8 heads. -/
def roped8 (y : FVec F S8x4096x8x128 .f32) : FVec F S8x4096x8x128 .f32 :=
  have lo : FVec F S8x4096x8x16 .f32 := extractStridedSlice S8x4096x8x16 ![0, 0, 0, 0] (extractStridedSlice S8x4096x8x32 ![0, 0, 0, 0] y slices_S8x4096x8x128_S8x4096x8x32_0_0_0_0) slices_S8x4096x8x32_S8x4096x8x16_0_0_0_0
  have hi : FVec F S8x4096x8x16 .f32 := extractStridedSlice S8x4096x8x16 ![0, 0, 0, 16] (extractStridedSlice S8x4096x8x32 ![0, 0, 0, 0] y slices_S8x4096x8x128_S8x4096x8x32_0_0_0_0) slices_S8x4096x8x32_S8x4096x8x16_0_0_0_16
  have c : FVec F S8x4096x8x16 .f32 := broadcastInDim S8x4096x8x16 ![0, 1, 2, 3] bcast_S1x4096x1x16_S8x4096x8x16_0_1_2_3 (broadcastInDim S1x4096x1x16 ![1, 3] bcast_S4096x16_S1x4096x1x16_1_3 (Host.cos angles))
  have s : FVec F S8x4096x8x16 .f32 := broadcastInDim S8x4096x8x16 ![0, 1, 2, 3] bcast_S1x4096x1x16_S8x4096x8x16_0_1_2_3 (broadcastInDim S1x4096x1x16 ![1, 3] bcast_S4096x16_S1x4096x1x16_1_3 (Host.sin angles))
  concatenate S8x4096x8x128 3 [⟨S8x4096x8x32, concatenate S8x4096x8x32 3 [⟨S8x4096x8x16, subf (mulf lo c) (mulf hi s)⟩, ⟨S8x4096x8x16, addf (mulf hi c) (mulf lo s)⟩] concatenates_S8x4096x8x16_S8x4096x8x16_S8x4096x8x32_d3⟩, ⟨S8x4096x8x96, extractStridedSlice S8x4096x8x96 ![0, 0, 0, 32] y slices_S8x4096x8x128_S8x4096x8x96_0_0_0_32⟩] concatenates_S8x4096x8x32_S8x4096x8x96_S8x4096x8x128_d3

/-- The rotary embedding of 2 heads. -/
def roped2 (y : FVec F S8x4096x2x128 .f32) : FVec F S8x4096x2x128 .f32 :=
  have lo : FVec F S8x4096x2x16 .f32 := extractStridedSlice S8x4096x2x16 ![0, 0, 0, 0] (extractStridedSlice S8x4096x2x32 ![0, 0, 0, 0] y slices_S8x4096x2x128_S8x4096x2x32_0_0_0_0) slices_S8x4096x2x32_S8x4096x2x16_0_0_0_0
  have hi : FVec F S8x4096x2x16 .f32 := extractStridedSlice S8x4096x2x16 ![0, 0, 0, 16] (extractStridedSlice S8x4096x2x32 ![0, 0, 0, 0] y slices_S8x4096x2x128_S8x4096x2x32_0_0_0_0) slices_S8x4096x2x32_S8x4096x2x16_0_0_0_16
  have c : FVec F S8x4096x2x16 .f32 := broadcastInDim S8x4096x2x16 ![0, 1, 2, 3] bcast_S1x4096x1x16_S8x4096x2x16_0_1_2_3 (broadcastInDim S1x4096x1x16 ![1, 3] bcast_S4096x16_S1x4096x1x16_1_3 (Host.cos angles))
  have s : FVec F S8x4096x2x16 .f32 := broadcastInDim S8x4096x2x16 ![0, 1, 2, 3] bcast_S1x4096x1x16_S8x4096x2x16_0_1_2_3 (broadcastInDim S1x4096x1x16 ![1, 3] bcast_S4096x16_S1x4096x1x16_1_3 (Host.sin angles))
  concatenate S8x4096x2x128 3 [⟨S8x4096x2x32, concatenate S8x4096x2x32 3 [⟨S8x4096x2x16, subf (mulf lo c) (mulf hi s)⟩, ⟨S8x4096x2x16, addf (mulf hi c) (mulf lo s)⟩] concatenates_S8x4096x2x16_S8x4096x2x16_S8x4096x2x32_d3⟩, ⟨S8x4096x2x96, extractStridedSlice S8x4096x2x96 ![0, 0, 0, 32] y slices_S8x4096x2x128_S8x4096x2x96_0_0_0_32⟩] concatenates_S8x4096x2x32_S8x4096x2x96_S8x4096x2x128_d3

/-- The heads of the attention's queries. -/
def qheads (u : FVec F S8x4096x7712 .f32) : FVec F S8x4096x8x128 .f32 :=
  shapeCast _ (extractStridedSlice S8x4096x1024 ![0, 0, 4128] u slices_S8x4096x7712_S8x4096x1024_0_0_4128) shapeCasts_S8x4096x1024_S8x4096x8x128

/-- The heads of the attention's keys. -/
def kheads (u : FVec F S8x4096x7712 .f32) : FVec F S8x4096x2x128 .f32 :=
  shapeCast _ (extractStridedSlice S8x4096x256 ![0, 0, 5152] u slices_S8x4096x7712_S8x4096x256_0_0_5152) shapeCasts_S8x4096x256_S8x4096x2x128

/-- The attention's queries. -/
def q (u : FVec F S8x4096x7712 .f32) : FVec F S8x4096x1024 .bf16 :=
  truncf .bf16 (shapeCast _ (roped8 (qheads u)) shapeCasts_S8x4096x8x128_S8x4096x1024) bitsLt_bf16_f32

/-- The attention's keys. -/
def k (u : FVec F S8x4096x7712 .f32) : FVec F S8x4096x256 .bf16 :=
  truncf .bf16 (shapeCast _ (roped2 (kheads u)) shapeCasts_S8x4096x2x128_S8x4096x256) bitsLt_bf16_f32

/-- The heads' gates. -/
def z (u : FVec F S8x4096x7712 .f32) : FVec F S8x4096x1024 .bf16 :=
  truncf .bf16 (extractStridedSlice S8x4096x1024 ![0, 0, 3072] u slices_S8x4096x7712_S8x4096x1024_0_0_3072) bitsLt_bf16_f32

/-- The attention's values. -/
def v (u : FVec F S8x4096x7712 .f32) : FVec F S8x4096x256 .bf16 :=
  truncf .bf16 (extractStridedSlice S8x4096x256 ![0, 0, 5408] u slices_S8x4096x7712_S8x4096x256_0_0_5408) bitsLt_bf16_f32

/-- The scan's gate. -/
def ga (u : FVec F S8x4096x7712 .f32) : FVec F S8x4096x1024 .bf16 :=
  truncf .bf16 (extractStridedSlice S8x4096x1024 ![0, 0, 5664] u slices_S8x4096x7712_S8x4096x1024_0_0_5664) bitsLt_bf16_f32

/-- The attention's gate. -/
def gb (u : FVec F S8x4096x7712 .f32) : FVec F S8x4096x1024 .bf16 :=
  truncf .bf16 (extractStridedSlice S8x4096x1024 ![0, 0, 6688] u slices_S8x4096x7712_S8x4096x1024_0_0_6688) bitsLt_bf16_f32

/-- The norm at an index. -/
theorem normed_at (x : FVec Ideal S8x4096x1024 .f32) (w : FVec Ideal S1024 .f32) (b : Fin 8) (t : Fin 4096) (d : Fin 1024) :
    normed x w (ix3 b t d) = Rows.norm 0x44800000#32 (fun k => x (ix3 b t k)) (fun k => w (ix1 k)) d := by
  pointwise [normed]
  rfl

/-- The scaled and shifted norm at an index. -/
theorem hidden_at (x : FVec Ideal S8x4096x1024 .f32) (c : FVec Ideal S8x9216 .f32) (w : FVec Ideal S1024 .f32) (b : Fin 8) (t : Fin 4096) (d : Fin 1024) :
    hidden x c w (ix3 b t d) = Rows.ada (fun k => x (ix3 b t k)) (fun k => w (ix1 k))
      (fun k => c (ix2 b ⟨3072 + k, by omega⟩)) (fun k => c (ix2 b ⟨4096 + k, by omega⟩)) d := by
  rw [Rows.ada, ← normed_at]
  pointwise [hidden, mods]

/-- A column of the projection, as the row function of the token. -/
theorem columns_at (x : FVec Ideal S8x4096x1024 .f32) (c : FVec Ideal S8x9216 .f32) (w : FVec Ideal S1024 .f32) (wi : FVec Ideal S1024x7712 .f32) (b : Fin 8) (t : Fin 4096) (j : Fin 7712) :
    columns x c w wi (ix3 b t j) = Rows.dot (Rows.ada (fun k => x (ix3 b t k)) (fun k => w (ix1 k))
      (fun k => c (ix2 b ⟨3072 + k, by omega⟩)) (fun k => c (ix2 b ⟨4096 + k, by omega⟩))) (fun k j => wi (ix2 k j)) j := by
  pointwise [columns, hidden_at, Rows.dot]

/-- A column with its zeros. -/
theorem padded_at (u : FVec Ideal S8x4096x7712 .f32) (b : Fin 8) (s : Fin 4100) (j : Fin 3072) :
    padded u (ix3 b s j) = Rows.padded (fun t => u (ix3 b t ⟨j, by omega⟩)) s := by
  unfold padded Rows.padded
  split_ifs with h
  · rw [pad_apply_of_inside _ _ _ _ _ _ _ _ (ix3 b ⟨s - 2, h.2⟩ j) (fun a => ?_)]
    · pointwise []
    · match a with
      | ⟨0, _⟩ => show (b : ℕ) = 0 + b * (0 + 1); omega
      | ⟨1, _⟩ => show (s : ℕ) = 2 + (s - 2) * (0 + 1); omega
      | ⟨2, _⟩ => show (j : ℕ) = 0 + j * (0 + 1); omega
  · rw [pad_apply_of_not_inside _ _ _ _ _ _ _ _ 1 (fun h' => h ?_)]
    · pointwise []
      show (((0 : ℤ) : ℝ) : EReal) = 0
      norm_num
    · have h1 : 2 ≤ (s : ℕ) ∧ ((s : ℕ) - 2) % (0 + 1) = 0 ∧ ((s : ℕ) - 2) / (0 + 1) < 4096 := h'
      omega

/-- The convolution at an index. -/
theorem conv_at (p : FVec Ideal S8x4100x3072 .f32) (k : FVec Ideal S5x3072 .f32) (u : ℕ → EReal) (b : Fin 8) (t : Fin 4096) (j : Fin 3072)
    (hp : ∀ s : Fin 4100, p (ix3 b s j) = u s) :
    conv p k (ix3 b t j) = Rows.conv u (fun i => k (ix2 i j)) t := by
  pointwise [conv, hp]
  rfl

/-- The activated convolution at an index. -/
theorem active_at (y : FVec Ideal S8x4096x3072 .f32) (b : Fin 8) (t : Fin 4096) (j : Fin 3072) :
    active y (ix3 b t j) = Rows.silu (y (ix3 b t j)) := by
  pointwise [active]
  rfl

/-- A lane of a head divided by the head's length. -/
theorem unit_at (y : FVec Ideal S8x4096x8x128 .f32) (b : Fin 8) (t : Fin 4096) (h : Fin 8) (d : Fin 128) :
    unit y (ix4 b t h d) = Rows.unit (fun e => y (ix4 b t h e)) d := by
  pointwise [unit]
  rfl

/-- The softplus at an index. -/
theorem soft_at (z : FVec Ideal S8x4096x2x8 .f32) (b : Fin 8) (t : Fin 4096) (p : Fin 2) (h : Fin 8) :
    soft z (ix4 b t p h) = Rows.softplus (z (ix4 b t p h)) := by
  pointwise [soft]
  rw [if_neg (not_not.mpr rfl)]
  rfl

/-- A lane of a head's rotary embedding. -/
theorem roped8_at (y : FVec Ideal S8x4096x8x128 .f32) (b : Fin 8) (t : Fin 4096) (h : Fin 8) (d : Fin 128) :
    roped8 y (ix4 b t h d) = Rows.rope (fun e => y (ix4 b t h e)) (fun i => Ideal.cos (angles (F := Ideal) (ix2 t i))) (fun i => Ideal.sin (angles (F := Ideal) (ix2 t i))) d := by
  pointwise [roped8]
  unfold Rows.rope
  by_cases h1 : (d : ℕ) < 16
  · rw [dif_pos (show (d : ℕ) < 32 by omega), dif_pos h1, dif_pos h1]
  · by_cases h2 : (d : ℕ) < 32
    · rw [dif_pos h2, dif_neg h1, dif_neg h1, dif_pos h2]
      have e : (⟨16 + ((d : ℕ) - 16), by omega⟩ : Fin 128) = d := Fin.ext (by simp only; omega)
      rw [e]
    · rw [dif_neg h2, dif_neg h1, dif_neg h2]
      have e : (⟨32 + ((d : ℕ) - 32), by omega⟩ : Fin 128) = d := Fin.ext (by simp only; omega)
      rw [e]

/-- A lane of a head's rotary embedding. -/
theorem roped2_at (y : FVec Ideal S8x4096x2x128 .f32) (b : Fin 8) (t : Fin 4096) (h : Fin 2) (d : Fin 128) :
    roped2 y (ix4 b t h d) = Rows.rope (fun e => y (ix4 b t h e)) (fun i => Ideal.cos (angles (F := Ideal) (ix2 t i))) (fun i => Ideal.sin (angles (F := Ideal) (ix2 t i))) d := by
  pointwise [roped2]
  unfold Rows.rope
  by_cases h1 : (d : ℕ) < 16
  · rw [dif_pos (show (d : ℕ) < 32 by omega), dif_pos h1, dif_pos h1]
  · by_cases h2 : (d : ℕ) < 32
    · rw [dif_pos h2, dif_neg h1, dif_neg h1, dif_pos h2]
      have e : (⟨16 + ((d : ℕ) - 16), by omega⟩ : Fin 128) = d := Fin.ext (by simp only; omega)
      rw [e]
    · rw [dif_neg h2, dif_neg h1, dif_neg h2]
      have e : (⟨32 + ((d : ℕ) - 32), by omega⟩ : Fin 128) = d := Fin.ext (by simp only; omega)
      rw [e]

end Cert.Reference7Ideal.MixIn

end
-- ==== Proof.MixIn.RefRows.lean ====
/- The results of the mixer's input's reference, read at an index as row functions of the tokens' columns. -/
module

public import proofs.«01_k».proof.Proof.MixIn.Ref
public import Idealize.ShloMosaic.Lib.Pointwise
public import Idealize.ShloMosaic.Lib.KernelVsHost

@[expose] public section

set_option maxRecDepth 16384

noncomputable section

namespace Cert.Reference7Ideal.MixIn

open Cert Cert.Reference7Ideal Cert.Reference7Ideal.Gen Idealize.ShloMosaic Idealize.ShloMosaic.TcCoe Idealize.SL.Sem

/-- The queries at an index. -/
theorem queries_at (a : FVec Ideal S8x4096x3072 .f32) (b : Fin 8) (t : Fin 4096) (j : Fin 1024) :
    queries a (ix3 b t j) = Rows.unit (fun e => a (ix3 b t ⟨j / 128 * 128 + e, by omega⟩)) ⟨j % 128, by omega⟩ * Ideal.ofBits .f32 0x3DB504F3#32 := by
  pointwise [queries, unit_at]

/-- The keys at an index. -/
theorem keys_at (a : FVec Ideal S8x4096x3072 .f32) (b : Fin 8) (t : Fin 4096) (j : Fin 1024) :
    keys a (ix3 b t j) = Rows.unit (fun e => a (ix3 b t ⟨1024 + (j / 128 * 128 + e), by omega⟩)) ⟨j % 128, by omega⟩ := by
  pointwise [keys, unit_at]

/-- The recurrence's row, as the row function of the activated columns. -/
theorem qkv_at (a : FVec Ideal S8x4096x3072 .f32) (b : Fin 8) (t : Fin 4096) (j : Fin 3072) :
    qkv a (ix3 b t j) = Rows.qkv (fun j => a (ix3 b t j)) j := by
  pointwise [qkv, queries_at, keys_at]
  unfold Rows.qkv
  by_cases h1 : (j : ℕ) < 1024
  · rw [dif_pos h1, if_pos h1]
  · by_cases h2 : (j : ℕ) < 2048
    · rw [dif_neg h1, if_neg h1, dif_pos (show (j : ℕ) - 1024 < 1024 by omega), if_pos h2]
      have e1 : ∀ e : Fin 128, (⟨1024 + (((j : ℕ) - 1024) / 128 * 128 + e), by omega⟩ : Fin 3072) = ⟨j / 128 * 128 + e, by omega⟩ := fun e => Fin.ext (by simp only; omega)
      have e2 : (⟨((j : ℕ) - 1024) % 128, by omega⟩ : Fin 128) = ⟨j % 128, by omega⟩ := Fin.ext (by simp only; omega)
      rw [e2]
      exact congrArg (fun f => Rows.unit f _) (funext fun e => congrArg (fun i => a (ix3 b t i)) (e1 e))
    · rw [dif_neg h1, if_neg h1, dif_neg (show ¬ (j : ℕ) - 1024 < 1024 by omega), if_neg h2]
      exact congrArg (fun i => a (ix3 b t i)) (Fin.ext (by simp only; omega))

/-- The step sizes at an index. -/
theorem steps_at (u : FVec Ideal S8x4096x7712 .f32) (b : Fin 8) (t : Fin 4096) (i : Fin 16) :
    steps u (ix3 b t i) = Rows.sigm (u (ix3 b t ⟨4096 + i, by omega⟩)) := by
  pointwise [steps]
  rfl

/-- The decays at an index. -/
theorem decays_at (u : FVec Ideal S8x4096x7712 .f32) (al dt : FVec Ideal S2x8 .f32) (b : Fin 8) (t : Fin 4096) (i : Fin 16) :
    decays u al dt (ix3 b t i) = -Ideal.exp (al (ix2 ⟨i / 8, by omega⟩ ⟨i % 8, by omega⟩)) * Rows.softplus (u (ix3 b t ⟨4112 + i, by omega⟩) + dt (ix2 ⟨i / 8, by omega⟩ ⟨i % 8, by omega⟩)) := by
  pointwise [decays, soft_at, drives]

/-- The rates at an index, as the row function of the token. -/
theorem rates_at (u : FVec Ideal S8x4096x7712 .f32) (al dt : FVec Ideal S2x8 .f32) (b : Fin 8) (t : Fin 4096) (l : Fin 128) :
    rates u al dt (ix3 b t l) = Rows.rates (fun i => u (ix3 b t ⟨4096 + i, by omega⟩)) (fun i => u (ix3 b t ⟨4112 + i, by omega⟩))
      (fun i => al (ix2 ⟨i / 8, by omega⟩ ⟨i % 8, by omega⟩)) (fun i => dt (ix2 ⟨i / 8, by omega⟩ ⟨i % 8, by omega⟩)) l := by
  pointwise [rates, steps_at, decays_at]
  unfold Rows.rates
  by_cases h1 : (l : ℕ) < 16
  · rw [dif_pos h1, dif_pos h1]
  · by_cases h2 : (l : ℕ) < 32
    · rw [dif_neg h1, dif_neg h1, dif_pos (show (l : ℕ) - 16 < 16 by omega), dif_pos h2]
    · rw [dif_neg h1, dif_neg h1, dif_neg (show ¬ (l : ℕ) - 16 < 16 by omega), dif_neg h2]

/-- A lane of a head of the queries. -/
theorem qheads_at (u : FVec Ideal S8x4096x7712 .f32) (b : Fin 8) (t : Fin 4096) (h : Fin 8) (d : Fin 128) :
    qheads u (ix4 b t h d) = u (ix3 b t ⟨4128 + (h * 128 + d), by omega⟩) := by
  pointwise [qheads]

/-- A lane of a head of the keys. -/
theorem kheads_at (u : FVec Ideal S8x4096x7712 .f32) (b : Fin 8) (t : Fin 4096) (h : Fin 2) (d : Fin 128) :
    kheads u (ix4 b t h d) = u (ix3 b t ⟨5152 + (h * 128 + d), by omega⟩) := by
  pointwise [kheads]

/-- Eight heads side by side, at an index. -/
theorem flat8_at (y : FVec Ideal S8x4096x8x128 .f32) (b : Fin 8) (t : Fin 4096) (j : Fin 1024) :
    (truncf .bf16 (shapeCast S8x4096x1024 y shapeCasts_S8x4096x8x128_S8x4096x1024) bitsLt_bf16_f32 : FVec Ideal S8x4096x1024 .bf16) (ix3 b t j) = y (ix4 b t ⟨j / 128, by omega⟩ ⟨j % 128, by omega⟩) := by
  pointwise []

/-- Two heads side by side, at an index. -/
theorem flat2_at (y : FVec Ideal S8x4096x2x128 .f32) (b : Fin 8) (t : Fin 4096) (j : Fin 256) :
    (truncf .bf16 (shapeCast S8x4096x256 y shapeCasts_S8x4096x2x128_S8x4096x256) bitsLt_bf16_f32 : FVec Ideal S8x4096x256 .bf16) (ix3 b t j) = y (ix4 b t ⟨j / 128, by omega⟩ ⟨j % 128, by omega⟩) := by
  pointwise []

/-- The attention's queries at an index. -/
theorem q_at (u : FVec Ideal S8x4096x7712 .f32) (b : Fin 8) (t : Fin 4096) (j : Fin 1024) :
    q u (ix3 b t j) = Rows.rope (fun e => u (ix3 b t ⟨4128 + (j / 128 * 128 + e), by omega⟩)) (fun i => Ideal.cos (angles (F := Ideal) (ix2 t i))) (fun i => Ideal.sin (angles (F := Ideal) (ix2 t i))) ⟨j % 128, by omega⟩ := by
  rw [q, flat8_at, roped8_at]
  simp only [qheads_at]

/-- The attention's keys at an index. -/
theorem k_at (u : FVec Ideal S8x4096x7712 .f32) (b : Fin 8) (t : Fin 4096) (j : Fin 256) :
    k u (ix3 b t j) = Rows.rope (fun e => u (ix3 b t ⟨5152 + (j / 128 * 128 + e), by omega⟩)) (fun i => Ideal.cos (angles (F := Ideal) (ix2 t i))) (fun i => Ideal.sin (angles (F := Ideal) (ix2 t i))) ⟨j % 128, by omega⟩ := by
  rw [k, flat2_at, roped2_at]
  simp only [kheads_at]

/-- The heads' gates at an index. -/
theorem z_at (u : FVec Ideal S8x4096x7712 .f32) (b : Fin 8) (t : Fin 4096) (j : Fin 1024) : z u (ix3 b t j) = u (ix3 b t ⟨3072 + j, by omega⟩) := by
  pointwise [z]

/-- The attention's values at an index. -/
theorem v_at (u : FVec Ideal S8x4096x7712 .f32) (b : Fin 8) (t : Fin 4096) (j : Fin 256) : v u (ix3 b t j) = u (ix3 b t ⟨5408 + j, by omega⟩) := by
  pointwise [v]

/-- The scan's gate at an index. -/
theorem ga_at (u : FVec Ideal S8x4096x7712 .f32) (b : Fin 8) (t : Fin 4096) (j : Fin 1024) : ga u (ix3 b t j) = u (ix3 b t ⟨5664 + j, by omega⟩) := by
  pointwise [ga]

/-- The attention's gate at an index. -/
theorem gb_at (u : FVec Ideal S8x4096x7712 .f32) (b : Fin 8) (t : Fin 4096) (j : Fin 1024) : gb u (ix3 b t j) = u (ix3 b t ⟨6688 + j, by omega⟩) := by
  pointwise [gb]

end Cert.Reference7Ideal.MixIn

end
-- ==== Proof.MixIn.FrameIdeal.lean ====
/- The frame of the mixer's input kernel over the extended reals: the text generated for it, with more room for the check of the body's obligation
   over its 27 windows. -/
module

public import proofs.«01_k».proof.Proof.Gen.Kernel7Ideal.Frame.RunA
public import Idealize.ShloMosaic.Lib.Claim

@[expose] public section

-- membership in a rectangle of production extents (`View.cover_of_tiled`): the elaborator's structural look
-- recurses once per coordinate of the long axes
set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 19 tile its block (24 stores of `S1x512x128`, checked by the kernel's evaluation: Lib/Ring.lean `Piece.tiledL`, linear in the pieces, through a loop's `@[irreducible]` trip theorem too), so they cover it. -/
theorem cover0_A_19 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) (y : S1x512x3072.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).1 S1x512x128.size (by sl_kernel_rfl) y

/-- What the run leaves in output 19's staging buffer: its pieces read back over junk. -/
def out0_A_19 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) : Vec F S1x512x3072 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).1)

/-- The run's pieces for output 20 tile its block (4 stores of `S1x512x256`, checked by the kernel's evaluation: Lib/Ring.lean `Piece.tiledL`, linear in the pieces, through a loop's `@[irreducible]` trip theorem too), so they cover it. -/
theorem cover0_A_20 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.1 S1x512x256.size (by sl_kernel_rfl) y

/-- What the run leaves in output 20's staging buffer: its pieces read back over junk. -/
def out0_A_20 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) : Vec F S1x512x1024 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.1)

/-- The run's pieces for output 21 tile its block (1 store of `S1x512x128`, checked by the kernel's evaluation: Lib/Ring.lean `Piece.tiledL`, linear in the pieces, through a loop's `@[irreducible]` trip theorem too), so they cover it. -/
theorem cover0_A_21 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) (y : S1x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.1 S1x512x128.size (by sl_kernel_rfl) y

/-- What the run leaves in output 21's staging buffer: its pieces read back over junk. -/
def out0_A_21 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) : Vec F S1x512x128 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.1)

/-- The run's pieces for output 22 tile its block (8 stores of `S1x512x128`, checked by the kernel's evaluation: Lib/Ring.lean `Piece.tiledL`, linear in the pieces, through a loop's `@[irreducible]` trip theorem too), so they cover it. -/
theorem cover0_A_22 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.1 S1x512x128.size (by sl_kernel_rfl) y

/-- What the run leaves in output 22's staging buffer: its pieces read back over junk. -/
def out0_A_22 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) : Vec F S1x512x1024 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.1)

/-- The run's pieces for output 23 tile its block (2 stores of `S1x512x128`, checked by the kernel's evaluation: Lib/Ring.lean `Piece.tiledL`, linear in the pieces, through a loop's `@[irreducible]` trip theorem too), so they cover it. -/
theorem cover0_A_23 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.1 S1x512x128.size (by sl_kernel_rfl) y

/-- What the run leaves in output 23's staging buffer: its pieces read back over junk. -/
def out0_A_23 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) : Vec F S1x512x256 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.1)

/-- The run's pieces for output 24 tile its block (1 store of `S1x512x256`, checked by the kernel's evaluation: Lib/Ring.lean `Piece.tiledL`, linear in the pieces, through a loop's `@[irreducible]` trip theorem too), so they cover it. -/
theorem cover0_A_24 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.2.1 S1x512x256.size (by sl_kernel_rfl) y

/-- What the run leaves in output 24's staging buffer: its pieces read back over junk. -/
def out0_A_24 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) : Vec F S1x512x256 .bf16 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.2.1)

/-- The run's pieces for output 25 tile its block (4 stores of `S1x512x256`, checked by the kernel's evaluation: Lib/Ring.lean `Piece.tiledL`, linear in the pieces, through a loop's `@[irreducible]` trip theorem too), so they cover it. -/
theorem cover0_A_25 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.2.2.1 S1x512x256.size (by sl_kernel_rfl) y

/-- What the run leaves in output 25's staging buffer: its pieces read back over junk. -/
def out0_A_25 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) : Vec F S1x512x1024 .bf16 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.2.2.1)

/-- The run's pieces for output 26 tile its block (4 stores of `S1x512x256`, checked by the kernel's evaluation: Lib/Ring.lean `Piece.tiledL`, linear in the pieces, through a loop's `@[irreducible]` trip theorem too), so they cover it. -/
theorem cover0_A_26 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.2.2.2.1 S1x512x256.size (by sl_kernel_rfl) y

/-- What the run leaves in output 26's staging buffer: its pieces read back over junk. -/
def out0_A_26 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S5x3072 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x3072 .bf16) (harg21 : arg21.IsWhole) (arg22 : Memref sig .tc .vmem S1x512x1024 .bf16) (harg22 : arg22.IsWhole) (arg23 : Memref sig .tc .vmem S1x512x128 .f32) (harg23 : arg23.IsWhole) (arg24 : Memref sig .tc .vmem S1x512x1024 .bf16) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S528x3072 .f32) (harg29 : arg29.IsWhole)
    (x0 : Vec F S1x512x1024 .f32) (x1 : Vec F S1x8x1024 .f32) (x2 : Vec F S1x8x1024 .f32) (x3 : Vec F S1x9x1024 .f32) (x4 : Vec F S1x1024 .f32) (x5 : Vec F S512x128 .f32) (x6 : Vec F S512x128 .f32) (x7 : Vec F S512x128 .f32) (x8 : Vec F S1024x3072 .bf16) (x9 : Vec F S1024x1024 .bf16) (x10 : Vec F S1024x128 .bf16) (x11 : Vec F S1024x1024 .bf16) (x12 : Vec F S1024x256 .bf16) (x13 : Vec F S1024x256 .bf16) (x14 : Vec F S1024x1024 .bf16) (x15 : Vec F S1024x1024 .bf16) (x16 : Vec F S5x3072 .f32) (x17 : Vec F S1x128 .f32) (x18 : Vec F S1x128 .f32) : Vec F S1x512x1024 .bf16 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18).2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x512x3072 .bf16 × Vec F S1x512x1024 .bf16 × Vec F S1x512x128 .f32 × Vec F S1x512x1024 .bf16 × Vec F S1x512x256 .bf16 × Vec F S1x512x256 .bf16 × Vec F S1x512x1024 .bf16 × Vec F S1x512x1024 .bf16 :=
  (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t).1
    | ⟨20, _⟩ => (outsAt0 m c t).2.1
    | ⟨21, _⟩ => (outsAt0 m c t).2.2.1
    | ⟨22, _⟩ => (outsAt0 m c t).2.2.2.1
    | ⟨23, _⟩ => (outsAt0 m c t).2.2.2.2.1
    | ⟨24, _⟩ => (outsAt0 m c t).2.2.2.2.2.1
    | ⟨25, _⟩ => (outsAt0 m c t).2.2.2.2.2.2.1
    | ⟨26, _⟩ => (outsAt0 m c t).2.2.2.2.2.2.2
    | ⟨_ + 27, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t).1 := by dsimp only [dats]
theorem after0_20 (c : Dev nD) (t : Fin cfg0.N) : (dats m 0 c).after 20 t = (outsAt0 m c t).2.1 := by dsimp only [dats]
theorem after0_21 (c : Dev nD) (t : Fin cfg0.N) : (dats m 0 c).after 21 t = (outsAt0 m c t).2.2.1 := by dsimp only [dats]
theorem after0_22 (c : Dev nD) (t : Fin cfg0.N) : (dats m 0 c).after 22 t = (outsAt0 m c t).2.2.2.1 := by dsimp only [dats]
theorem after0_23 (c : Dev nD) (t : Fin cfg0.N) : (dats m 0 c).after 23 t = (outsAt0 m c t).2.2.2.2.1 := by dsimp only [dats]
theorem after0_24 (c : Dev nD) (t : Fin cfg0.N) : (dats m 0 c).after 24 t = (outsAt0 m c t).2.2.2.2.2.1 := by dsimp only [dats]
theorem after0_25 (c : Dev nD) (t : Fin cfg0.N) : (dats m 0 c).after 25 t = (outsAt0 m c t).2.2.2.2.2.2.1 := by dsimp only [dats]
theorem after0_26 (c : Dev nD) (t : Fin cfg0.N) : (dats m 0 c).after 26 t = (outsAt0 m c t).2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.castSucc = Pipeline.ΦA spec0 c from rfl, PhiA0_eq]
  unfold outsAt0
  unfold out0_A_19 out0_A_20 out0_A_21 out0_A_22 out0_A_23 out0_A_24 out0_A_25 out0_A_26; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HS0]; · iexact HS0
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel7Ideal`'s statement (Defs.lean) at any `F` — Proof.lean cites it at `Bits`:
    `theorem Cert.Proof.claim : Cert.Claim := ⟨Cert.Kernel7Ideal.Gen.facts, fun m ρ _ => Cert.Kernel7Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel7Ideal.Gen

end
-- ==== Proof.MixIn.Value.lean ====
/- The run of the mixer's input kernel over the extended reals with each result named: the text generated for it. -/
module

public import proofs.«01_k».proof.Proof.MixIn.FrameIdeal
public import Idealize.ShloMosaic.Lib.Pipeline.Value

@[expose] public section

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v45_0) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v45_1) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v45_2) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v45_3) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v45_4) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v45_5) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v45_6) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v45_7) = (dats m 0 c).arrAt 26 cfg0.N :=
  (h c).1 26

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 16 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 16).trans (((dats m 0 c).arrAt_in 16 rfl _).trans ((A_eq m c 16).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v45_0) = (dats m 0 c).arrAt 19 cfg0.N
      ∧ r.2.mem ((c : Thread nD τ).loc main_v45_1) = (dats m 0 c).arrAt 20 cfg0.N
      ∧ r.2.mem ((c : Thread nD τ).loc main_v45_2) = (dats m 0 c).arrAt 21 cfg0.N
      ∧ r.2.mem ((c : Thread nD τ).loc main_v45_3) = (dats m 0 c).arrAt 22 cfg0.N
      ∧ r.2.mem ((c : Thread nD τ).loc main_v45_4) = (dats m 0 c).arrAt 23 cfg0.N
      ∧ r.2.mem ((c : Thread nD τ).loc main_v45_5) = (dats m 0 c).arrAt 24 cfg0.N
      ∧ r.2.mem ((c : Thread nD τ).loc main_v45_6) = (dats m 0 c).arrAt 25 cfg0.N
      ∧ r.2.mem ((c : Thread nD τ).loc main_v45_7) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post19 m r h c,
      post20 m r h c,
      post21 m r h c,
      post22 m r h c,
      post23 m r h c,
      post24 m r h c,
      post25 m r h c,
      post26 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel7Ideal.Value

end
-- ==== Proof.MixIn.Host.lean ====
/- What the host prepares for the mixer's input kernel, as terms of the arguments. -/
module

public import proofs.«01_k».proof.Proof.MixIn.RefRows
public import proofs.«01_k».proof.Proof.Gen.Kernel7Ideal.Frame.Runs
public import Idealize.ShloMosaic.Lib.StableHlo.RunRead
public import Idealize.ShloMosaic.Lib.Pointwise
public import Idealize.ShloMosaic.Lib.KernelVsHost
public import Idealize.ShloMosaic.Lib.Pipeline.ValueKit

@[expose] public section

set_option maxRecDepth 16384

noncomputable section

namespace Cert.Kernel7Ideal.MixIn

open Cert Cert.Kernel7Ideal Cert.Kernel7Ideal.Gen Idealize.ShloMosaic Idealize.ShloMosaic.TcCoe Idealize.SL.Sem Idealize.ShloMosaic.Pipeline

variable (m : (ℓ : Loc nD τ sig) → Buf (Elt Ideal) ℓ)

/-- The columns of the projection that the host cuts out. -/
theorem host33 (c : Dev nD) : V m c main_v33 = truncf .bf16 (extractStridedSlice S1024x3072 ![0, 0] (show FVec Ideal S1024x7712 .f32 from (m ((c.tc : Thread nD τ).loc main_arg3))) slices_S1024x7712_S1024x3072_0_0) bitsLt_bf16_f32 := by
  simp only [V, List.flatten_cons, List.flatten_nil, List.append_nil]
  after_reads_simp

/-- The columns of the projection that the host cuts out. -/
theorem host34 (c : Dev nD) : V m c main_v34 = truncf .bf16 (extractStridedSlice S1024x1024 ![0, 3072] (show FVec Ideal S1024x7712 .f32 from (m ((c.tc : Thread nD τ).loc main_arg3))) slices_S1024x7712_S1024x1024_0_3072) bitsLt_bf16_f32 := by
  simp only [V, List.flatten_cons, List.flatten_nil, List.append_nil]
  after_reads_simp

/-- The columns of the projection that the host cuts out. -/
theorem host36 (c : Dev nD) : V m c main_v36 = truncf .bf16 (extractStridedSlice S1024x1024 ![0, 4128] (show FVec Ideal S1024x7712 .f32 from (m ((c.tc : Thread nD τ).loc main_arg3))) slices_S1024x7712_S1024x1024_0_4128) bitsLt_bf16_f32 := by
  simp only [V, List.flatten_cons, List.flatten_nil, List.append_nil]
  after_reads_simp

/-- The columns of the projection that the host cuts out. -/
theorem host37 (c : Dev nD) : V m c main_v37 = truncf .bf16 (extractStridedSlice S1024x256 ![0, 5152] (show FVec Ideal S1024x7712 .f32 from (m ((c.tc : Thread nD τ).loc main_arg3))) slices_S1024x7712_S1024x256_0_5152) bitsLt_bf16_f32 := by
  simp only [V, List.flatten_cons, List.flatten_nil, List.append_nil]
  after_reads_simp

/-- The columns of the projection that the host cuts out. -/
theorem host38 (c : Dev nD) : V m c main_v38 = truncf .bf16 (extractStridedSlice S1024x256 ![0, 5408] (show FVec Ideal S1024x7712 .f32 from (m ((c.tc : Thread nD τ).loc main_arg3))) slices_S1024x7712_S1024x256_0_5408) bitsLt_bf16_f32 := by
  simp only [V, List.flatten_cons, List.flatten_nil, List.append_nil]
  after_reads_simp

/-- The columns of the projection that the host cuts out. -/
theorem host39 (c : Dev nD) : V m c main_v39 = truncf .bf16 (extractStridedSlice S1024x1024 ![0, 5664] (show FVec Ideal S1024x7712 .f32 from (m ((c.tc : Thread nD τ).loc main_arg3))) slices_S1024x7712_S1024x1024_0_5664) bitsLt_bf16_f32 := by
  simp only [V, List.flatten_cons, List.flatten_nil, List.append_nil]
  after_reads_simp

/-- The columns of the projection that the host cuts out. -/
theorem host40 (c : Dev nD) : V m c main_v40 = truncf .bf16 (extractStridedSlice S1024x1024 ![0, 6688] (show FVec Ideal S1024x7712 .f32 from (m ((c.tc : Thread nD τ).loc main_arg3))) slices_S1024x7712_S1024x1024_0_6688) bitsLt_bf16_f32 := by
  simp only [V, List.flatten_cons, List.flatten_nil, List.append_nil]
  after_reads_simp

/-- The modulation, laid out per part. -/
theorem host9 (c : Dev nD) : V m c main_v9 = shapeCast S8x9x1024 (show FVec Ideal S8x9216 .f32 from (m ((c.tc : Thread nD τ).loc main_arg1))) shapeCasts_S8x9216_S8x9x1024 := by
  simp only [V, List.flatten_cons, List.flatten_nil, List.append_nil]
  after_reads_simp
  rfl

/-- The norm's weights, as a row. -/
theorem host10 (c : Dev nD) : V m c main_v10 = shapeCast S1x1024 (show FVec Ideal S1024 .f32 from (m ((c.tc : Thread nD τ).loc main_arg2))) shapeCasts_S1024_S1x1024 := by
  simp only [V, List.flatten_cons, List.flatten_nil, List.append_nil]
  after_reads_simp
  rfl

/-- The cosines, over a head's lanes. -/
theorem host26 (c : Dev nD) : V m c main_v26 = concatenate S4096x128 1 [⟨S4096x16, Host.cos (Cert.Reference7Ideal.MixIn.angles (F := Ideal))⟩, ⟨S4096x16, Host.cos (Cert.Reference7Ideal.MixIn.angles (F := Ideal))⟩, ⟨S4096x96, (broadcastInDim S4096x96 ![] bcast_S_S4096x96 (constant S_ .f32 0x3F800000#32) : FVec Ideal S4096x96 .f32)⟩] concatenates_S4096x16_S4096x16_S4096x96_S4096x128_d1 := by
  simp only [V, List.flatten_cons, List.flatten_nil, List.append_nil]
  after_reads_simp
  rfl

/-- The sines of the lower lanes. -/
theorem host30 (c : Dev nD) : V m c main_v30 = concatenate S4096x128 1 [⟨S4096x16, (Host.negf (Host.sin (Cert.Reference7Ideal.MixIn.angles (F := Ideal)) : FVec Ideal S4096x16 .f32) : FVec Ideal S4096x16 .f32)⟩, ⟨S4096x16, (broadcastInDim S4096x16 ![] bcast_S_S4096x16 (constant S_ .f32 0x00000000#32) : FVec Ideal S4096x16 .f32)⟩, ⟨S4096x96, (broadcastInDim S4096x96 ![] bcast_S_S4096x96 (constant S_ .f32 0x00000000#32) : FVec Ideal S4096x96 .f32)⟩] concatenates_S4096x16_S4096x16_S4096x96_S4096x128_d1 := by
  simp only [V, List.flatten_cons, List.flatten_nil, List.append_nil]
  after_reads_simp
  rfl

/-- The sines of the upper lanes. -/
theorem host32 (c : Dev nD) : V m c main_v32 = concatenate S4096x128 1 [⟨S4096x16, (broadcastInDim S4096x16 ![] bcast_S_S4096x16 (constant S_ .f32 0x00000000#32) : FVec Ideal S4096x16 .f32)⟩, ⟨S4096x16, Host.sin (Cert.Reference7Ideal.MixIn.angles (F := Ideal))⟩, ⟨S4096x96, (broadcastInDim S4096x96 ![] bcast_S_S4096x96 (constant S_ .f32 0x00000000#32) : FVec Ideal S4096x96 .f32)⟩] concatenates_S4096x16_S4096x16_S4096x96_S4096x128_d1 := by
  simp only [V, List.flatten_cons, List.flatten_nil, List.append_nil]
  after_reads_simp
  rfl

/-- The rates' columns, padded to the lanes. -/
theorem host35 (c : Dev nD) : V m c main_v35 = truncf .bf16 (pad S1024x128 ![0, 0] ![0, 96] ![0, 0] (extractStridedSlice S1024x32 ![0, 4096] (show FVec Ideal S1024x7712 .f32 from (m ((c.tc : Thread nD τ).loc main_arg3))) slices_S1024x7712_S1024x32_0_4096) (sitofp .f32 (constantI S_ 32 0#32) : FVec Ideal S_ .f32) pads_S1024x32_S1024x128_000_0960 h_S_) bitsLt_bf16_f32 := by
  simp only [V, List.flatten_cons, List.flatten_nil, List.append_nil]
  after_reads_simp
  rfl

/-- A row of the rates' constants, padded to the lanes. -/
theorem host42 (c : Dev nD) : V m c main_v42 = pad S1x128 ![0, 16] ![0, 96] ![0, 0] (shapeCast S1x16 (show FVec Ideal S2x8 .f32 from (m ((c.tc : Thread nD τ).loc main_arg5))) shapeCasts_S2x8_S1x16) (sitofp .f32 (constantI S_ 32 0#32) : FVec Ideal S_ .f32) pads_S1x16_S1x128_000_16960 h_S_ := by
  simp only [V, List.flatten_cons, List.flatten_nil, List.append_nil]
  after_reads_simp
  rfl

/-- A row of the rates' constants, padded to the lanes. -/
theorem host44 (c : Dev nD) : V m c main_v44 = pad S1x128 ![0, 16] ![0, 96] ![0, 0] (shapeCast S1x16 (show FVec Ideal S2x8 .f32 from (m ((c.tc : Thread nD τ).loc main_arg6))) shapeCasts_S2x8_S1x16) (sitofp .f32 (constantI S_ 32 0#32) : FVec Ideal S_ .f32) pads_S1x16_S1x128_000_16960 h_S_ := by
  simp only [V, List.flatten_cons, List.flatten_nil, List.append_nil]
  after_reads_simp
  rfl

/-- An entry of the columns that the host cuts out. -/
theorem host33_at (c : Dev nD) (k : Fin 1024) (j : Fin 3072) : V m c main_v33 (ix2 k j) = (show FVec Ideal S1024x7712 .f32 from (m ((c.tc : Thread nD τ).loc main_arg3))) (ix2 k ⟨j, by omega⟩) := by
  rw [host33]
  pointwise []

/-- An entry of the columns that the host cuts out. -/
theorem host34_at (c : Dev nD) (k : Fin 1024) (j : Fin 1024) : V m c main_v34 (ix2 k j) = (show FVec Ideal S1024x7712 .f32 from (m ((c.tc : Thread nD τ).loc main_arg3))) (ix2 k ⟨3072 + j, by omega⟩) := by
  rw [host34]
  pointwise []

/-- An entry of the columns that the host cuts out. -/
theorem host36_at (c : Dev nD) (k : Fin 1024) (j : Fin 1024) : V m c main_v36 (ix2 k j) = (show FVec Ideal S1024x7712 .f32 from (m ((c.tc : Thread nD τ).loc main_arg3))) (ix2 k ⟨4128 + j, by omega⟩) := by
  rw [host36]
  pointwise []

/-- An entry of the columns that the host cuts out. -/
theorem host37_at (c : Dev nD) (k : Fin 1024) (j : Fin 256) : V m c main_v37 (ix2 k j) = (show FVec Ideal S1024x7712 .f32 from (m ((c.tc : Thread nD τ).loc main_arg3))) (ix2 k ⟨5152 + j, by omega⟩) := by
  rw [host37]
  pointwise []

/-- An entry of the columns that the host cuts out. -/
theorem host38_at (c : Dev nD) (k : Fin 1024) (j : Fin 256) : V m c main_v38 (ix2 k j) = (show FVec Ideal S1024x7712 .f32 from (m ((c.tc : Thread nD τ).loc main_arg3))) (ix2 k ⟨5408 + j, by omega⟩) := by
  rw [host38]
  pointwise []

/-- An entry of the columns that the host cuts out. -/
theorem host39_at (c : Dev nD) (k : Fin 1024) (j : Fin 1024) : V m c main_v39 (ix2 k j) = (show FVec Ideal S1024x7712 .f32 from (m ((c.tc : Thread nD τ).loc main_arg3))) (ix2 k ⟨5664 + j, by omega⟩) := by
  rw [host39]
  pointwise []

/-- An entry of the columns that the host cuts out. -/
theorem host40_at (c : Dev nD) (k : Fin 1024) (j : Fin 1024) : V m c main_v40 (ix2 k j) = (show FVec Ideal S1024x7712 .f32 from (m ((c.tc : Thread nD τ).loc main_arg3))) (ix2 k ⟨6688 + j, by omega⟩) := by
  rw [host40]
  pointwise []

/-- An entry of the rates' columns. -/
theorem host35_at (c : Dev nD) (k : Fin 1024) (j : Fin 128) (h : (j : ℕ) < 32) : V m c main_v35 (ix2 k j) = (show FVec Ideal S1024x7712 .f32 from (m ((c.tc : Thread nD τ).loc main_arg3))) (ix2 k ⟨4096 + j, by omega⟩) := by
  rw [host35]
  pointwise []
  rw [dif_pos h]

/-- An entry of a row of the rates' constants. -/
theorem host42_at (c : Dev nD) (j : Fin 128) (h1 : 16 ≤ (j : ℕ)) (h2 : (j : ℕ) < 32) : V m c main_v42 (ix2 0 j) = (show FVec Ideal S2x8 .f32 from (m ((c.tc : Thread nD τ).loc main_arg5))) (ix2 ⟨(j - 16) / 8, by omega⟩ ⟨(j - 16) % 8, by omega⟩) := by
  rw [host42]
  pointwise []
  rw [dif_pos ⟨h1, by omega⟩]

/-- An entry of a row of the rates' constants. -/
theorem host44_at (c : Dev nD) (j : Fin 128) (h1 : 16 ≤ (j : ℕ)) (h2 : (j : ℕ) < 32) : V m c main_v44 (ix2 0 j) = (show FVec Ideal S2x8 .f32 from (m ((c.tc : Thread nD τ).loc main_arg6))) (ix2 ⟨(j - 16) / 8, by omega⟩ ⟨(j - 16) % 8, by omega⟩) := by
  rw [host44]
  pointwise []
  rw [dif_pos ⟨h1, by omega⟩]

/-- An entry of the modulation. -/
theorem host9_at (c : Dev nD) (b : Fin 8) (p : Fin 9) (k : Fin 1024) : V m c main_v9 (ix3 b p k) = (show FVec Ideal S8x9216 .f32 from (m ((c.tc : Thread nD τ).loc main_arg1))) (ix2 b ⟨p * 1024 + k, by omega⟩) := by
  rw [host9]
  pointwise []

/-- An entry of the norm's weights. -/
theorem host10_at (c : Dev nD) (k : Fin 1024) : V m c main_v10 (ix2 0 k) = (show FVec Ideal S1024 .f32 from (m ((c.tc : Thread nD τ).loc main_arg2))) (ix1 k) := by
  rw [host10]
  pointwise []

/-- A cosine of the tables. -/
theorem host26_at (c : Dev nD) (t : Fin 4096) (d : Fin 128) : V m c main_v26 (ix2 t d) = if h : (d : ℕ) < 16 then Ideal.cos (Cert.Reference7Ideal.MixIn.angles (F := Ideal) (ix2 t ⟨d, h⟩)) else if h : (d : ℕ) - 16 < 16 then Ideal.cos (Cert.Reference7Ideal.MixIn.angles (F := Ideal) (ix2 t ⟨d - 16, by omega⟩)) else 1 := by
  rw [host26]
  pointwise []

/-- A sine of the lower lanes' table. -/
theorem host30_at (c : Dev nD) (t : Fin 4096) (d : Fin 128) : V m c main_v30 (ix2 t d) = if h : (d : ℕ) < 16 then -Ideal.sin (Cert.Reference7Ideal.MixIn.angles (F := Ideal) (ix2 t ⟨d, h⟩)) else if h : (d : ℕ) - 16 < 16 then 0 else 0 := by
  rw [host30]
  pointwise []

/-- A sine of the upper lanes' table. -/
theorem host32_at (c : Dev nD) (t : Fin 4096) (d : Fin 128) : V m c main_v32 (ix2 t d) = if h : (d : ℕ) < 16 then 0 else if h : (d : ℕ) - 16 < 16 then Ideal.sin (Cert.Reference7Ideal.MixIn.angles (F := Ideal) (ix2 t ⟨d - 16, by omega⟩)) else 0 := by
  rw [host32]
  pointwise []

end Cert.Kernel7Ideal.MixIn

end
-- ==== Proof.MixIn.Base.lean ====
/- What the mixer's input kernel reads: where its blocks lie, and each block's entries as entries of the arguments. -/
module

public import proofs.«01_k».proof.Proof.MixIn.RefRows
public import proofs.«01_k».proof.Proof.Gen.Kernel7Ideal.Frame.RunA
public import proofs.«01_k».proof.Proof.MixIn.Host
public import Idealize.ShloMosaic.Lib.Pointwise
public import Idealize.ShloMosaic.Lib.KernelVsHost
public import Idealize.ShloMosaic.Lib.Pipeline.ValueKit

@[expose] public section

set_option maxRecDepth 16384

noncomputable section

namespace Cert.Kernel7Ideal.MixIn

open Cert Cert.Kernel7Ideal Cert.Kernel7Ideal.Gen Idealize.ShloMosaic Idealize.ShloMosaic.TcCoe Idealize.SL.Sem Idealize.ShloMosaic.Pipeline

variable (m : (ℓ : Loc nD τ sig) → Buf (Elt Ideal) ℓ)

/-- Where window 0's block lies, per grid point. -/
theorem idx0 : ∀ t : Fin cfg0.N, win0_0.index t 0 = t.val / 8 ∧ win0_0.index t 1 = t.val % 8 ∧ win0_0.index t 2 = 0 := by decide +kernel

/-- Where window 1's block lies, per grid point. -/
theorem idx1 : ∀ t : Fin cfg0.N, win0_1.index t 0 = t.val / 8 ∧ win0_1.index t 1 = t.val % 8 * 64 - 1 ∧ win0_1.index t 2 = 0 := by decide +kernel

/-- Where window 2's block lies, per grid point. -/
theorem idx2 : ∀ t : Fin cfg0.N, win0_2.index t 0 = t.val / 8 ∧ win0_2.index t 1 = min (t.val % 8 * 64 + 64) 511 ∧ win0_2.index t 2 = 0 := by decide +kernel

/-- Where window 3's block lies, per grid point. -/
theorem idx3 : ∀ t : Fin cfg0.N, win0_3.index t 0 = t.val / 8 ∧ win0_3.index t 1 = 0 ∧ win0_3.index t 2 = 0 := by decide +kernel

/-- Where window 4's block lies, per grid point. -/
theorem idx4 : ∀ t : Fin cfg0.N, win0_4.index t 0 = 0 ∧ win0_4.index t 1 = 0 := by decide +kernel

/-- Where window 5's block lies, per grid point. -/
theorem idx5 : ∀ t : Fin cfg0.N, win0_5.index t 0 = t.val % 8 ∧ win0_5.index t 1 = 0 := by decide +kernel

/-- Where window 6's block lies, per grid point. -/
theorem idx6 : ∀ t : Fin cfg0.N, win0_6.index t 0 = t.val % 8 ∧ win0_6.index t 1 = 0 := by decide +kernel

/-- Where window 7's block lies, per grid point. -/
theorem idx7 : ∀ t : Fin cfg0.N, win0_7.index t 0 = t.val % 8 ∧ win0_7.index t 1 = 0 := by decide +kernel

/-- Where window 8's block lies, per grid point. -/
theorem idx8 : ∀ t : Fin cfg0.N, win0_8.index t 0 = 0 ∧ win0_8.index t 1 = 0 := by decide +kernel

/-- Where window 9's block lies, per grid point. -/
theorem idx9 : ∀ t : Fin cfg0.N, win0_9.index t 0 = 0 ∧ win0_9.index t 1 = 0 := by decide +kernel

/-- Where window 10's block lies, per grid point. -/
theorem idx10 : ∀ t : Fin cfg0.N, win0_10.index t 0 = 0 ∧ win0_10.index t 1 = 0 := by decide +kernel

/-- Where window 11's block lies, per grid point. -/
theorem idx11 : ∀ t : Fin cfg0.N, win0_11.index t 0 = 0 ∧ win0_11.index t 1 = 0 := by decide +kernel

/-- Where window 12's block lies, per grid point. -/
theorem idx12 : ∀ t : Fin cfg0.N, win0_12.index t 0 = 0 ∧ win0_12.index t 1 = 0 := by decide +kernel

/-- Where window 13's block lies, per grid point. -/
theorem idx13 : ∀ t : Fin cfg0.N, win0_13.index t 0 = 0 ∧ win0_13.index t 1 = 0 := by decide +kernel

/-- Where window 14's block lies, per grid point. -/
theorem idx14 : ∀ t : Fin cfg0.N, win0_14.index t 0 = 0 ∧ win0_14.index t 1 = 0 := by decide +kernel

/-- Where window 15's block lies, per grid point. -/
theorem idx15 : ∀ t : Fin cfg0.N, win0_15.index t 0 = 0 ∧ win0_15.index t 1 = 0 := by decide +kernel

/-- Where window 16's block lies, per grid point. -/
theorem idx16 : ∀ t : Fin cfg0.N, win0_16.index t 0 = 0 ∧ win0_16.index t 1 = 0 := by decide +kernel

/-- Where window 17's block lies, per grid point. -/
theorem idx17 : ∀ t : Fin cfg0.N, win0_17.index t 0 = 0 ∧ win0_17.index t 1 = 0 := by decide +kernel

/-- Where window 18's block lies, per grid point. -/
theorem idx18 : ∀ t : Fin cfg0.N, win0_18.index t 0 = 0 ∧ win0_18.index t 1 = 0 := by decide +kernel

/-- Where window 19's block lies, per grid point. -/
theorem idx19 : ∀ t : Fin cfg0.N, win0_19.index t 0 = t.val / 8 ∧ win0_19.index t 1 = t.val % 8 ∧ win0_19.index t 2 = 0 := by decide +kernel

/-- Where window 20's block lies, per grid point. -/
theorem idx20 : ∀ t : Fin cfg0.N, win0_20.index t 0 = t.val / 8 ∧ win0_20.index t 1 = t.val % 8 ∧ win0_20.index t 2 = 0 := by decide +kernel

/-- Where window 21's block lies, per grid point. -/
theorem idx21 : ∀ t : Fin cfg0.N, win0_21.index t 0 = t.val / 8 ∧ win0_21.index t 1 = t.val % 8 ∧ win0_21.index t 2 = 0 := by decide +kernel

/-- Where window 22's block lies, per grid point. -/
theorem idx22 : ∀ t : Fin cfg0.N, win0_22.index t 0 = t.val / 8 ∧ win0_22.index t 1 = t.val % 8 ∧ win0_22.index t 2 = 0 := by decide +kernel

/-- Where window 23's block lies, per grid point. -/
theorem idx23 : ∀ t : Fin cfg0.N, win0_23.index t 0 = t.val / 8 ∧ win0_23.index t 1 = t.val % 8 ∧ win0_23.index t 2 = 0 := by decide +kernel

/-- Where window 24's block lies, per grid point. -/
theorem idx24 : ∀ t : Fin cfg0.N, win0_24.index t 0 = t.val / 8 ∧ win0_24.index t 1 = t.val % 8 ∧ win0_24.index t 2 = 0 := by decide +kernel

/-- Where window 25's block lies, per grid point. -/
theorem idx25 : ∀ t : Fin cfg0.N, win0_25.index t 0 = t.val / 8 ∧ win0_25.index t 1 = t.val % 8 ∧ win0_25.index t 2 = 0 := by decide +kernel

/-- Where window 26's block lies, per grid point. -/
theorem idx26 : ∀ t : Fin cfg0.N, win0_26.index t 0 = t.val / 8 ∧ win0_26.index t 1 = t.val % 8 ∧ win0_26.index t 2 = 0 := by decide +kernel

/-- The second coordinate of a grid point. -/
theorem coord : ∀ t : Fin cfg0.N, (grid0.coords t 1).val = t.val % 8 := by decide +kernel

/-- The tokens' array. -/
abbrev argX (c : Dev nD) : FVec Ideal S8x4096x1024 .f32 := m ((c.tc : Thread nD τ).loc main_arg0)
/-- The modulation's array. -/
abbrev argC (c : Dev nD) : FVec Ideal S8x9216 .f32 := m ((c.tc : Thread nD τ).loc main_arg1)
/-- The norm's weights' array. -/
abbrev argN (c : Dev nD) : FVec Ideal S1024 .f32 := m ((c.tc : Thread nD τ).loc main_arg2)
/-- The projection's array. -/
abbrev argW (c : Dev nD) : FVec Ideal S1024x7712 .f32 := m ((c.tc : Thread nD τ).loc main_arg3)
/-- The convolution's weights' array. -/
abbrev argK (c : Dev nD) : FVec Ideal S5x3072 .f32 := m ((c.tc : Thread nD τ).loc main_arg4)
/-- The decays' array. -/
abbrev argL (c : Dev nD) : FVec Ideal S2x8 .f32 := m ((c.tc : Thread nD τ).loc main_arg5)
/-- The steps' biases' array. -/
abbrev argD (c : Dev nD) : FVec Ideal S2x8 .f32 := m ((c.tc : Thread nD τ).loc main_arg6)

/-- The tokens' entry, in the block of a grid point. -/
theorem inX_at (c : Dev nD) (t : Fin cfg0.N) (hb : t.val / 8 < 8) (r : Fin 512) (k : Fin 1024) :
    iblk m c 0 t (ix3 0 r k) = argX m c (ix3 ⟨t.val / 8, hb⟩ ⟨t.val % 8 * 512 + r, by omega⟩ k) :=
  (show _ = V m c main_arg0 _ from by blk_point [iblk, idx0 t]).trans (congrFun (V_main_arg0 m c) _)

/-- The entry of a token before the block. -/
theorem inP_at (c : Dev nD) (t : Fin cfg0.N) (hb : t.val / 8 < 8) (r : Fin 8) (k : Fin 1024) :
    iblk m c 1 t (ix3 0 r k) = argX m c (ix3 ⟨t.val / 8, hb⟩ ⟨(t.val % 8 * 64 - 1) * 8 + r, by omega⟩ k) :=
  (show _ = V m c main_arg0 _ from by blk_point [iblk, idx1 t]).trans (congrFun (V_main_arg0 m c) _)

/-- The entry of a token after the block. -/
theorem inQ_at (c : Dev nD) (t : Fin cfg0.N) (hb : t.val / 8 < 8) (r : Fin 8) (k : Fin 1024) :
    iblk m c 2 t (ix3 0 r k) = argX m c (ix3 ⟨t.val / 8, hb⟩ ⟨min (t.val % 8 * 64 + 64) 511 * 8 + r, by omega⟩ k) :=
  (show _ = V m c main_arg0 _ from by blk_point [iblk, idx2 t]).trans (congrFun (V_main_arg0 m c) _)

/-- The shift's entry. -/
theorem inS_at (c : Dev nD) (t : Fin cfg0.N) (hb : t.val / 8 < 8) (k : Fin 1024) :
    View.ld (iblk m c 3 t) (Rect.unit (s := S1x9x1024) ![0, 3, 0] S1x1x1024.size inb_S1x9x1024_S1x1x1024_0_3_0) (ix3 0 0 k) = argC m c (ix2 ⟨t.val / 8, hb⟩ ⟨3072 + k, by omega⟩) := by
  pointwise []
  exact (show _ = V m c main_v9 (ix3 ⟨t.val / 8, hb⟩ 3 k) from by blk_point [iblk, idx3 t]).trans (host9_at m c _ _ k)

/-- The scale's entry. -/
theorem inC_at (c : Dev nD) (t : Fin cfg0.N) (hb : t.val / 8 < 8) (k : Fin 1024) :
    View.ld (iblk m c 3 t) (Rect.unit (s := S1x9x1024) ![0, 4, 0] S1x1x1024.size inb_S1x9x1024_S1x1x1024_0_4_0) (ix3 0 0 k) = argC m c (ix2 ⟨t.val / 8, hb⟩ ⟨4096 + k, by omega⟩) := by
  pointwise []
  exact (show _ = V m c main_v9 (ix3 ⟨t.val / 8, hb⟩ 4 k) from by blk_point [iblk, idx3 t]).trans (host9_at m c _ _ k)

/-- The norm's weight. -/
theorem inN_at (c : Dev nD) (t : Fin cfg0.N) (k : Fin 1024) : iblk m c 4 t (ix2 0 k) = argN m c (ix1 k) := by
  exact (show _ = V m c main_v10 (ix2 0 k) from by blk_point [iblk, idx4 t]).trans (host10_at m c k)

/-- The convolution's columns' weight. -/
theorem wW_at (c : Dev nD) (t : Fin cfg0.N) (off : ℕ) (ho : off + 256 ≤ 3072) (h) (k : Fin 1024) (j : Fin 256) :
    View.ld (iblk m c 8 t) (Rect.unit (s := S1024x3072) ![0, off] S1024x256.size h) (ix2 k j) = argW m c (ix2 k ⟨off + j, by omega⟩) := by
  pointwise []
  exact (show _ = V m c main_v33 (ix2 k ⟨off + j, by omega⟩) from by blk_point [iblk, idx8 t]).trans (host33_at m c k _)

/-- The heads' gates' columns' weight. -/
theorem wZ_at (c : Dev nD) (t : Fin cfg0.N) (off : ℕ) (ho : off + 256 ≤ 1024) (h) (k : Fin 1024) (j : Fin 256) :
    View.ld (iblk m c 9 t) (Rect.unit (s := S1024x1024) ![0, off] S1024x256.size h) (ix2 k j) = argW m c (ix2 k ⟨3072 + (off + j), by omega⟩) := by
  pointwise []
  exact (show _ = V m c main_v34 (ix2 k ⟨off + j, by omega⟩) from by blk_point [iblk, idx9 t]).trans (host34_at m c k _)

/-- The attention's queries' columns' weight. -/
theorem wQ_at (c : Dev nD) (t : Fin cfg0.N) (off : ℕ) (ho : off + 256 ≤ 1024) (h) (k : Fin 1024) (j : Fin 256) :
    View.ld (iblk m c 11 t) (Rect.unit (s := S1024x1024) ![0, off] S1024x256.size h) (ix2 k j) = argW m c (ix2 k ⟨4128 + (off + j), by omega⟩) := by
  pointwise []
  exact (show _ = V m c main_v36 (ix2 k ⟨off + j, by omega⟩) from by blk_point [iblk, idx11 t]).trans (host36_at m c k _)

/-- The attention's keys' columns' weight. -/
theorem wKk_at (c : Dev nD) (t : Fin cfg0.N) (off : ℕ) (ho : off + 256 ≤ 256) (h) (k : Fin 1024) (j : Fin 256) :
    View.ld (iblk m c 12 t) (Rect.unit (s := S1024x256) ![0, off] S1024x256.size h) (ix2 k j) = argW m c (ix2 k ⟨5152 + (off + j), by omega⟩) := by
  pointwise []
  exact (show _ = V m c main_v37 (ix2 k ⟨off + j, by omega⟩) from by blk_point [iblk, idx12 t]).trans (host37_at m c k _)

/-- The attention's values' columns' weight. -/
theorem wV_at (c : Dev nD) (t : Fin cfg0.N) (off : ℕ) (ho : off + 256 ≤ 256) (h) (k : Fin 1024) (j : Fin 256) :
    View.ld (iblk m c 13 t) (Rect.unit (s := S1024x256) ![0, off] S1024x256.size h) (ix2 k j) = argW m c (ix2 k ⟨5408 + (off + j), by omega⟩) := by
  pointwise []
  exact (show _ = V m c main_v38 (ix2 k ⟨off + j, by omega⟩) from by blk_point [iblk, idx13 t]).trans (host38_at m c k _)

/-- The scan's gate's columns' weight. -/
theorem wGa_at (c : Dev nD) (t : Fin cfg0.N) (off : ℕ) (ho : off + 256 ≤ 1024) (h) (k : Fin 1024) (j : Fin 256) :
    View.ld (iblk m c 14 t) (Rect.unit (s := S1024x1024) ![0, off] S1024x256.size h) (ix2 k j) = argW m c (ix2 k ⟨5664 + (off + j), by omega⟩) := by
  pointwise []
  exact (show _ = V m c main_v39 (ix2 k ⟨off + j, by omega⟩) from by blk_point [iblk, idx14 t]).trans (host39_at m c k _)

/-- The attention's gate's columns' weight. -/
theorem wGb_at (c : Dev nD) (t : Fin cfg0.N) (off : ℕ) (ho : off + 256 ≤ 1024) (h) (k : Fin 1024) (j : Fin 256) :
    View.ld (iblk m c 15 t) (Rect.unit (s := S1024x1024) ![0, off] S1024x256.size h) (ix2 k j) = argW m c (ix2 k ⟨6688 + (off + j), by omega⟩) := by
  pointwise []
  exact (show _ = V m c main_v40 (ix2 k ⟨off + j, by omega⟩) from by blk_point [iblk, idx15 t]).trans (host40_at m c k _)

/-- The convolution's weight. -/
theorem wK_at (c : Dev nD) (t : Fin cfg0.N) (i off : ℕ) (hi : i < 5) (ho : off + 128 ≤ 3072) (h) (d : Fin 128) :
    View.ld (iblk m c 16 t) (Rect.unit (s := S5x3072) ![i, off] S1x128.size h) (ix2 0 d) = argK m c (ix2 ⟨i, hi⟩ ⟨off + d, by omega⟩) := by
  pointwise []
  exact (show _ = V m c main_arg4 (ix2 ⟨i, hi⟩ ⟨off + d, by omega⟩) from by blk_point [iblk, idx16 t]).trans (congrFun (V_main_arg4 m c) _)

/-- The rates' weight. -/
theorem wB_at (c : Dev nD) (t : Fin cfg0.N) (k : Fin 1024) (j : Fin 128) (hj : (j : ℕ) < 32) :
    iblk m c 10 t (ix2 k j) = argW m c (ix2 k ⟨4096 + j, by omega⟩) := by
  exact (show _ = V m c main_v35 (ix2 k j) from by blk_point [iblk, idx10 t]).trans (host35_at m c k j hj)

/-- The decay's entry. -/
theorem inL_at (c : Dev nD) (t : Fin cfg0.N) (j : Fin 128) (h1 : 16 ≤ (j : ℕ)) (h2 : (j : ℕ) < 32) :
    iblk m c 17 t (ix2 0 j) = argL m c (ix2 ⟨(j - 16) / 8, by omega⟩ ⟨(j - 16) % 8, by omega⟩) := by
  exact (show _ = V m c main_v42 (ix2 0 j) from by blk_point [iblk, idx17 t]).trans (host42_at m c j h1 h2)

/-- The bias's entry. -/
theorem inD_at (c : Dev nD) (t : Fin cfg0.N) (j : Fin 128) (h1 : 16 ≤ (j : ℕ)) (h2 : (j : ℕ) < 32) :
    iblk m c 18 t (ix2 0 j) = argD m c (ix2 ⟨(j - 16) / 8, by omega⟩ ⟨(j - 16) % 8, by omega⟩) := by
  exact (show _ = V m c main_v44 (ix2 0 j) from by blk_point [iblk, idx18 t]).trans (host44_at m c j h1 h2)

/-- A cosine of the tables. -/
theorem inA_at (c : Dev nD) (t : Fin cfg0.N) (r : Fin 512) (d : Fin 128) :
    iblk m c 5 t (ix2 r d) = if h : (d : ℕ) < 16 then Ideal.cos (Cert.Reference7Ideal.MixIn.angles (F := Ideal) (ix2 ⟨t.val % 8 * 512 + r, by omega⟩ ⟨d, h⟩))
      else if h : (d : ℕ) - 16 < 16 then Ideal.cos (Cert.Reference7Ideal.MixIn.angles (F := Ideal) (ix2 ⟨t.val % 8 * 512 + r, by omega⟩ ⟨d - 16, by omega⟩)) else 1 := by
  exact (show _ = V m c main_v26 (ix2 ⟨t.val % 8 * 512 + r, by omega⟩ d) from by blk_point [iblk, idx5 t]).trans (host26_at m c _ d)

/-- A sine of the lower lanes' table. -/
theorem inB_at (c : Dev nD) (t : Fin cfg0.N) (r : Fin 512) (d : Fin 128) :
    iblk m c 6 t (ix2 r d) = if h : (d : ℕ) < 16 then -Ideal.sin (Cert.Reference7Ideal.MixIn.angles (F := Ideal) (ix2 ⟨t.val % 8 * 512 + r, by omega⟩ ⟨d, h⟩))
      else if h : (d : ℕ) - 16 < 16 then 0 else 0 := by
  exact (show _ = V m c main_v30 (ix2 ⟨t.val % 8 * 512 + r, by omega⟩ d) from by blk_point [iblk, idx6 t]).trans (host30_at m c _ d)

/-- A sine of the upper lanes' table. -/
theorem inE_at (c : Dev nD) (t : Fin cfg0.N) (r : Fin 512) (d : Fin 128) :
    iblk m c 7 t (ix2 r d) = if h : (d : ℕ) < 16 then 0
      else if h : (d : ℕ) - 16 < 16 then Ideal.sin (Cert.Reference7Ideal.MixIn.angles (F := Ideal) (ix2 ⟨t.val % 8 * 512 + r, by omega⟩ ⟨d - 16, by omega⟩)) else 0 := by
  exact (show _ = V m c main_v32 (ix2 ⟨t.val % 8 * 512 + r, by omega⟩ d) from by blk_point [iblk, idx7 t]).trans (host32_at m c _ d)

end Cert.Kernel7Ideal.MixIn

end
-- ==== Proof.MixIn.Blocks.lean ====
/- The blocks of the mixer's input kernel: the modulated norms of a block's tokens with their neighbours, the plain
   columns, the rotary embedding and the rates, each at an index as a row function. -/
module

public import proofs.«01_k».proof.Proof.MixIn.RefRows
public import proofs.«01_k».proof.Proof.MixIn.Base
public import Idealize.ShloMosaic.Lib.Pointwise
public import Idealize.ShloMosaic.Lib.KernelVsHost
public import Idealize.ShloMosaic.Lib.Pipeline.ValueKit

@[expose] public section

set_option maxRecDepth 16384

noncomputable section

namespace Cert.Kernel7Ideal.MixIn

open Cert Cert.Kernel7Ideal Cert.Kernel7Ideal.Gen Idealize.ShloMosaic Idealize.ShloMosaic.TcCoe Idealize.SL.Sem Idealize.ShloMosaic.Pipeline

section block

variable {F : FTy → Type} [FloatOps F]

/-- A block's rows times 256 columns. -/
def times (y : FVec F S512x1024 .bf16) (w : Vec F S1024x256 .bf16) : FVec F S512x256 .f32 :=
  matmul dot_S512x1024_S1024x256_S512x256_1_0_0_1_n_n none y (shapeCast S1024x256 w shapeCasts_S1024x256_S1024x256) (constant S512x256 .f32 0x00000000#32)

/-- 256 plain columns. -/
def plain (y : FVec F S512x1024 .bf16) (w : Vec F S1024x256 .bf16) : FVec F S1x512x256 .bf16 :=
  shapeCast S1x512x256 (truncf .bf16 (times y w) bitsLt_bf16_f32) shapeCasts_S512x256_S1x512x256

/-- The rotary embedding of a head: the head times the cosines, and its two rotations times the sines. -/
def turned (v : FVec F S512x128 .f32) (a b e : FVec F S512x128 .f32) : FVec F S1x512x128 .bf16 :=
  shapeCast S1x512x128 (truncf .bf16 (addf (addf (mulf v (shapeCast S512x128 a shapeCasts_S512x128_S512x128)) (mulf (dynamicRotate 1 112#32 none v rotates_S512x128_d1) (shapeCast S512x128 b shapeCasts_S512x128_S512x128)))
    (mulf (dynamicRotate 1 16#32 none v rotates_S512x128_d1) (shapeCast S512x128 e shapeCasts_S512x128_S512x128))) bitsLt_bf16_f32) shapeCasts_S512x128_S1x512x128

end block

/-- A row of a block with its neighbours: a row before it, of it, or after it. -/
def ext (p : Vec Ideal S1x8x1024 .f32) (x : Vec Ideal S1x512x1024 .f32) (q : Vec Ideal S1x8x1024 .f32) (r : Fin 528) (k : Fin 1024) : EReal :=
  if h : (r : ℕ) < 8 then p (ix3 0 ⟨r, h⟩ k) else if h : (r : ℕ) - 8 < 512 then x (ix3 0 ⟨r - 8, h⟩ k) else q (ix3 0 ⟨r - 8 - 512, by omega⟩ k)

/-- The concatenated rows at an index. -/
theorem ext_at (p : Vec Ideal S1x8x1024 .f32) (x : Vec Ideal S1x512x1024 .f32) (q : Vec Ideal S1x8x1024 .f32) (r : Fin 528) (k : Fin 1024) :
    concatenate S528x1024 0 [⟨S8x1024, (shapeCast S8x1024 p shapeCasts_S1x8x1024_S8x1024 : FVec Ideal S8x1024 .f32)⟩, ⟨S512x1024, (shapeCast S512x1024 x shapeCasts_S1x512x1024_S512x1024 : FVec Ideal S512x1024 .f32)⟩, ⟨S8x1024, (shapeCast S8x1024 q shapeCasts_S1x8x1024_S8x1024 : FVec Ideal S8x1024 .f32)⟩] concatenates_S8x1024_S512x1024_S8x1024_S528x1024_d0 (ix2 r k) = ext p x q r k := by
  pointwise [ext]

/-- The modulated norms of the rows, at an index. -/
theorem pay1_at (s a : Vec Ideal S1x1x1024 .f32) (p : Vec Ideal S1x8x1024 .f32) (x : Vec Ideal S1x512x1024 .f32) (q : Vec Ideal S1x8x1024 .f32) (w : Vec Ideal S1x1024 .f32) (r : Fin 528) (k : Fin 1024) :
    k0_pay1 s a p x q w (ix2 r k) = Rows.ada (ext p x q r) (fun k => w (ix2 0 k)) (fun k => s (ix3 0 0 k)) (fun k => a (ix3 0 0 k)) k := by
  unfold k0_pay1
  pointwise [ext_at, Rows.ada, Rows.norm]

/-- A block's rows times 256 columns, at an index. -/
theorem times_at (y : FVec Ideal S512x1024 .bf16) (w : Vec Ideal S1024x256 .bf16) (r : Fin 512) (j : Fin 256) :
    times y w (ix2 r j) = Rows.dot (fun k => y (ix2 r k)) (fun k j => w (ix2 k j)) j := by
  pointwise [times, Rows.dot]

/-- 256 plain columns at an index. -/
theorem plain_at (y : FVec Ideal S512x1024 .bf16) (w : Vec Ideal S1024x256 .bf16) (r : Fin 512) (j : Fin 256) :
    plain y w (ix3 0 r j) = Rows.dot (fun k => y (ix2 r k)) (fun k j => w (ix2 k j)) j := by
  pointwise [plain, times_at]

/-- A lane of a head's rotary embedding, from the head's lanes and the tables. -/
theorem turned_lanes (v a b e : FVec Ideal S512x128 .f32) (r : Fin 512) (d : Fin 128) :
    turned v a b e (ix3 0 r d) = v (ix2 r d) * a (ix2 r d) + v (ix2 r ⟨(d + 16) % 128, by omega⟩) * b (ix2 r d) + v (ix2 r ⟨(d + 112) % 128, by omega⟩) * e (ix2 r d) := by
  pointwise [turned]
  refine congrArg₂ (· + ·) (congrArg₂ (· + ·) rfl (congrArg (fun i => v (ix2 r i) * b (ix2 r d)) (Fin.ext ?_))) (congrArg (fun i => v (ix2 r i) * e (ix2 r d)) (Fin.ext ?_))
  · show ((d : ℕ) + 128 - 112) % 128 = (d + 16) % 128
    omega
  · show ((d : ℕ) + 128 - 16) % 128 = (d + 112) % 128
    omega

/-- Nothing less a value is its negation. -/
theorem zero_less (x : EReal) : 0 - x = -x := (sub_eq_add_neg _ _).trans (zero_add _)

/-- The lanes before a sixteenth, as the comparison's bit. -/
theorem lanes16 : ∀ l : Fin 128, IntOp.cmpi .slt (BitVec.ofNat 32 l) 16#32 = if (l : ℕ) < 16 then 1#1 else 0#1 := by decide +kernel

/-- The lanes before a thirty-second, as the comparison's bit. -/
theorem lanes32 : ∀ l : Fin 128, IntOp.cmpi .slt (BitVec.ofNat 32 l) 32#32 = if (l : ℕ) < 32 then 1#1 else 0#1 := by decide +kernel

/-- A lane of a head's rotary embedding, where the tables hold the cosines and sines. -/
theorem turned_at (v a b e : FVec Ideal S512x128 .f32) (C S : Fin 16 → EReal) (r : Fin 512)
    (ha : ∀ d : Fin 128, a (ix2 r d) = if h : (d : ℕ) < 16 then C ⟨d, h⟩ else if h : (d : ℕ) - 16 < 16 then C ⟨d - 16, h⟩ else 1)
    (hb : ∀ d : Fin 128, b (ix2 r d) = if h : (d : ℕ) < 16 then -S ⟨d, h⟩ else if h : (d : ℕ) - 16 < 16 then 0 else 0)
    (he : ∀ d : Fin 128, e (ix2 r d) = if h : (d : ℕ) < 16 then 0 else if h : (d : ℕ) - 16 < 16 then S ⟨d - 16, h⟩ else 0) (d : Fin 128) :
    turned v a b e (ix3 0 r d) = Rows.rope (fun d => v (ix2 r d)) C S d := by
  rw [turned_lanes, ha, hb, he]
  unfold Rows.rope
  by_cases h1 : (d : ℕ) < 16
  · rw [dif_pos h1, dif_pos h1, dif_pos h1, dif_pos h1, mul_zero, add_zero, mul_neg, ← sub_eq_add_neg]
    rw [show (⟨((d : ℕ) + 16) % 128, by omega⟩ : Fin 128) = ⟨16 + d, by omega⟩ from Fin.ext (by simp only; omega)]
  · by_cases h2 : (d : ℕ) - 16 < 16
    · rw [dif_neg h1, dif_neg h1, dif_neg h1, dif_neg h1, dif_pos h2, dif_pos h2, dif_pos h2, dif_pos (show (d : ℕ) < 32 by omega), mul_zero, add_zero]
      rw [show (⟨((d : ℕ) + 112) % 128, by omega⟩ : Fin 128) = ⟨d - 16, by omega⟩ from Fin.ext (by simp only; omega)]
    · rw [dif_neg h1, dif_neg h1, dif_neg h1, dif_neg h1, dif_neg h2, dif_neg h2, dif_neg h2, dif_neg (show ¬ (d : ℕ) < 32 by omega), mul_zero, add_zero, mul_zero, add_zero, mul_one]

/-- The rates at an index, from the values read. -/
theorem pay133_at (y : FVec Ideal S512x1024 .bf16) (w : Vec Ideal S1024x128 .bf16) (dt al : Vec Ideal S1x128 .f32) (r : Fin 512) (l : Fin 128) :
    k0_pay133 y w dt al (ix3 0 r l) = Rows.rates (fun i => Rows.dot (fun k => y (ix2 r k)) (fun k j => w (ix2 k j)) ⟨i, by omega⟩) (fun i => Rows.dot (fun k => y (ix2 r k)) (fun k j => w (ix2 k j)) ⟨16 + i, by omega⟩)
      (fun i => al (ix2 0 ⟨16 + i, by omega⟩)) (fun i => dt (ix2 0 ⟨16 + i, by omega⟩)) l := by
  pointwise [k0_pay133]
  rw [lanes16, lanes32, zero_less, zero_less, zero_less]
  unfold Rows.rates
  by_cases h1 : (l : ℕ) < 16
  · rw [if_pos h1, dif_pos h1]
    rfl
  · by_cases h2 : (l : ℕ) < 32
    · rw [if_neg h1, dif_neg h1, if_pos h2, dif_pos h2]
      have e : (⟨16 + (l - 16), by omega⟩ : Fin 128) = l := Fin.ext (by simp only; omega)
      simp only [e]
      rfl
    · rw [if_neg h1, dif_neg h1, if_neg h2, dif_neg h2]
      rfl

variable (m : (ℓ : Loc nD τ sig) → Buf (Elt Ideal) ℓ)

/-- A token's modulated norm. -/
def token (c : Dev nD) (b : Fin 8) (s : Fin 4096) : Fin 1024 → EReal :=
  Rows.ada (fun k => argX m c (ix3 b s k)) (fun k => argN m c (ix1 k)) (fun k => argC m c (ix2 b ⟨3072 + k, by omega⟩)) (fun k => argC m c (ix2 b ⟨4096 + k, by omega⟩))

/-- A row of a grid point's block with its neighbours is the token there. -/
theorem ext_eq (c : Dev nD) (t : Fin cfg0.N) (hb : t.val / 8 < 8) (r : Fin 528) (s : Fin 4096) (hs : s + 8 = t.val % 8 * 512 + (r : ℕ)) :
    ext (iblk m c 1 t) (iblk m c 0 t) (iblk m c 2 t) r = fun k => argX m c (ix3 ⟨t.val / 8, hb⟩ s k) := by
  funext k
  unfold ext
  have hr := r.isLt
  by_cases h1 : (r : ℕ) < 8
  · rw [dif_pos h1, inP_at m c t hb]
    exact congrArg (fun s => argX m c (ix3 ⟨t.val / 8, hb⟩ s k)) (Fin.ext (by simp only; omega))
  · by_cases h2 : (r : ℕ) - 8 < 512
    · rw [dif_neg h1, dif_pos h2, inX_at m c t hb]
      exact congrArg (fun s => argX m c (ix3 ⟨t.val / 8, hb⟩ s k)) (Fin.ext (by simp only; omega))
    · rw [dif_neg h1, dif_neg h2, inQ_at m c t hb]
      exact congrArg (fun s => argX m c (ix3 ⟨t.val / 8, hb⟩ s k)) (Fin.ext (by have := s.isLt; simp only; omega))

/-- The norms of a grid point's rows, in the matrix units' format. -/
abbrev wide (c : Dev nD) (t : Fin cfg0.N) : FVec Ideal S528x1024 .bf16 :=
  k0_pay2 (View.ld (iblk m c 3 t) (Rect.unit (s := S1x9x1024) ![0, 3, 0] S1x1x1024.size inb_S1x9x1024_S1x1x1024_0_3_0)) (View.ld (iblk m c 3 t) (Rect.unit (s := S1x9x1024) ![0, 4, 0] S1x1x1024.size inb_S1x9x1024_S1x1x1024_0_4_0))
    (iblk m c 1 t) (iblk m c 0 t) (iblk m c 2 t) (iblk m c 4 t)

/-- The norms of a grid point's own rows. -/
abbrev own (c : Dev nD) (t : Fin cfg0.N) : FVec Ideal S512x1024 .bf16 :=
  k0_pay3 (View.ld (iblk m c 3 t) (Rect.unit (s := S1x9x1024) ![0, 3, 0] S1x1x1024.size inb_S1x9x1024_S1x1x1024_0_3_0)) (View.ld (iblk m c 3 t) (Rect.unit (s := S1x9x1024) ![0, 4, 0] S1x1x1024.size inb_S1x9x1024_S1x1x1024_0_4_0))
    (iblk m c 1 t) (iblk m c 0 t) (iblk m c 2 t) (iblk m c 4 t)

/-- A row of the norms is its token's. -/
theorem wide_at (c : Dev nD) (t : Fin cfg0.N) (hb : t.val / 8 < 8) (r : Fin 528) (s : Fin 4096) (hs : s + 8 = t.val % 8 * 512 + (r : ℕ)) (k : Fin 1024) :
    wide m c t (ix2 r k) = token m c ⟨t.val / 8, hb⟩ s k := by
  have e : wide m c t (ix2 r k) = _ := pay1_at _ _ _ _ _ _ r k
  rw [e, ext_eq m c t hb r s hs]
  simp only [inN_at m c t, inS_at m c t hb, inC_at m c t hb]
  rfl

/-- A row of the block's own norms is its token's. -/
theorem own_at (c : Dev nD) (t : Fin cfg0.N) (hb : t.val / 8 < 8) (r : Fin 512) (k : Fin 1024) :
    own m c t (ix2 r k) = token m c ⟨t.val / 8, hb⟩ ⟨t.val % 8 * 512 + r, by omega⟩ k := by
  have e : own m c t (ix2 r k) = wide m c t (ix2 ⟨8 + r, by omega⟩ k) := by
    pointwise [k0_pay3, k0_pay2]
  rw [e]
  exact wide_at m c t hb _ _ (by simp only; omega) k

/-- The reference's combined projection of the arguments. -/
abbrev columns (c : Dev nD) : FVec Ideal Cert.Reference7Ideal.S8x4096x7712 .f32 := Cert.Reference7Ideal.MixIn.columns (argX m c) (argC m c) (argN m c) (argW m c)

/-- A column of the combined projection, from its token. -/
theorem columns_at (c : Dev nD) (b : Fin 8) (s : Fin 4096) (j : Fin 7712) : columns m c (ix3 b s j) = Rows.dot (token m c b s) (fun k j => argW m c (ix2 k j)) j :=
  Cert.Reference7Ideal.MixIn.columns_at _ _ _ _ b s j

/-- A block's rows times columns that are the projection's. -/
theorem dot_at (c : Dev nD) (t : Fin cfg0.N) (hb : t.val / 8 < 8) (r : Fin 512) (n : ℕ) (w : Fin 1024 → Fin n → EReal) (j : Fin n) (j' : Fin 7712) (hw : ∀ k, w k j = argW m c (ix2 k j')) :
    Rows.dot (fun k => own m c t (ix2 r k)) w j = columns m c (ix3 ⟨t.val / 8, hb⟩ ⟨t.val % 8 * 512 + r, by omega⟩ j') := by
  rw [columns_at]
  unfold Rows.dot
  simp only [own_at m c t hb, hw]

end Cert.Kernel7Ideal.MixIn

end
-- ==== Proof.MixIn.Plain.lean ====
/- The columns, heads and rates that a grid point of the mixer's input kernel stores, as the reference's. -/
module

public import proofs.«01_k».proof.Proof.MixIn.RefRows
public import proofs.«01_k».proof.Proof.MixIn.Blocks
public import Idealize.ShloMosaic.Lib.Pointwise
public import Idealize.ShloMosaic.Lib.KernelVsHost
public import Idealize.ShloMosaic.Lib.Pipeline.ValueKit

@[expose] public section

set_option maxRecDepth 16384

noncomputable section

namespace Cert.Kernel7Ideal.MixIn

open Cert Cert.Kernel7Ideal Cert.Kernel7Ideal.Gen Idealize.ShloMosaic Idealize.ShloMosaic.TcCoe Idealize.SL.Sem Idealize.ShloMosaic.Pipeline

variable (m : (ℓ : Loc nD τ sig) → Buf (Elt Ideal) ℓ)

/-- A weight of the attention's keys' columns, read whole. -/
theorem allKk_at (c : Dev nD) (t : Fin cfg0.N) (k : Fin 1024) (j : Fin 256) : iblk m c 12 t (ix2 k j) = argW m c (ix2 k ⟨5152 + j, by omega⟩) :=
  (show _ = V m c main_v37 (ix2 k j) from by blk_point [iblk, idx12 t]).trans (host37_at m c k j)

/-- A weight of the attention's values' columns, read whole. -/
theorem allV_at (c : Dev nD) (t : Fin cfg0.N) (k : Fin 1024) (j : Fin 256) : iblk m c 13 t (ix2 k j) = argW m c (ix2 k ⟨5408 + j, by omega⟩) :=
  (show _ = V m c main_v38 (ix2 k j) from by blk_point [iblk, idx13 t]).trans (host38_at m c k j)

/-- A lane of plain columns is the projection's column. -/
theorem plain_lane (c : Dev nD) (t : Fin cfg0.N) (base : ℕ) (hB : base + 256 ≤ 7712) (w : Vec Ideal S1024x256 .bf16) (hw : ∀ k j, w (ix2 k j) = argW m c (ix2 k ⟨base + j, by omega⟩))
    (x : S1x512x256.Idx) (b : Fin 8) (s : Fin 4096) (j : Fin 7712) (h0 : (b : ℕ) = t.val / 8) (h1 : (s : ℕ) = t.val % 8 * 512 + x 1) (h2 : (j : ℕ) = base + x 2) :
    plain (own m c t) w x = columns m c (ix3 b s j) := by
  idx_vars x
  rename' x0 => z, x1 => r, x2 => d
  have ez : z = 0 := Subsingleton.elim _ _
  subst ez
  have hb : t.val / 8 < 8 := h0 ▸ b.isLt
  have hr : (r : ℕ) < 512 := r.isLt
  obtain rfl : b = ⟨t.val / 8, hb⟩ := Fin.ext h0
  have hs1 : t.val % 8 * 512 + (r : ℕ) < 4096 := by clear h1; omega
  obtain rfl : s = ⟨t.val % 8 * 512 + r, hs1⟩ := Fin.ext h1
  have hd : (d : ℕ) < 256 := d.isLt
  have hj1 : base + (d : ℕ) < 7712 := by clear h2; omega
  obtain rfl : j = ⟨base + d, hj1⟩ := Fin.ext h2
  rw [plain_at]
  exact dot_at m c t hb r 256 _ d _ (fun k => hw k d)

/-- A lane of a head's rotary embedding is that of the projection's columns. -/
theorem turned_lane (c : Dev nD) (t : Fin cfg0.N) (base lo : ℕ) (hB : base + 256 ≤ 7712) (hl : lo + 128 ≤ 256) (w : Vec Ideal S1024x256 .bf16) (hw : ∀ k j, w (ix2 k j) = argW m c (ix2 k ⟨base + j, by omega⟩))
    (hs : S512x256.Slices ![0, lo] S512x128) (hb : t.val / 8 < 8) (r : Fin 512) (d : Fin 128) :
    turned (extractStridedSlice S512x128 ![0, lo] (times (own m c t) w) hs) (iblk m c 5 t) (iblk m c 6 t) (iblk m c 7 t) (ix3 0 r d)
      = Rows.rope (fun e => columns m c (ix3 ⟨t.val / 8, hb⟩ ⟨t.val % 8 * 512 + r, by omega⟩ ⟨base + (lo + e), by omega⟩))
        (fun i => Ideal.cos (Cert.Reference7Ideal.MixIn.angles (F := Ideal) (ix2 ⟨t.val % 8 * 512 + r, by omega⟩ i))) (fun i => Ideal.sin (Cert.Reference7Ideal.MixIn.angles (F := Ideal) (ix2 ⟨t.val % 8 * 512 + r, by omega⟩ i))) d := by
  rw [turned_at _ _ _ _ (fun i => Ideal.cos (Cert.Reference7Ideal.MixIn.angles (F := Ideal) (ix2 ⟨t.val % 8 * 512 + r, by omega⟩ i))) (fun i => Ideal.sin (Cert.Reference7Ideal.MixIn.angles (F := Ideal) (ix2 ⟨t.val % 8 * 512 + r, by omega⟩ i))) r (inA_at m c t r) (inB_at m c t r) (inE_at m c t r)]
  refine congrArg (fun f => Rows.rope f _ _ d) (funext fun e => ?_)
  have e1 : extractStridedSlice S512x128 ![0, lo] (times (own m c t) w) hs (ix2 r e) = times (own m c t) w (ix2 r ⟨lo + e, by omega⟩) := by
    generalize times (own m c t) w = y
    pointwise []
  rw [e1, times_at]
  exact dot_at m c t hb r 256 _ _ _ (fun k => hw k _)

/-- A lane of the heads' gates that a grid point stores. -/
theorem core20 (c : Dev nD) (t : Fin cfg0.N) (off : ℕ) (ho : off + 256 ≤ 1024) (w : Vec Ideal S1024x256 .bf16) (hw : ∀ k j, w (ix2 k j) = argW m c (ix2 k ⟨3072 + (off + j), by omega⟩))
    (x : S1x512x256.Idx) (i : S8x4096x1024.Idx) (h0 : (i 0 : ℕ) = t.val / 8) (h1 : (i 1 : ℕ) = t.val % 8 * 512 + x 1) (h2 : (i 2 : ℕ) = off + x 2) :
    plain (own m c t) w x = Cert.Reference7Ideal.MixIn.z (columns m c) i := by
  have ht : t.val < 64 := t.isLt
  have hb : t.val / 8 < 8 := by omega
  obtain ⟨b, s, j, rfl⟩ : ∃ (b : Fin 8) (s : Fin 4096) (j : Fin 1024), i = ix3 b s j := ⟨i 0, i 1, i 2, by
    funext a
    match a with
    | ⟨0, _⟩ => rfl
    | ⟨1, _⟩ => rfl
    | ⟨2, _⟩ => rfl⟩
  rw [Cert.Reference7Ideal.MixIn.z_at]
  exact plain_lane m c t (3072 + off) (by omega) w (fun k j => (hw k j).trans (congrArg (fun i => argW m c (ix2 k i)) (Fin.ext (Nat.add_assoc _ _ _).symm))) x b s _ h0 h1 ((congrArg (3072 + ·) h2).trans (Nat.add_assoc _ _ _).symm)

/-- A lane of the scan's gate that a grid point stores. -/
theorem core25 (c : Dev nD) (t : Fin cfg0.N) (off : ℕ) (ho : off + 256 ≤ 1024) (w : Vec Ideal S1024x256 .bf16) (hw : ∀ k j, w (ix2 k j) = argW m c (ix2 k ⟨5664 + (off + j), by omega⟩))
    (x : S1x512x256.Idx) (i : S8x4096x1024.Idx) (h0 : (i 0 : ℕ) = t.val / 8) (h1 : (i 1 : ℕ) = t.val % 8 * 512 + x 1) (h2 : (i 2 : ℕ) = off + x 2) :
    plain (own m c t) w x = Cert.Reference7Ideal.MixIn.ga (columns m c) i := by
  have ht : t.val < 64 := t.isLt
  have hb : t.val / 8 < 8 := by omega
  obtain ⟨b, s, j, rfl⟩ : ∃ (b : Fin 8) (s : Fin 4096) (j : Fin 1024), i = ix3 b s j := ⟨i 0, i 1, i 2, by
    funext a
    match a with
    | ⟨0, _⟩ => rfl
    | ⟨1, _⟩ => rfl
    | ⟨2, _⟩ => rfl⟩
  rw [Cert.Reference7Ideal.MixIn.ga_at]
  exact plain_lane m c t (5664 + off) (by omega) w (fun k j => (hw k j).trans (congrArg (fun i => argW m c (ix2 k i)) (Fin.ext (Nat.add_assoc _ _ _).symm))) x b s _ h0 h1 ((congrArg (5664 + ·) h2).trans (Nat.add_assoc _ _ _).symm)

/-- A lane of the attention's gate that a grid point stores. -/
theorem core26 (c : Dev nD) (t : Fin cfg0.N) (off : ℕ) (ho : off + 256 ≤ 1024) (w : Vec Ideal S1024x256 .bf16) (hw : ∀ k j, w (ix2 k j) = argW m c (ix2 k ⟨6688 + (off + j), by omega⟩))
    (x : S1x512x256.Idx) (i : S8x4096x1024.Idx) (h0 : (i 0 : ℕ) = t.val / 8) (h1 : (i 1 : ℕ) = t.val % 8 * 512 + x 1) (h2 : (i 2 : ℕ) = off + x 2) :
    plain (own m c t) w x = Cert.Reference7Ideal.MixIn.gb (columns m c) i := by
  have ht : t.val < 64 := t.isLt
  have hb : t.val / 8 < 8 := by omega
  obtain ⟨b, s, j, rfl⟩ : ∃ (b : Fin 8) (s : Fin 4096) (j : Fin 1024), i = ix3 b s j := ⟨i 0, i 1, i 2, by
    funext a
    match a with
    | ⟨0, _⟩ => rfl
    | ⟨1, _⟩ => rfl
    | ⟨2, _⟩ => rfl⟩
  rw [Cert.Reference7Ideal.MixIn.gb_at]
  exact plain_lane m c t (6688 + off) (by omega) w (fun k j => (hw k j).trans (congrArg (fun i => argW m c (ix2 k i)) (Fin.ext (Nat.add_assoc _ _ _).symm))) x b s _ h0 h1 ((congrArg (6688 + ·) h2).trans (Nat.add_assoc _ _ _).symm)

/-- A lane of the attention's values that a grid point stores. -/
theorem core24 (c : Dev nD) (t : Fin cfg0.N) (off : ℕ) (ho : off + 256 ≤ 256) (w : Vec Ideal S1024x256 .bf16) (hw : ∀ k j, w (ix2 k j) = argW m c (ix2 k ⟨5408 + (off + j), by omega⟩))
    (x : S1x512x256.Idx) (i : S8x4096x256.Idx) (h0 : (i 0 : ℕ) = t.val / 8) (h1 : (i 1 : ℕ) = t.val % 8 * 512 + x 1) (h2 : (i 2 : ℕ) = off + x 2) :
    plain (own m c t) w x = Cert.Reference7Ideal.MixIn.v (columns m c) i := by
  have ht : t.val < 64 := t.isLt
  have hb : t.val / 8 < 8 := by omega
  obtain ⟨b, s, j, rfl⟩ : ∃ (b : Fin 8) (s : Fin 4096) (j : Fin 256), i = ix3 b s j := ⟨i 0, i 1, i 2, by
    funext a
    match a with
    | ⟨0, _⟩ => rfl
    | ⟨1, _⟩ => rfl
    | ⟨2, _⟩ => rfl⟩
  rw [Cert.Reference7Ideal.MixIn.v_at]
  exact plain_lane m c t (5408 + off) (by omega) w (fun k j => (hw k j).trans (congrArg (fun i => argW m c (ix2 k i)) (Fin.ext (Nat.add_assoc _ _ _).symm))) x b s _ h0 h1 ((congrArg (5408 + ·) h2).trans (Nat.add_assoc _ _ _).symm)

/-- A lane of the attention's queries that a grid point stores. -/
theorem core22 (c : Dev nD) (t : Fin cfg0.N) (p off lo : ℕ) (hp : off + lo = p * 128) (ho : off + 256 ≤ 1024) (hl : lo + 128 ≤ 256) (w : Vec Ideal S1024x256 .bf16) (hw : ∀ k j, w (ix2 k j) = argW m c (ix2 k ⟨4128 + (off + j), by omega⟩))
    (hs : S512x256.Slices ![0, lo] S512x128) (x : S1x512x128.Idx) (i : S8x4096x1024.Idx) (h0 : (i 0 : ℕ) = t.val / 8) (h1 : (i 1 : ℕ) = t.val % 8 * 512 + x 1) (h2 : (i 2 : ℕ) = p * 128 + x 2) :
    turned (extractStridedSlice S512x128 ![0, lo] (times (own m c t) w) hs) (iblk m c 5 t) (iblk m c 6 t) (iblk m c 7 t) x = Cert.Reference7Ideal.MixIn.q (columns m c) i := by
  have ht : t.val < 64 := t.isLt
  have hb : t.val / 8 < 8 := by omega
  obtain ⟨b, s, j, rfl⟩ : ∃ (b : Fin 8) (s : Fin 4096) (j : Fin 1024), i = ix3 b s j := ⟨i 0, i 1, i 2, by
    funext a
    match a with
    | ⟨0, _⟩ => rfl
    | ⟨1, _⟩ => rfl
    | ⟨2, _⟩ => rfl⟩
  idx_vars x
  rename' x0 => z, x1 => r, x2 => d
  have ez : z = 0 := Subsingleton.elim _ _
  subst ez
  have hr : (r : ℕ) < 512 := r.isLt
  have hd : (d : ℕ) < 128 := d.isLt
  obtain rfl : b = ⟨t.val / 8, hb⟩ := Fin.ext h0
  have hs1 : t.val % 8 * 512 + (r : ℕ) < 4096 := by clear h1; omega
  obtain rfl : s = ⟨t.val % 8 * 512 + r, hs1⟩ := Fin.ext h1
  replace h2 : (j : ℕ) = p * 128 + d := h2
  rw [Cert.Reference7Ideal.MixIn.q_at, turned_lane m c t (4128 + off) lo (by omega) hl w (fun k j => (hw k j).trans (congrArg (fun i => argW m c (ix2 k i)) (Fin.ext (Nat.add_assoc _ _ _).symm))) hs hb r d]
  have e1 : (⟨(j : ℕ) % 128, Nat.mod_lt _ (by decide)⟩ : Fin 128) = d := Fin.ext (by simp only; omega)
  have e2 : ∀ e : Fin 128, (⟨4128 + ((j : ℕ) / 128 * 128 + e), by omega⟩ : Fin 7712) = ⟨4128 + off + (lo + e), by omega⟩ := fun e => Fin.ext (by simp only; omega)
  simp only [e1, e2]

/-- A lane of the attention's keys that a grid point stores. -/
theorem core23 (c : Dev nD) (t : Fin cfg0.N) (p off lo : ℕ) (hp : off + lo = p * 128) (ho : off + 256 ≤ 256) (hl : lo + 128 ≤ 256) (w : Vec Ideal S1024x256 .bf16) (hw : ∀ k j, w (ix2 k j) = argW m c (ix2 k ⟨5152 + (off + j), by omega⟩))
    (hs : S512x256.Slices ![0, lo] S512x128) (x : S1x512x128.Idx) (i : S8x4096x256.Idx) (h0 : (i 0 : ℕ) = t.val / 8) (h1 : (i 1 : ℕ) = t.val % 8 * 512 + x 1) (h2 : (i 2 : ℕ) = p * 128 + x 2) :
    turned (extractStridedSlice S512x128 ![0, lo] (times (own m c t) w) hs) (iblk m c 5 t) (iblk m c 6 t) (iblk m c 7 t) x = Cert.Reference7Ideal.MixIn.k (columns m c) i := by
  have ht : t.val < 64 := t.isLt
  have hb : t.val / 8 < 8 := by omega
  obtain ⟨b, s, j, rfl⟩ : ∃ (b : Fin 8) (s : Fin 4096) (j : Fin 256), i = ix3 b s j := ⟨i 0, i 1, i 2, by
    funext a
    match a with
    | ⟨0, _⟩ => rfl
    | ⟨1, _⟩ => rfl
    | ⟨2, _⟩ => rfl⟩
  idx_vars x
  rename' x0 => z, x1 => r, x2 => d
  have ez : z = 0 := Subsingleton.elim _ _
  subst ez
  have hr : (r : ℕ) < 512 := r.isLt
  have hd : (d : ℕ) < 128 := d.isLt
  obtain rfl : b = ⟨t.val / 8, hb⟩ := Fin.ext h0
  have hs1 : t.val % 8 * 512 + (r : ℕ) < 4096 := by clear h1; omega
  obtain rfl : s = ⟨t.val % 8 * 512 + r, hs1⟩ := Fin.ext h1
  replace h2 : (j : ℕ) = p * 128 + d := h2
  rw [Cert.Reference7Ideal.MixIn.k_at, turned_lane m c t (5152 + off) lo (by omega) hl w (fun k j => (hw k j).trans (congrArg (fun i => argW m c (ix2 k i)) (Fin.ext (Nat.add_assoc _ _ _).symm))) hs hb r d]
  have e1 : (⟨(j : ℕ) % 128, Nat.mod_lt _ (by decide)⟩ : Fin 128) = d := Fin.ext (by simp only; omega)
  have e2 : ∀ e : Fin 128, (⟨5152 + ((j : ℕ) / 128 * 128 + e), by omega⟩ : Fin 7712) = ⟨5152 + off + (lo + e), by omega⟩ := fun e => Fin.ext (by simp only; omega)
  simp only [e1, e2]

/-- The rates that a grid point stores. -/
theorem core21 (c : Dev nD) (t : Fin cfg0.N) (x : S1x512x128.Idx) (i : S8x4096x128.Idx) (h0 : (i 0 : ℕ) = t.val / 8) (h1 : (i 1 : ℕ) = t.val % 8 * 512 + x 1) (h2 : (i 2 : ℕ) = x 2) :
    k0_pay133 (own m c t) (iblk m c 10 t) (iblk m c 18 t) (iblk m c 17 t) x = Cert.Reference7Ideal.MixIn.rates (columns m c) (argL m c) (argD m c) i := by
  have ht : t.val < 64 := t.isLt
  have hb : t.val / 8 < 8 := by omega
  obtain ⟨b, s, j, rfl⟩ : ∃ (b : Fin 8) (s : Fin 4096) (j : Fin 128), i = ix3 b s j := ⟨i 0, i 1, i 2, by
    funext a
    match a with
    | ⟨0, _⟩ => rfl
    | ⟨1, _⟩ => rfl
    | ⟨2, _⟩ => rfl⟩
  idx_vars x
  rename' x0 => z, x1 => r, x2 => d
  have ez : z = 0 := Subsingleton.elim _ _
  subst ez
  have hr : (r : ℕ) < 512 := r.isLt
  obtain rfl : b = ⟨t.val / 8, hb⟩ := Fin.ext h0
  have hs1 : t.val % 8 * 512 + (r : ℕ) < 4096 := by clear h1; omega
  obtain rfl : s = ⟨t.val % 8 * 512 + r, hs1⟩ := Fin.ext h1
  obtain rfl : j = d := Fin.ext h2
  rw [pay133_at, Cert.Reference7Ideal.MixIn.rates_at]
  have e1 : ∀ i : Fin 16, Rows.dot (fun k => own m c t (ix2 r k)) (fun k j => iblk m c 10 t (ix2 k j)) ⟨i, by omega⟩ = columns m c (ix3 ⟨t.val / 8, hb⟩ ⟨t.val % 8 * 512 + r, by omega⟩ ⟨4096 + i, by omega⟩) :=
    fun i => dot_at m c t hb r 128 _ _ _ (fun k => wB_at m c t k _ (by simp only; omega))
  have e2 : ∀ i : Fin 16, Rows.dot (fun k => own m c t (ix2 r k)) (fun k j => iblk m c 10 t (ix2 k j)) ⟨16 + i, by omega⟩ = columns m c (ix3 ⟨t.val / 8, hb⟩ ⟨t.val % 8 * 512 + r, by omega⟩ ⟨4112 + i, by omega⟩) :=
    fun i => dot_at m c t hb r 128 _ _ _ (fun k => (wB_at m c t k _ (by simp only; omega)).trans (congrArg (fun i => argW m c (ix2 k i)) (Fin.ext (by simp only; omega))))
  have e3 : ∀ i : Fin 16, iblk m c 17 t (ix2 0 ⟨16 + i, by omega⟩) = argL m c (ix2 ⟨i / 8, by omega⟩ ⟨i % 8, by omega⟩) := fun i => by
    rw [inL_at m c t _ (by simp only; omega) (by simp only; omega)]
    exact congrArg₂ (fun p q => argL m c (ix2 p q)) (Fin.ext (by simp only; omega)) (Fin.ext (by simp only; omega))
  have e4 : ∀ i : Fin 16, iblk m c 18 t (ix2 0 ⟨16 + i, by omega⟩) = argD m c (ix2 ⟨i / 8, by omega⟩ ⟨i % 8, by omega⟩) := fun i => by
    rw [inD_at m c t _ (by simp only; omega) (by simp only; omega)]
    exact congrArg₂ (fun p q => argD m c (ix2 p q)) (Fin.ext (by simp only; omega)) (Fin.ext (by simp only; omega))
  simp only [e1, e2, e3, e4]

end Cert.Kernel7Ideal.MixIn

end
-- ==== Proof.MixIn.PlainFinal.lean ====
/- What the mixer's input kernel leaves in its plain, rotary and rates arrays: the reference's results. -/
module

public import proofs.«01_k».proof.Proof.MixIn.RefRows
public import proofs.«01_k».proof.Proof.MixIn.Value
public import proofs.«01_k».proof.Proof.MixIn.Plain
public import Idealize.ShloMosaic.Lib.Pointwise
public import Idealize.ShloMosaic.Lib.KernelVsHost
public import Idealize.ShloMosaic.Lib.Pipeline.ValueKit

@[expose] public section

set_option maxRecDepth 16384

noncomputable section

namespace Cert.Kernel7Ideal.MixIn

open Cert Cert.Kernel7Ideal Cert.Kernel7Ideal.Gen Cert.Kernel7Ideal.Value Idealize.ShloMosaic Idealize.ShloMosaic.TcCoe Idealize.SL.Sem Idealize.ShloMosaic.Pipeline

variable (m : (ℓ : Loc nD τ sig) → Buf (Elt Ideal) ℓ)

set_option maxHeartbeats 4000000 in
/-- THE ARRAY of window 24: what the launch leaves is the reference's result. -/
theorem final24 (c : Dev nD) : (dats m 0 c).arrAt 24 cfg0.N = Cert.Reference7Ideal.MixIn.v (columns m c) := by
  refine (dats m 0 c).arrAt_eq_of_covers 24 _ (by decide +kernel) (fun t hf y => ?_)
  have k0 : (((cfg0.win 24).blk t).view.emb y 0 : ℕ) = t.val / 8 := by
    have := (y 0).isLt
    blk_simp [idx24 t]
  have k1 : (((cfg0.win 24).blk t).view.emb y 1 : ℕ) = t.val % 8 * 512 + y 1 := by blk_simp [idx24 t]
  have k2 : (((cfg0.win 24).blk t).view.emb y 2 : ℕ) = y 2 := by blk_simp [idx24 t]
  rw [after0_24]
  unfold outsAt0
  frame_out
  generalize ((cfg0.win 24).blk t).view.emb y = i at k0 k1 k2 ⊢
  rw [cast_eq]
  exact core24 m c t 0 (by decide) (iblk m c 13 t) (fun k j => (allV_at m c t k j).trans (congrArg (fun i => argW m c (ix2 k i)) (Fin.ext (by simp only; omega)))) _ i k0 k1 (k2.trans (Nat.zero_add _).symm)

set_option maxHeartbeats 4000000 in
/-- THE ARRAY of window 21: what the launch leaves is the reference's result. -/
theorem final21 (c : Dev nD) : (dats m 0 c).arrAt 21 cfg0.N = Cert.Reference7Ideal.MixIn.rates (columns m c) (argL m c) (argD m c) := by
  refine (dats m 0 c).arrAt_eq_of_covers 21 _ (by decide +kernel) (fun t hf y => ?_)
  have k0 : (((cfg0.win 21).blk t).view.emb y 0 : ℕ) = t.val / 8 := by
    have := (y 0).isLt
    blk_simp [idx21 t]
  have k1 : (((cfg0.win 21).blk t).view.emb y 1 : ℕ) = t.val % 8 * 512 + y 1 := by blk_simp [idx21 t]
  have k2 : (((cfg0.win 21).blk t).view.emb y 2 : ℕ) = y 2 := by blk_simp [idx21 t]
  rw [after0_21]
  unfold outsAt0
  frame_out
  generalize ((cfg0.win 21).blk t).view.emb y = i at k0 k1 k2 ⊢
  rw [cast_eq]
  exact core21 m c t _ i k0 k1 k2

set_option maxHeartbeats 4000000 in
/-- THE ARRAY of window 20: what the launch leaves is the reference's result. -/
theorem final20 (c : Dev nD) : (dats m 0 c).arrAt 20 cfg0.N = Cert.Reference7Ideal.MixIn.z (columns m c) := by
  refine (dats m 0 c).arrAt_eq_of_covers 20 _ (by decide +kernel) (fun t hf y => ?_)
  have k0 : (((cfg0.win 20).blk t).view.emb y 0 : ℕ) = t.val / 8 := by
    have := (y 0).isLt
    blk_simp [idx20 t]
  have k1 : (((cfg0.win 20).blk t).view.emb y 1 : ℕ) = t.val % 8 * 512 + y 1 := by blk_simp [idx20 t]
  have k2 : (((cfg0.win 20).blk t).view.emb y 2 : ℕ) = y 2 := by blk_simp [idx20 t]
  rw [after0_20]
  unfold outsAt0
  frame_out
  generalize ((cfg0.win 20).blk t).view.emb y = i at k0 k1 k2 ⊢
  rw [cast_eq]
  canon_tiles x h
  · exact core20 m c t 768 (by decide) _ (wZ_at m c t 768 (by decide) inb_S1024x1024_S1024x256_0_768) x i k0 (k1.trans (congrArg (t.val % 8 * 512 + ·) h1)) (k2.trans h2)
  · exact core20 m c t 512 (by decide) _ (wZ_at m c t 512 (by decide) inb_S1024x1024_S1024x256_0_512) x i k0 (k1.trans (congrArg (t.val % 8 * 512 + ·) h1)) (k2.trans h2)
  · exact core20 m c t 256 (by decide) _ (wZ_at m c t 256 (by decide) inb_S1024x1024_S1024x256_0_256) x i k0 (k1.trans (congrArg (t.val % 8 * 512 + ·) h1)) (k2.trans h2)
  · exact core20 m c t 0 (by decide) _ (wZ_at m c t 0 (by decide) inb_S1024x1024_S1024x256_0_0) x i k0 (k1.trans (congrArg (t.val % 8 * 512 + ·) h1)) (k2.trans (h2.trans (Nat.zero_add _).symm))

set_option maxHeartbeats 4000000 in
/-- THE ARRAY of window 25: what the launch leaves is the reference's result. -/
theorem final25 (c : Dev nD) : (dats m 0 c).arrAt 25 cfg0.N = Cert.Reference7Ideal.MixIn.ga (columns m c) := by
  refine (dats m 0 c).arrAt_eq_of_covers 25 _ (by decide +kernel) (fun t hf y => ?_)
  have k0 : (((cfg0.win 25).blk t).view.emb y 0 : ℕ) = t.val / 8 := by
    have := (y 0).isLt
    blk_simp [idx25 t]
  have k1 : (((cfg0.win 25).blk t).view.emb y 1 : ℕ) = t.val % 8 * 512 + y 1 := by blk_simp [idx25 t]
  have k2 : (((cfg0.win 25).blk t).view.emb y 2 : ℕ) = y 2 := by blk_simp [idx25 t]
  rw [after0_25]
  unfold outsAt0
  frame_out
  generalize ((cfg0.win 25).blk t).view.emb y = i at k0 k1 k2 ⊢
  rw [cast_eq]
  canon_tiles x h
  · exact core25 m c t 768 (by decide) _ (wGa_at m c t 768 (by decide) inb_S1024x1024_S1024x256_0_768) x i k0 (k1.trans (congrArg (t.val % 8 * 512 + ·) h1)) (k2.trans h2)
  · exact core25 m c t 512 (by decide) _ (wGa_at m c t 512 (by decide) inb_S1024x1024_S1024x256_0_512) x i k0 (k1.trans (congrArg (t.val % 8 * 512 + ·) h1)) (k2.trans h2)
  · exact core25 m c t 256 (by decide) _ (wGa_at m c t 256 (by decide) inb_S1024x1024_S1024x256_0_256) x i k0 (k1.trans (congrArg (t.val % 8 * 512 + ·) h1)) (k2.trans h2)
  · exact core25 m c t 0 (by decide) _ (wGa_at m c t 0 (by decide) inb_S1024x1024_S1024x256_0_0) x i k0 (k1.trans (congrArg (t.val % 8 * 512 + ·) h1)) (k2.trans (h2.trans (Nat.zero_add _).symm))

set_option maxHeartbeats 4000000 in
/-- THE ARRAY of window 26: what the launch leaves is the reference's result. -/
theorem final26 (c : Dev nD) : (dats m 0 c).arrAt 26 cfg0.N = Cert.Reference7Ideal.MixIn.gb (columns m c) := by
  refine (dats m 0 c).arrAt_eq_of_covers 26 _ (by decide +kernel) (fun t hf y => ?_)
  have k0 : (((cfg0.win 26).blk t).view.emb y 0 : ℕ) = t.val / 8 := by
    have := (y 0).isLt
    blk_simp [idx26 t]
  have k1 : (((cfg0.win 26).blk t).view.emb y 1 : ℕ) = t.val % 8 * 512 + y 1 := by blk_simp [idx26 t]
  have k2 : (((cfg0.win 26).blk t).view.emb y 2 : ℕ) = y 2 := by blk_simp [idx26 t]
  rw [after0_26]
  unfold outsAt0
  frame_out
  generalize ((cfg0.win 26).blk t).view.emb y = i at k0 k1 k2 ⊢
  rw [cast_eq]
  canon_tiles x h
  · exact core26 m c t 768 (by decide) _ (wGb_at m c t 768 (by decide) inb_S1024x1024_S1024x256_0_768) x i k0 (k1.trans (congrArg (t.val % 8 * 512 + ·) h1)) (k2.trans h2)
  · exact core26 m c t 512 (by decide) _ (wGb_at m c t 512 (by decide) inb_S1024x1024_S1024x256_0_512) x i k0 (k1.trans (congrArg (t.val % 8 * 512 + ·) h1)) (k2.trans h2)
  · exact core26 m c t 256 (by decide) _ (wGb_at m c t 256 (by decide) inb_S1024x1024_S1024x256_0_256) x i k0 (k1.trans (congrArg (t.val % 8 * 512 + ·) h1)) (k2.trans h2)
  · exact core26 m c t 0 (by decide) _ (wGb_at m c t 0 (by decide) inb_S1024x1024_S1024x256_0_0) x i k0 (k1.trans (congrArg (t.val % 8 * 512 + ·) h1)) (k2.trans (h2.trans (Nat.zero_add _).symm))

set_option maxHeartbeats 4000000 in
/-- THE ARRAY of window 22: what the launch leaves is the reference's result. -/
theorem final22 (c : Dev nD) : (dats m 0 c).arrAt 22 cfg0.N = Cert.Reference7Ideal.MixIn.q (columns m c) := by
  refine (dats m 0 c).arrAt_eq_of_covers 22 _ (by decide +kernel) (fun t hf y => ?_)
  have k0 : (((cfg0.win 22).blk t).view.emb y 0 : ℕ) = t.val / 8 := by
    have := (y 0).isLt
    blk_simp [idx22 t]
  have k1 : (((cfg0.win 22).blk t).view.emb y 1 : ℕ) = t.val % 8 * 512 + y 1 := by blk_simp [idx22 t]
  have k2 : (((cfg0.win 22).blk t).view.emb y 2 : ℕ) = y 2 := by blk_simp [idx22 t]
  rw [after0_22]
  unfold outsAt0
  frame_out
  generalize ((cfg0.win 22).blk t).view.emb y = i at k0 k1 k2 ⊢
  rw [cast_eq]
  canon_tiles x h
  · exact core22 m c t 7 768 128 (by decide) (by decide) (by decide) _ (wQ_at m c t 768 (by decide) inb_S1024x1024_S1024x256_0_768) slices_S512x256_o0_128_S512x128 x i k0 (k1.trans (congrArg (t.val % 8 * 512 + ·) h1)) (k2.trans h2)
  · exact core22 m c t 6 768 0 (by decide) (by decide) (by decide) _ (wQ_at m c t 768 (by decide) inb_S1024x1024_S1024x256_0_768) slices_S512x256_o0_0_S512x128 x i k0 (k1.trans (congrArg (t.val % 8 * 512 + ·) h1)) (k2.trans h2)
  · exact core22 m c t 5 512 128 (by decide) (by decide) (by decide) _ (wQ_at m c t 512 (by decide) inb_S1024x1024_S1024x256_0_512) slices_S512x256_o0_128_S512x128 x i k0 (k1.trans (congrArg (t.val % 8 * 512 + ·) h1)) (k2.trans h2)
  · exact core22 m c t 4 512 0 (by decide) (by decide) (by decide) _ (wQ_at m c t 512 (by decide) inb_S1024x1024_S1024x256_0_512) slices_S512x256_o0_0_S512x128 x i k0 (k1.trans (congrArg (t.val % 8 * 512 + ·) h1)) (k2.trans h2)
  · exact core22 m c t 3 256 128 (by decide) (by decide) (by decide) _ (wQ_at m c t 256 (by decide) inb_S1024x1024_S1024x256_0_256) slices_S512x256_o0_128_S512x128 x i k0 (k1.trans (congrArg (t.val % 8 * 512 + ·) h1)) (k2.trans h2)
  · exact core22 m c t 2 256 0 (by decide) (by decide) (by decide) _ (wQ_at m c t 256 (by decide) inb_S1024x1024_S1024x256_0_256) slices_S512x256_o0_0_S512x128 x i k0 (k1.trans (congrArg (t.val % 8 * 512 + ·) h1)) (k2.trans h2)
  · exact core22 m c t 1 0 128 (by decide) (by decide) (by decide) _ (wQ_at m c t 0 (by decide) inb_S1024x1024_S1024x256_0_0) slices_S512x256_o0_128_S512x128 x i k0 (k1.trans (congrArg (t.val % 8 * 512 + ·) h1)) (k2.trans h2)
  · exact core22 m c t 0 0 0 (by decide) (by decide) (by decide) _ (wQ_at m c t 0 (by decide) inb_S1024x1024_S1024x256_0_0) slices_S512x256_o0_0_S512x128 x i k0 (k1.trans (congrArg (t.val % 8 * 512 + ·) h1)) (k2.trans (h2.trans (Nat.zero_add _).symm))

set_option maxHeartbeats 4000000 in
/-- THE ARRAY of window 23: what the launch leaves is the reference's result. -/
theorem final23 (c : Dev nD) : (dats m 0 c).arrAt 23 cfg0.N = Cert.Reference7Ideal.MixIn.k (columns m c) := by
  refine (dats m 0 c).arrAt_eq_of_covers 23 _ (by decide +kernel) (fun t hf y => ?_)
  have k0 : (((cfg0.win 23).blk t).view.emb y 0 : ℕ) = t.val / 8 := by
    have := (y 0).isLt
    blk_simp [idx23 t]
  have k1 : (((cfg0.win 23).blk t).view.emb y 1 : ℕ) = t.val % 8 * 512 + y 1 := by blk_simp [idx23 t]
  have k2 : (((cfg0.win 23).blk t).view.emb y 2 : ℕ) = y 2 := by blk_simp [idx23 t]
  rw [after0_23]
  unfold outsAt0
  frame_out
  generalize ((cfg0.win 23).blk t).view.emb y = i at k0 k1 k2 ⊢
  rw [cast_eq]
  canon_tiles x h
  · exact core23 m c t 1 0 128 (by decide) (by decide) (by decide) (iblk m c 12 t) (fun k j => (allKk_at m c t k j).trans (congrArg (fun i => argW m c (ix2 k i)) (Fin.ext (by simp only; omega)))) slices_S512x256_o0_128_S512x128 x i k0 (k1.trans (congrArg (t.val % 8 * 512 + ·) h1)) (k2.trans h2)
  · exact core23 m c t 0 0 0 (by decide) (by decide) (by decide) (iblk m c 12 t) (fun k j => (allKk_at m c t k j).trans (congrArg (fun i => argW m c (ix2 k i)) (Fin.ext (by simp only; omega)))) slices_S512x256_o0_0_S512x128 x i k0 (k1.trans (congrArg (t.val % 8 * 512 + ·) h1)) (k2.trans (h2.trans (Nat.zero_add _).symm))

end Cert.Kernel7Ideal.MixIn

end
-- ==== Proof.MixIn.Conv.lean ====
/- The convolution of the mixer's input kernel: the projection's columns with their halo in a carried array, five shifted reads of it, and a head's norm. -/
module

public import proofs.«01_k».proof.Proof.MixIn.RefRows
public import proofs.«01_k».proof.Proof.MixIn.Value
public import proofs.«01_k».proof.Proof.MixIn.Blocks
public import Idealize.ShloMosaic.Lib.Pointwise
public import Idealize.ShloMosaic.Lib.KernelVsHost
public import Idealize.ShloMosaic.Lib.Pipeline.ValueKit

@[expose] public section

set_option maxRecDepth 16384

noncomputable section

namespace Cert.Kernel7Ideal.MixIn

open Cert Cert.Kernel7Ideal Cert.Kernel7Ideal.Gen Cert.Kernel7Ideal.Value Idealize.ShloMosaic Idealize.ShloMosaic.TcCoe Idealize.SL.Sem Idealize.ShloMosaic.Pipeline

section block

variable {F : FTy → Type} [FloatOps F]

/-- Five shifted rows times their weights, added. -/
def five (a0 : Vec F S512x128 .f32) (w0 : Vec F S1x128 .f32) (a1 : Vec F S512x128 .f32) (w1 : Vec F S1x128 .f32) (a2 : Vec F S512x128 .f32) (w2 : Vec F S1x128 .f32)
    (a3 : Vec F S512x128 .f32) (w3 : Vec F S1x128 .f32) (a4 : Vec F S512x128 .f32) (w4 : Vec F S1x128 .f32) : FVec F S512x128 .f32 :=
  addf (addf (addf (addf (mulf a0 (broadcastTo S512x128 w0 broadcasts_S1x128_S512x128)) (mulf a1 (broadcastTo S512x128 w1 broadcasts_S1x128_S512x128)))
    (mulf a2 (broadcastTo S512x128 w2 broadcasts_S1x128_S512x128))) (mulf a3 (broadcastTo S512x128 w3 broadcasts_S1x128_S512x128))) (mulf a4 (broadcastTo S512x128 w4 broadcasts_S1x128_S512x128))

/-- A head activated: times its logistic function. -/
def lit (y : FVec F S512x128 .f32) : FVec F S512x128 .f32 :=
  mulf y (divf (broadcast S512x128 (Scalar.ofBits .f32 0x3F800000#32)) (addf (broadcast S512x128 (Scalar.ofBits .f32 0x3F800000#32)) (exp (subf (broadcast S512x128 (Scalar.ofBits .f32 0x00000000#32)) y))))

/-- A head divided by its length. -/
def unital (y : FVec F S512x128 .f32) : FVec F S512x128 .f32 :=
  mulf y (broadcastTo S512x128 (rsqrt (addf (shapeCast S512x1 (multiReduction .add [1] S512 (mulf y y) 0x00000000#32 reduces_S512x128_S512 (.inl rfl) rfl) shapeCasts_S512_S512x1)
    (broadcast S512x1 (Scalar.ofBits .f32 0x358637BD#32)))) broadcasts_S512x1_S512x128)

/-- A head as it is stored. -/
def kept (y : FVec F S512x128 .f32) : FVec F S1x512x128 .bf16 :=
  shapeCast S1x512x128 (truncf .bf16 y bitsLt_bf16_f32) shapeCasts_S512x128_S1x512x128

/-- A query's head: normed and scaled. -/
def asked (y : FVec F S512x128 .f32) : FVec F S1x512x128 .bf16 :=
  kept (mulf (unital (lit y)) (broadcast S512x128 (Scalar.ofBits .f32 0x3DB504F3#32)))

/-- A key's head: normed. -/
def keyed (y : FVec F S512x128 .f32) : FVec F S1x512x128 .bf16 := kept (unital (lit y))

/-- A value's head. -/
def valued (y : FVec F S512x128 .f32) : FVec F S1x512x128 .bf16 := kept (lit y)

/-- The rows with their neighbours times 256 columns. -/
def spread (y : FVec F S528x1024 .bf16) (w : Vec F S1024x256 .bf16) : FVec F S528x256 .f32 :=
  shapeCast S528x256 (matmul dot_S528x1024_S1024x256_S528x256_1_0_0_1_n_n none y (shapeCast S1024x256 w shapeCasts_S1024x256_S1024x256) (constant S528x256 .f32 0x00000000#32)) shapeCasts_S528x256_S528x256

end block

/-- The five products at an index. -/
theorem five_at (a0 : Vec Ideal S512x128 .f32) (w0 : Vec Ideal S1x128 .f32) (a1 : Vec Ideal S512x128 .f32) (w1 : Vec Ideal S1x128 .f32) (a2 : Vec Ideal S512x128 .f32) (w2 : Vec Ideal S1x128 .f32)
    (a3 : Vec Ideal S512x128 .f32) (w3 : Vec Ideal S1x128 .f32) (a4 : Vec Ideal S512x128 .f32) (w4 : Vec Ideal S1x128 .f32) (r : Fin 512) (d : Fin 128) :
    five a0 w0 a1 w1 a2 w2 a3 w3 a4 w4 (ix2 r d) = a0 (ix2 r d) * w0 (ix2 0 d) + a1 (ix2 r d) * w1 (ix2 0 d) + a2 (ix2 r d) * w2 (ix2 0 d) + a3 (ix2 r d) * w3 (ix2 0 d) + a4 (ix2 r d) * w4 (ix2 0 d) := by
  pointwise [five]

/-- An activated head at an index. -/
theorem lit_at (y : FVec Ideal S512x128 .f32) (r : Fin 512) (d : Fin 128) : lit y (ix2 r d) = Rows.silu (y (ix2 r d)) := by
  pointwise [lit, Rows.silu, Rows.sigm, zero_less]

/-- A normed head at an index. -/
theorem unital_at (y : FVec Ideal S512x128 .f32) (r : Fin 512) (d : Fin 128) : unital y (ix2 r d) = Rows.unit (fun e => y (ix2 r e)) d := by
  pointwise [unital, Rows.unit]
  try rfl

/-- A query's head at an index. -/
theorem asked_at (y : FVec Ideal S512x128 .f32) (r : Fin 512) (d : Fin 128) :
    asked y (ix3 0 r d) = Rows.unit (fun e => Rows.silu (y (ix2 r e))) d * Ideal.ofBits .f32 0x3DB504F3#32 := by
  pointwise [asked, kept, unital_at, lit_at]

/-- A key's head at an index. -/
theorem keyed_at (y : FVec Ideal S512x128 .f32) (r : Fin 512) (d : Fin 128) :
    keyed y (ix3 0 r d) = Rows.unit (fun e => Rows.silu (y (ix2 r e))) d := by
  pointwise [keyed, kept, unital_at, lit_at]

/-- A value's head at an index. -/
theorem valued_at (y : FVec Ideal S512x128 .f32) (r : Fin 512) (d : Fin 128) : valued y (ix3 0 r d) = Rows.silu (y (ix2 r d)) := by
  pointwise [valued, kept, lit_at]

/-- The rows with their neighbours times 256 columns, at an index. -/
theorem spread_at (y : FVec Ideal S528x1024 .bf16) (w : Vec Ideal S1024x256 .bf16) (r : Fin 528) (j : Fin 256) :
    spread y w (ix2 r j) = Rows.dot (fun k => y (ix2 r k)) (fun k j => w (ix2 k j)) j := by
  pointwise [spread, Rows.dot]

/-- The first rows of the halo: zeros at a batch's start. -/
theorem pay8_at (a : BitVec 32) (v : Vec Ideal S8x256 .f32) (r : Fin 8) (j : Fin 256) : k0_pay8 a v (ix2 r j) = if a = 0#32 then 0 else v (ix2 r j) := by
  by_cases h : a = 0#32
  · subst h
    rw [if_pos rfl]
    have e : k0_pay8 0#32 v = shapeCast S8x256 (broadcast S8x256 (Scalar.ofBits .f32 0x00000000#32 : Ideal .f32)) shapeCasts_S8x256_S8x256 := rfl
    rw [e]
    pointwise []
  · rw [if_neg h]
    have e : Scalar.cmpi .eq a 0#32 = 0#1 := by
      show BitVec.ofBool (a == 0#32) = 0#1
      rw [beq_eq_false_iff_ne.mpr h]
      rfl
    unfold k0_pay8
    rw [e]
    have e' : ∀ w : FVec Ideal S8x256 .f32, Scalar.select 0#1 w v = v := fun w => rfl
    simp only [e']
    pointwise []

/-- The last rows of the halo: zeros at a batch's end. -/
theorem pay9_at (a : BitVec 32) (v : Vec Ideal S8x256 .f32) (r : Fin 8) (j : Fin 256) : k0_pay9 a v (ix2 r j) = if a = 7#32 then 0 else v (ix2 r j) := by
  by_cases h : a = 7#32
  · subst h
    rw [if_pos rfl]
    have e : k0_pay9 7#32 v = shapeCast S8x256 (broadcast S8x256 (Scalar.ofBits .f32 0x00000000#32 : Ideal .f32)) shapeCasts_S8x256_S8x256 := rfl
    rw [e]
    pointwise []
  · rw [if_neg h]
    have e : Scalar.cmpi .eq a 7#32 = 0#1 := by
      show BitVec.ofBool (a == 7#32) = 0#1
      rw [beq_eq_false_iff_ne.mpr h]
      rfl
    unfold k0_pay9
    rw [e]
    have e' : ∀ w : FVec Ideal S8x256 .f32, Scalar.select 0#1 w v = v := fun w => rfl
    simp only [e']
    pointwise []

/-! ## The carried array's stores, read back -/

/-- The stores into the carried array, the newest first. -/
abbrev Stores : Type := List (View.Piece (Elt Ideal) S528x3072 .f32)

/-- An index under the newest store reads it. -/
theorem read_in (off size : Fin 2 → ℕ) (inb : ∀ a, off a + size a ≤ S528x3072.size a) (w : (Rect.unit (s := S528x3072) off size inb).shape.Idx → Ideal .f32) (L : Stores)
    (y : S528x3072.Idx) (x : (Rect.unit (s := S528x3072) off size inb).shape.Idx) (h : ∀ a, (y a : ℕ) = off a + x a) :
    View.canon ((⟨Rect.unit off size inb, w⟩ : View.Piece (Elt Ideal) S528x3072 .f32) :: L) y = w x := by
  have e : y = (Rect.unit (s := S528x3072) off size inb).emb x := funext fun a => Fin.ext (by
    rw [h a]
    show off a + (x a : ℕ) = off a + 1 * (x a : ℕ)
    omega)
  rw [e]
  exact View.canon_cons_emb _ w L x

/-- An index that the newest store leaves reads the earlier ones. -/
theorem read_out (off size : Fin 2 → ℕ) (inb : ∀ a, off a + size a ≤ S528x3072.size a) (w : (Rect.unit (s := S528x3072) off size inb).shape.Idx → Ideal .f32) (L : Stores)
    (y : S528x3072.Idx) (a : Fin 2) (h : (y a : ℕ) < off a ∨ off a + size a ≤ y a) :
    View.canon ((⟨Rect.unit off size inb, w⟩ : View.Piece (Elt Ideal) S528x3072 .f32) :: L) y = View.canon L y := by
  refine View.canon_cons_of_not_mem _ L (fun hm => ?_)
  have h' : off a ≤ (y a : ℕ) ∧ (y a : ℕ) < off a + size a := ((Rect.mem_set_unit (inb := inb)).mp hm) a
  clear hm
  omega

/-- A chunk's three stores over the earlier ones: the columns, then the rows before and the rows after the block. -/
def pile (a : BitVec 32) (c0 : ℕ) (h1 : ∀ x, (![0, c0] : Fin 2 → ℕ) x + S528x256.size x ≤ S528x3072.size x) (h2 : ∀ x, (![0, c0] : Fin 2 → ℕ) x + S8x256.size x ≤ S528x3072.size x)
    (h3 : ∀ x, (![520, c0] : Fin 2 → ℕ) x + S8x256.size x ≤ S528x3072.size x) (p : FVec Ideal S528x256 .f32) (rest : Stores) : Stores :=
  ⟨Rect.unit (s := S528x3072) ![520, c0] S8x256.size h3, k0_pay9 a (scM0_0.view.readCov
      (⟨Rect.unit (s := S528x3072) ![0, c0] S8x256.size h2, k0_pay8 a (scM0_0.view.readCov (⟨Rect.unit (s := S528x3072) ![0, c0] S528x256.size h1, p⟩ :: rest) (Rect.unit (s := S528x3072) ![0, c0] S8x256.size h2).toLoadRect)⟩ :: ⟨Rect.unit (s := S528x3072) ![0, c0] S528x256.size h1, p⟩ :: rest)
      (Rect.unit (s := S528x3072) ![520, c0] S8x256.size h3).toLoadRect)⟩
    :: ⟨Rect.unit (s := S528x3072) ![0, c0] S8x256.size h2, k0_pay8 a (scM0_0.view.readCov (⟨Rect.unit (s := S528x3072) ![0, c0] S528x256.size h1, p⟩ :: rest) (Rect.unit (s := S528x3072) ![0, c0] S8x256.size h2).toLoadRect)⟩
    :: ⟨Rect.unit (s := S528x3072) ![0, c0] S528x256.size h1, p⟩ :: rest

/-- A chunk's columns as they are read back: zeros beyond the batch's ends. -/
theorem pile_at (a : BitVec 32) (c0 : ℕ) (h1) (h2) (h3) (p : FVec Ideal S528x256 .f32) (rest : Stores) (hc : c0 + 256 ≤ 3072) (r : Fin 528) (j : Fin 256) :
    View.canon (pile a c0 h1 h2 h3 p rest) (ix2 r ⟨c0 + j, by omega⟩)
      = if ((r : ℕ) < 8 ∧ a = 0#32) ∨ (520 ≤ (r : ℕ) ∧ a = 7#32) then 0 else p (ix2 r j) := by
  unfold pile
  have base : View.canon ((⟨Rect.unit (s := S528x3072) ![0, c0] S528x256.size h1, p⟩ : View.Piece (Elt Ideal) S528x3072 .f32) :: rest) (ix2 r ⟨c0 + j, by omega⟩) = p (ix2 r j) :=
    read_in _ _ h1 p rest _ (ix2 r j) (fun x => by
      match x with
      | ⟨0, _⟩ => show (r : ℕ) = 0 + r; omega
      | ⟨1, _⟩ => rfl)
  by_cases hr : 520 ≤ (r : ℕ)
  · rw [read_in ![520, c0] S8x256.size h3 _ _ (ix2 r ⟨c0 + j, by omega⟩) (ix2 ⟨r - 520, by omega⟩ j) (fun x => by
      match x with
      | ⟨0, _⟩ => show (r : ℕ) = 520 + (r - 520); omega
      | ⟨1, _⟩ => rfl)]
    rw [pay9_at]
    by_cases ha : a = 7#32
    · rw [if_pos ha, if_pos (Or.inr ⟨hr, ha⟩)]
    · rw [if_neg ha, if_neg (by rintro (⟨h, -⟩ | ⟨-, h⟩); · omega
                                · exact ha h)]
      rw [View.readCov_eq_canon']
      show View.canon _ ((Rect.unit (s := S528x3072) ![520, c0] S8x256.size h3).toLoadRect.idx (ix2 ⟨r - 520, by omega⟩ j)) = _
      have e : (Rect.unit (s := S528x3072) ![520, c0] S8x256.size h3).toLoadRect.idx (ix2 (⟨r - 520, by omega⟩ : Fin 8) j) = ix2 r ⟨c0 + j, by omega⟩ := by
        funext x
        match x with
        | ⟨0, _⟩ => exact Fin.ext (show 520 + 1 * ((r : ℕ) - 520) = r by omega)
        | ⟨1, _⟩ => exact Fin.ext (show c0 + 1 * (j : ℕ) = c0 + j by omega)
      rw [e, read_out ![0, c0] S8x256.size h2 _ _ (ix2 r ⟨c0 + j, by omega⟩) 0 (Or.inr (show 0 + 8 ≤ (r : ℕ) by omega))]
      exact base
  · rw [read_out ![520, c0] S8x256.size h3 _ _ (ix2 r ⟨c0 + j, by omega⟩) 0 (Or.inl (show (r : ℕ) < 520 by omega))]
    by_cases hr' : (r : ℕ) < 8
    · rw [read_in ![0, c0] S8x256.size h2 _ _ (ix2 r ⟨c0 + j, by omega⟩) (ix2 ⟨r, hr'⟩ j) (fun x => by
        match x with
        | ⟨0, _⟩ => show (r : ℕ) = 0 + r; omega
        | ⟨1, _⟩ => rfl)]
      rw [pay8_at]
      by_cases ha : a = 0#32
      · rw [if_pos ha, if_pos (Or.inl ⟨hr', ha⟩)]
      · rw [if_neg ha, if_neg (by rintro (⟨-, h⟩ | ⟨h, -⟩); · exact ha h
                                  · omega)]
        rw [View.readCov_eq_canon']
        show View.canon _ ((Rect.unit (s := S528x3072) ![0, c0] S8x256.size h2).toLoadRect.idx (ix2 ⟨r, hr'⟩ j)) = _
        have e : (Rect.unit (s := S528x3072) ![0, c0] S8x256.size h2).toLoadRect.idx (ix2 (⟨r, hr'⟩ : Fin 8) j) = ix2 r ⟨c0 + j, by omega⟩ := by
          funext x
          match x with
          | ⟨0, _⟩ => exact Fin.ext (show 0 + 1 * (r : ℕ) = r by omega)
          | ⟨1, _⟩ => exact Fin.ext (show c0 + 1 * (j : ℕ) = c0 + j by omega)
        rw [e]
        exact base
    · rw [read_out ![0, c0] S8x256.size h2 _ _ (ix2 r ⟨c0 + j, by omega⟩) 0 (Or.inr (show 0 + 8 ≤ (r : ℕ) by omega))]
      rw [if_neg (by rintro (⟨h, -⟩ | ⟨h, -⟩) <;> omega)]
      exact base

/-- Where a shifted read of the carried array lies in it. -/
theorem tap_inb (o co : ℕ) (ho : o ≤ 16) (hc : co + 128 ≤ 3072) : ∀ a, (![o, co] : Fin 2 → ℕ) a + S512x128.size a ≤ S528x3072.size a := fun a => by
  match a with
  | ⟨0, _⟩ => show o + 512 ≤ 528; omega
  | ⟨1, _⟩ => show co + 128 ≤ 3072; omega

/-- A head's shifted rows of the carried array. -/
def tap (L : Stores) (o co : ℕ) (ho : o ≤ 16) (hc : co + 128 ≤ 3072) : Vec Ideal S512x128 .f32 :=
  scM0_0.view.readCov L (Rect.unit (s := S528x3072) ![o, co] S512x128.size (tap_inb o co ho hc)).toLoadRect

/-- A shifted read of the carried array at an index. -/
theorem tap_at (L : Stores) (o co : ℕ) (ho : o ≤ 16) (hc : co + 128 ≤ 3072) (r : Fin 512) (d : Fin 128) :
    tap L o co ho hc (ix2 r d) = View.canon L (ix2 ⟨o + r, by omega⟩ ⟨co + d, by omega⟩) := by
  unfold tap
  rw [View.readCov_eq_canon']
  refine congrArg (View.canon L) (funext fun x => ?_)
  match x with
  | ⟨0, _⟩ => exact Fin.ext (show o + 1 * (r : ℕ) = o + r by omega)
  | ⟨1, _⟩ => exact Fin.ext (show co + 1 * (d : ℕ) = co + d by omega)

end Cert.Kernel7Ideal.MixIn

end
-- ==== Proof.MixIn.Heads.lean ====
/- The twelve chunks of the mixer's input kernel: what its carried array holds after each of them, and the heads read from it. -/
module

public import proofs.«01_k».proof.Proof.MixIn.RefRows
public import proofs.«01_k».proof.Proof.MixIn.Value
public import proofs.«01_k».proof.Proof.MixIn.Conv
public import Idealize.ShloMosaic.Lib.Pointwise
public import Idealize.ShloMosaic.Lib.KernelVsHost
public import Idealize.ShloMosaic.Lib.Pipeline.ValueKit

@[expose] public section

set_option maxRecDepth 16384

noncomputable section

namespace Cert.Kernel7Ideal.MixIn

open Cert Cert.Kernel7Ideal Cert.Kernel7Ideal.Gen Cert.Kernel7Ideal.Value Idealize.ShloMosaic Idealize.ShloMosaic.TcCoe Idealize.SL.Sem Idealize.ShloMosaic.Pipeline

variable (m : (ℓ : Loc nD τ sig) → Buf (Elt Ideal) ℓ)

/-- The weight of a chunk's columns. -/
def cols (c : Dev nD) (t : Fin cfg0.N) (c0 : ℕ) (h : ∀ a, (![0, c0] : Fin 2 → ℕ) a + S1024x256.size a ≤ S1024x3072.size a) : Vec Ideal S1024x256 .bf16 :=
  View.readAt (Elt Ideal) (ms0_8 t).view (Rect.unit (s := S1024x3072) ![0, c0] S1024x256.size h).toLoadRect ((hs0_8 t).unread (iblk m c 8 t))

/-- The weight of a chunk's columns at an index. -/
theorem cols_at (c : Dev nD) (t : Fin cfg0.N) (c0 : ℕ) (hc : c0 + 256 ≤ 3072) (h) (k : Fin 1024) (j : Fin 256) :
    cols m c t c0 h (ix2 k j) = argW m c (ix2 k ⟨c0 + j, by omega⟩) := by
  unfold cols
  rw [View.readAt_eq_ld, Memref.IsWhole.read_unread]
  exact wW_at m c t c0 hc h k j

/-- Where a head's weights of one tap lie. -/
theorem weigh_inb (i co : ℕ) (hi : i < 5) (hc : co + 128 ≤ 3072) : ∀ a, (![i, co] : Fin 2 → ℕ) a + S1x128.size a ≤ S5x3072.size a := fun a => by
  match a with
  | ⟨0, _⟩ => show i + 1 ≤ 5; omega
  | ⟨1, _⟩ => show co + 128 ≤ 3072; omega

/-- A head's weights of one tap. -/
def weigh (c : Dev nD) (t : Fin cfg0.N) (i co : ℕ) (hi : i < 5) (hc : co + 128 ≤ 3072) : Vec Ideal S1x128 .f32 :=
  View.readAt (Elt Ideal) (ms0_16 t).view (Rect.unit (s := S5x3072) ![i, co] S1x128.size (weigh_inb i co hi hc)).toLoadRect ((hs0_16 t).unread (iblk m c 16 t))

/-- A head's weights of one tap at an index. -/
theorem weigh_at (c : Dev nD) (t : Fin cfg0.N) (i co : ℕ) (hi : i < 5) (hc : co + 128 ≤ 3072) (d : Fin 128) :
    weigh m c t i co hi hc (ix2 0 d) = argK m c (ix2 ⟨i, hi⟩ ⟨co + d, by omega⟩) := by
  unfold weigh
  rw [View.readAt_eq_ld, Memref.IsWhole.read_unread]
  exact wK_at m c t i co hi hc _ d

/-- The norms of a grid point's rows and their neighbours, as the run names them. -/
def fresh (c : Dev nD) (t : Fin cfg0.N) : FVec Ideal S528x1024 .bf16 := kernelRun0_A.sl.r (F := Ideal) c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t)

/-- They are the norms. -/
theorem fresh_eq (c : Dev nD) (t : Fin cfg0.N) : fresh m c t = wide m c t := by
  unfold fresh kernelRun0_A.sl.r
  simp (disch := decide) only [View.readAt_eq_ld, Memref.IsWhole.read_unread, View.ld_unit_lit']
  rfl

/-- A chunk's columns are held: its rows read back as the padded columns. -/
def Held (c : Dev nD) (t : Fin cfg0.N) (L : Stores) (c0 : ℕ) : Prop :=
  ∀ (hc : c0 + 256 ≤ 3072) (hb : t.val / 8 < 8) (i : ℕ) (hi : i < 5) (r : Fin 512) (j : Fin 256),
    View.canon L (ix2 ⟨6 + i + r, by omega⟩ ⟨c0 + j, by omega⟩) = Rows.padded (fun s => columns m c (ix3 ⟨t.val / 8, hb⟩ s ⟨c0 + j, by omega⟩)) (i + (t.val % 8 * 512 + r))

/-- A chunk's three stores hold its columns. -/
theorem held (c : Dev nD) (t : Fin cfg0.N) (c0 : ℕ) (h) (h1) (h2) (h3) (rest : Stores) :
    Held m c t (pile (BitVec.ofNat 32 (grid0.coords t 1).val) c0 h1 h2 h3 (spread (fresh m c t) (cols m c t c0 h)) rest) c0 := by
  intro hc hb i hi r j
  rw [pile_at _ _ _ _ _ _ _ hc, coord t]
  have e0 : BitVec.ofNat 32 (t.val % 8) = 0#32 ↔ t.val % 8 = 0 := by
    constructor
    · intro h
      have h' := congrArg BitVec.toNat h
      simp only [BitVec.toNat_ofNat] at h'
      omega
    · intro h
      rw [h]
  have e7 : BitVec.ofNat 32 (t.val % 8) = 7#32 ↔ t.val % 8 = 7 := by
    constructor
    · intro h
      have h' := congrArg BitVec.toNat h
      simp only [BitVec.toNat_ofNat] at h'
      omega
    · intro h
      rw [h]
  simp only [e0, e7]
  unfold Rows.padded
  by_cases hs : 2 ≤ i + (t.val % 8 * 512 + (r : ℕ)) ∧ i + (t.val % 8 * 512 + (r : ℕ)) - 2 < 4096
  · rw [dif_pos hs, if_neg (by rintro (⟨a1, a2⟩ | ⟨a1, a2⟩) <;> omega), spread_at, fresh_eq]
    show _ = columns m c (ix3 ⟨t.val / 8, hb⟩ ⟨i + (t.val % 8 * 512 + r) - 2, hs.2⟩ ⟨c0 + j, by omega⟩)
    rw [columns_at]
    unfold Rows.dot
    refine Finset.sum_congr rfl (fun k _ => congrArg₂ (· * ·) ?_ (cols_at m c t c0 hc h k j))
    exact wide_at m c t hb _ _ (by simp only; omega) k
  · rw [dif_neg hs, if_pos]
    omega

/-- A head's five products. -/
def made (c : Dev nD) (t : Fin cfg0.N) (L : Stores) (co : ℕ) (hc : co + 128 ≤ 3072) : FVec Ideal S512x128 .f32 :=
  five (tap L 6 co (by decide) hc) (weigh m c t 0 co (by decide) hc) (tap L 7 co (by decide) hc) (weigh m c t 1 co (by decide) hc) (tap L 8 co (by decide) hc) (weigh m c t 2 co (by decide) hc)
    (tap L 9 co (by decide) hc) (weigh m c t 3 co (by decide) hc) (tap L 10 co (by decide) hc) (weigh m c t 4 co (by decide) hc)

/-- A shifted read of a held chunk. -/
theorem tap_held (c : Dev nD) (t : Fin cfg0.N) (L : Stores) (c0 lo co : ℕ) (hL : Held m c t L c0) (hc0 : c0 + 256 ≤ 3072) (hl : lo + 128 ≤ 256) (e : co = c0 + lo) (hc : co + 128 ≤ 3072) (hb : t.val / 8 < 8)
    (o i : ℕ) (hi : i < 5) (eo : o = 6 + i) (ho : o ≤ 16) (r : Fin 512) (d : Fin 128) :
    tap L o co ho hc (ix2 r d) = Rows.padded (fun s => columns m c (ix3 ⟨t.val / 8, hb⟩ s ⟨co + d, by omega⟩)) (i + (t.val % 8 * 512 + r)) := by
  subst e eo
  rw [tap_at]
  have e1 : (⟨c0 + lo + d, by omega⟩ : Fin 3072) = ⟨c0 + (⟨lo + d, by omega⟩ : Fin 256), by simp only; omega⟩ := Fin.ext (Nat.add_assoc _ _ _)
  have e2 : (⟨c0 + lo + d, by omega⟩ : Fin 7712) = ⟨c0 + (⟨lo + d, by omega⟩ : Fin 256), by simp only; omega⟩ := Fin.ext (Nat.add_assoc _ _ _)
  rw [e1, e2]
  exact hL hc0 hb i hi r ⟨lo + d, by omega⟩

/-- A head's five products are the convolution's. -/
theorem made_at (c : Dev nD) (t : Fin cfg0.N) (L : Stores) (c0 lo co : ℕ) (hL : Held m c t L c0) (hc0 : c0 + 256 ≤ 3072) (hl : lo + 128 ≤ 256) (e : co = c0 + lo) (hc : co + 128 ≤ 3072) (hb : t.val / 8 < 8)
    (r : Fin 512) (d : Fin 128) :
    made m c t L co hc (ix2 r d) = Rows.conv (Rows.padded (fun s => columns m c (ix3 ⟨t.val / 8, hb⟩ s ⟨co + d, by omega⟩))) (fun i => argK m c (ix2 i ⟨co + d, by omega⟩)) (t.val % 8 * 512 + r) := by
  unfold made Rows.conv
  rw [five_at]
  simp only [weigh_at]
  rw [tap_held m c t L c0 lo co hL hc0 hl e hc hb 6 0 (by decide) rfl, tap_held m c t L c0 lo co hL hc0 hl e hc hb 7 1 (by decide) rfl, tap_held m c t L c0 lo co hL hc0 hl e hc hb 8 2 (by decide) rfl,
    tap_held m c t L c0 lo co hL hc0 hl e hc hb 9 3 (by decide) rfl, tap_held m c t L c0 lo co hL hc0 hl e hc hb 10 4 (by decide) rfl, Nat.zero_add]
  rfl

/-- The reference's activated convolution of the arguments. -/
abbrev lively (c : Dev nD) : FVec Ideal Cert.Reference7Ideal.S8x4096x3072 .f32 :=
  Cert.Reference7Ideal.MixIn.active (Cert.Reference7Ideal.MixIn.conv (Cert.Reference7Ideal.MixIn.padded (columns m c)) (argK m c))

/-- A head's lane, activated, is the reference's. -/
theorem lively_at (c : Dev nD) (t : Fin cfg0.N) (L : Stores) (c0 lo co : ℕ) (hL : Held m c t L c0) (hc0 : c0 + 256 ≤ 3072) (hl : lo + 128 ≤ 256) (e : co = c0 + lo) (hc : co + 128 ≤ 3072) (hb : t.val / 8 < 8)
    (r : Fin 512) (d : Fin 128) :
    Rows.silu (made m c t L co hc (ix2 r d)) = lively m c (ix3 ⟨t.val / 8, hb⟩ ⟨t.val % 8 * 512 + r, by omega⟩ ⟨co + d, by omega⟩) := by
  unfold lively
  rw [made_at m c t L c0 lo co hL hc0 hl e hc hb r d, Cert.Reference7Ideal.MixIn.active_at,
    Cert.Reference7Ideal.MixIn.conv_at _ _ _ _ _ _ (fun s => Cert.Reference7Ideal.MixIn.padded_at (columns m c) ⟨t.val / 8, hb⟩ s ⟨co + d, by omega⟩)]

/-- A lane of a query's head that a grid point stores. -/
theorem core_asked (c : Dev nD) (t : Fin cfg0.N) (L : Stores) (c0 lo co hd : ℕ) (hL : Held m c t L c0) (hc0 : c0 + 256 ≤ 3072) (hl : lo + 128 ≤ 256) (e : co = c0 + lo) (hc : co + 128 ≤ 3072) (eh : co = hd * 128)
    (hlo : 0 ≤ co) (hhi : co + 128 ≤ 1024) (x : S1x512x128.Idx) (i : S8x4096x3072.Idx) (h0 : (i 0 : ℕ) = t.val / 8) (h1 : (i 1 : ℕ) = t.val % 8 * 512 + x 1) (h2 : (i 2 : ℕ) = co + x 2) :
    asked (made m c t L co hc) x = Cert.Reference7Ideal.MixIn.qkv (lively m c) i := by
  have ht : t.val < 64 := t.isLt
  have hb : t.val / 8 < 8 := by omega
  obtain ⟨b, s, j, rfl⟩ : ∃ (b : Fin 8) (s : Fin 4096) (j : Fin 3072), i = ix3 b s j := ⟨i 0, i 1, i 2, by
    funext a
    match a with
    | ⟨0, _⟩ => rfl
    | ⟨1, _⟩ => rfl
    | ⟨2, _⟩ => rfl⟩
  idx_vars x
  rename' x0 => z, x1 => r, x2 => d
  have ez : z = 0 := Subsingleton.elim _ _
  subst ez
  have hr : (r : ℕ) < 512 := r.isLt
  have hd' : (d : ℕ) < 128 := d.isLt
  obtain rfl : b = ⟨t.val / 8, hb⟩ := Fin.ext h0
  have hs1 : t.val % 8 * 512 + (r : ℕ) < 4096 := by clear h1; omega
  obtain rfl : s = ⟨t.val % 8 * 512 + r, hs1⟩ := Fin.ext h1
  have hj1 : co + (d : ℕ) < 3072 := by clear h2; omega
  obtain rfl : j = ⟨co + d, hj1⟩ := Fin.ext h2
  rw [Cert.Reference7Ideal.MixIn.qkv_at, asked_at]
  unfold Rows.qkv
  have e1 : ∀ e : Fin 128, (⟨(co + (d : ℕ)) / 128 * 128 + e, by omega⟩ : Fin 3072) = ⟨co + e, by omega⟩ := fun e => Fin.ext (by simp only; omega)
  have e2 : (⟨(co + (d : ℕ)) % 128, Nat.mod_lt _ (by decide)⟩ : Fin 128) = d := Fin.ext (by simp only; omega)
  simp only [lively_at m c t L c0 lo co hL hc0 hl e hc hb]
  rw [if_pos (show co + (d : ℕ) < 1024 by omega)]
  simp only [e1, e2]

/-- A lane of a key's head that a grid point stores. -/
theorem core_keyed (c : Dev nD) (t : Fin cfg0.N) (L : Stores) (c0 lo co hd : ℕ) (hL : Held m c t L c0) (hc0 : c0 + 256 ≤ 3072) (hl : lo + 128 ≤ 256) (e : co = c0 + lo) (hc : co + 128 ≤ 3072) (eh : co = hd * 128)
    (hlo : 1024 ≤ co) (hhi : co + 128 ≤ 2048) (x : S1x512x128.Idx) (i : S8x4096x3072.Idx) (h0 : (i 0 : ℕ) = t.val / 8) (h1 : (i 1 : ℕ) = t.val % 8 * 512 + x 1) (h2 : (i 2 : ℕ) = co + x 2) :
    keyed (made m c t L co hc) x = Cert.Reference7Ideal.MixIn.qkv (lively m c) i := by
  have ht : t.val < 64 := t.isLt
  have hb : t.val / 8 < 8 := by omega
  obtain ⟨b, s, j, rfl⟩ : ∃ (b : Fin 8) (s : Fin 4096) (j : Fin 3072), i = ix3 b s j := ⟨i 0, i 1, i 2, by
    funext a
    match a with
    | ⟨0, _⟩ => rfl
    | ⟨1, _⟩ => rfl
    | ⟨2, _⟩ => rfl⟩
  idx_vars x
  rename' x0 => z, x1 => r, x2 => d
  have ez : z = 0 := Subsingleton.elim _ _
  subst ez
  have hr : (r : ℕ) < 512 := r.isLt
  have hd' : (d : ℕ) < 128 := d.isLt
  obtain rfl : b = ⟨t.val / 8, hb⟩ := Fin.ext h0
  have hs1 : t.val % 8 * 512 + (r : ℕ) < 4096 := by clear h1; omega
  obtain rfl : s = ⟨t.val % 8 * 512 + r, hs1⟩ := Fin.ext h1
  have hj1 : co + (d : ℕ) < 3072 := by clear h2; omega
  obtain rfl : j = ⟨co + d, hj1⟩ := Fin.ext h2
  rw [Cert.Reference7Ideal.MixIn.qkv_at, keyed_at]
  unfold Rows.qkv
  have e1 : ∀ e : Fin 128, (⟨(co + (d : ℕ)) / 128 * 128 + e, by omega⟩ : Fin 3072) = ⟨co + e, by omega⟩ := fun e => Fin.ext (by simp only; omega)
  have e2 : (⟨(co + (d : ℕ)) % 128, Nat.mod_lt _ (by decide)⟩ : Fin 128) = d := Fin.ext (by simp only; omega)
  simp only [lively_at m c t L c0 lo co hL hc0 hl e hc hb]
  rw [if_neg (show ¬ co + (d : ℕ) < 1024 by omega), if_pos (show co + (d : ℕ) < 2048 by omega)]
  simp only [e1, e2]

/-- A lane of a value's head that a grid point stores. -/
theorem core_valued (c : Dev nD) (t : Fin cfg0.N) (L : Stores) (c0 lo co hd : ℕ) (hL : Held m c t L c0) (hc0 : c0 + 256 ≤ 3072) (hl : lo + 128 ≤ 256) (e : co = c0 + lo) (hc : co + 128 ≤ 3072) (eh : co = hd * 128)
    (hlo : 2048 ≤ co) (hhi : co + 128 ≤ 3072) (x : S1x512x128.Idx) (i : S8x4096x3072.Idx) (h0 : (i 0 : ℕ) = t.val / 8) (h1 : (i 1 : ℕ) = t.val % 8 * 512 + x 1) (h2 : (i 2 : ℕ) = co + x 2) :
    valued (made m c t L co hc) x = Cert.Reference7Ideal.MixIn.qkv (lively m c) i := by
  have ht : t.val < 64 := t.isLt
  have hb : t.val / 8 < 8 := by omega
  obtain ⟨b, s, j, rfl⟩ : ∃ (b : Fin 8) (s : Fin 4096) (j : Fin 3072), i = ix3 b s j := ⟨i 0, i 1, i 2, by
    funext a
    match a with
    | ⟨0, _⟩ => rfl
    | ⟨1, _⟩ => rfl
    | ⟨2, _⟩ => rfl⟩
  idx_vars x
  rename' x0 => z, x1 => r, x2 => d
  have ez : z = 0 := Subsingleton.elim _ _
  subst ez
  have hr : (r : ℕ) < 512 := r.isLt
  have hd' : (d : ℕ) < 128 := d.isLt
  obtain rfl : b = ⟨t.val / 8, hb⟩ := Fin.ext h0
  have hs1 : t.val % 8 * 512 + (r : ℕ) < 4096 := by clear h1; omega
  obtain rfl : s = ⟨t.val % 8 * 512 + r, hs1⟩ := Fin.ext h1
  have hj1 : co + (d : ℕ) < 3072 := by clear h2; omega
  obtain rfl : j = ⟨co + d, hj1⟩ := Fin.ext h2
  rw [Cert.Reference7Ideal.MixIn.qkv_at, valued_at]
  unfold Rows.qkv
  rw [if_neg (show ¬ co + (d : ℕ) < 1024 by omega), if_neg (show ¬ co + (d : ℕ) < 2048 by omega)]
  exact lively_at m c t L c0 lo co hL hc0 hl e hc hb r d

end Cert.Kernel7Ideal.MixIn

end
-- ==== Proof.MixIn.Parts.lean ====
/- The twenty-four heads that the mixer's input kernel stores, and the carried array's stores they are read from. -/
module

public import proofs.«01_k».proof.Proof.MixIn.RefRows
public import proofs.«01_k».proof.Proof.MixIn.Value
public import proofs.«01_k».proof.Proof.MixIn.Heads
public import Idealize.ShloMosaic.Lib.Pointwise
public import Idealize.ShloMosaic.Lib.KernelVsHost
public import Idealize.ShloMosaic.Lib.Pipeline.ValueKit

@[expose] public section

set_option maxRecDepth 16384

noncomputable section

namespace Cert.Kernel7Ideal.MixIn

open Cert Cert.Kernel7Ideal Cert.Kernel7Ideal.Gen Cert.Kernel7Ideal.Value Idealize.ShloMosaic Idealize.ShloMosaic.TcCoe Idealize.SL.Sem Idealize.ShloMosaic.Pipeline

variable (m : (ℓ : Loc nD τ sig) → Buf (Elt Ideal) ℓ)

/-- The carried array's stores after 1 of the chunks. -/
def past0 (c : Dev nD) (t : Fin cfg0.N) : Stores := kernelRun0_A.sl.HS0_3 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held0 (c : Dev nD) (t : Fin cfg0.N) : Held m c t (past0 m c t) 0 :=
  held m c t 0 inb_S1024x3072_S1024x256_0_0 inb_S528x3072_S528x256_0_0 inb_S528x3072_S8x256_0_0 inb_S528x3072_S8x256_520_0 []

/-- The carried array's stores after 2 of the chunks. -/
def past1 (c : Dev nD) (t : Fin cfg0.N) : Stores := kernelRun0_A.sl.HS0_6 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held1 (c : Dev nD) (t : Fin cfg0.N) : Held m c t (past1 m c t) 256 :=
  held m c t 256 inb_S1024x3072_S1024x256_0_256 inb_S528x3072_S528x256_0_256 inb_S528x3072_S8x256_0_256 inb_S528x3072_S8x256_520_256 (past0 m c t)

/-- The carried array's stores after 3 of the chunks. -/
def past2 (c : Dev nD) (t : Fin cfg0.N) : Stores := kernelRun0_A.sl.HS0_9 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held2 (c : Dev nD) (t : Fin cfg0.N) : Held m c t (past2 m c t) 512 :=
  held m c t 512 inb_S1024x3072_S1024x256_0_512 inb_S528x3072_S528x256_0_512 inb_S528x3072_S8x256_0_512 inb_S528x3072_S8x256_520_512 (past1 m c t)

/-- The carried array's stores after 4 of the chunks. -/
def past3 (c : Dev nD) (t : Fin cfg0.N) : Stores := kernelRun0_A.sl.HS0_12 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held3 (c : Dev nD) (t : Fin cfg0.N) : Held m c t (past3 m c t) 768 :=
  held m c t 768 inb_S1024x3072_S1024x256_0_768 inb_S528x3072_S528x256_0_768 inb_S528x3072_S8x256_0_768 inb_S528x3072_S8x256_520_768 (past2 m c t)

/-- The carried array's stores after 5 of the chunks. -/
def past4 (c : Dev nD) (t : Fin cfg0.N) : Stores := kernelRun0_A.sl.HS0_15 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held4 (c : Dev nD) (t : Fin cfg0.N) : Held m c t (past4 m c t) 1024 :=
  held m c t 1024 inb_S1024x3072_S1024x256_0_1024 inb_S528x3072_S528x256_0_1024 inb_S528x3072_S8x256_0_1024 inb_S528x3072_S8x256_520_1024 (past3 m c t)

/-- The carried array's stores after 6 of the chunks. -/
def past5 (c : Dev nD) (t : Fin cfg0.N) : Stores := kernelRun0_A.sl.HS0_18 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held5 (c : Dev nD) (t : Fin cfg0.N) : Held m c t (past5 m c t) 1280 :=
  held m c t 1280 inb_S1024x3072_S1024x256_0_1280 inb_S528x3072_S528x256_0_1280 inb_S528x3072_S8x256_0_1280 inb_S528x3072_S8x256_520_1280 (past4 m c t)

/-- The carried array's stores after 7 of the chunks. -/
def past6 (c : Dev nD) (t : Fin cfg0.N) : Stores := kernelRun0_A.sl.HS0_21 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held6 (c : Dev nD) (t : Fin cfg0.N) : Held m c t (past6 m c t) 1536 :=
  held m c t 1536 inb_S1024x3072_S1024x256_0_1536 inb_S528x3072_S528x256_0_1536 inb_S528x3072_S8x256_0_1536 inb_S528x3072_S8x256_520_1536 (past5 m c t)

/-- The carried array's stores after 8 of the chunks. -/
def past7 (c : Dev nD) (t : Fin cfg0.N) : Stores := kernelRun0_A.sl.HS0_24 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held7 (c : Dev nD) (t : Fin cfg0.N) : Held m c t (past7 m c t) 1792 :=
  held m c t 1792 inb_S1024x3072_S1024x256_0_1792 inb_S528x3072_S528x256_0_1792 inb_S528x3072_S8x256_0_1792 inb_S528x3072_S8x256_520_1792 (past6 m c t)

/-- The carried array's stores after 9 of the chunks. -/
def past8 (c : Dev nD) (t : Fin cfg0.N) : Stores := kernelRun0_A.sl.HS0_27 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held8 (c : Dev nD) (t : Fin cfg0.N) : Held m c t (past8 m c t) 2048 :=
  held m c t 2048 inb_S1024x3072_S1024x256_0_2048 inb_S528x3072_S528x256_0_2048 inb_S528x3072_S8x256_0_2048 inb_S528x3072_S8x256_520_2048 (past7 m c t)

/-- The carried array's stores after 10 of the chunks. -/
def past9 (c : Dev nD) (t : Fin cfg0.N) : Stores := kernelRun0_A.sl.HS0_30 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held9 (c : Dev nD) (t : Fin cfg0.N) : Held m c t (past9 m c t) 2304 :=
  held m c t 2304 inb_S1024x3072_S1024x256_0_2304 inb_S528x3072_S528x256_0_2304 inb_S528x3072_S8x256_0_2304 inb_S528x3072_S8x256_520_2304 (past8 m c t)

/-- The carried array's stores after 11 of the chunks. -/
def past10 (c : Dev nD) (t : Fin cfg0.N) : Stores := kernelRun0_A.sl.HS0_33 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held10 (c : Dev nD) (t : Fin cfg0.N) : Held m c t (past10 m c t) 2560 :=
  held m c t 2560 inb_S1024x3072_S1024x256_0_2560 inb_S528x3072_S528x256_0_2560 inb_S528x3072_S8x256_0_2560 inb_S528x3072_S8x256_520_2560 (past9 m c t)

/-- The carried array's stores after 12 of the chunks. -/
def past11 (c : Dev nD) (t : Fin cfg0.N) : Stores := kernelRun0_A.sl.HS0_36 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)

/-- They hold the last chunk's columns. -/
theorem held11 (c : Dev nD) (t : Fin cfg0.N) : Held m c t (past11 m c t) 2816 :=
  held m c t 2816 inb_S1024x3072_S1024x256_0_2816 inb_S528x3072_S528x256_0_2816 inb_S528x3072_S8x256_0_2816 inb_S528x3072_S8x256_520_2816 (past10 m c t)

/-- What is stored of head 0. -/
def part0 (c : Dev nD) (t : Fin cfg0.N) : FVec Ideal S1x512x128 .bf16 := k0_pay12 (kernelRun0_A.sl.r_7 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t))

/-- It is the head's five products, activated and normed. -/
theorem part0_eq (c : Dev nD) (t : Fin cfg0.N) : part0 m c t = asked (made m c t (past0 m c t) 0 (by decide)) := rfl

/-- What is stored of head 1. -/
def part1 (c : Dev nD) (t : Fin cfg0.N) : FVec Ideal S1x512x128 .bf16 := k0_pay14 (kernelRun0_A.sl.r_8 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t))

/-- It is the head's five products, activated and normed. -/
theorem part1_eq (c : Dev nD) (t : Fin cfg0.N) : part1 m c t = asked (made m c t (past0 m c t) 128 (by decide)) := rfl

/-- What is stored of head 2. -/
def part2 (c : Dev nD) (t : Fin cfg0.N) : FVec Ideal S1x512x128 .bf16 := k0_pay20 (kernelRun0_A.sl.r_10 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) kernelRun0_A.sl.cst_129 (F := Ideal)

/-- It is the head's five products, activated and normed. -/
theorem part2_eq (c : Dev nD) (t : Fin cfg0.N) : part2 m c t = asked (made m c t (past1 m c t) 256 (by decide)) := rfl

/-- What is stored of head 3. -/
def part3 (c : Dev nD) (t : Fin cfg0.N) : FVec Ideal S1x512x128 .bf16 := k0_pay22 (kernelRun0_A.sl.r_11 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.v239 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![3, 384] S1x128.size inb_S5x3072_S1x128_3_384).toLoadRect ((hs0_16 t).unread (iblk m c 16 t))) (kernelRun0_A.sl.v244 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 384] S1x128.size inb_S5x3072_S1x128_4_384).toLoadRect ((hs0_16 t).unread (iblk m c 16 t)))

/-- It is the head's five products, activated and normed. -/
theorem part3_eq (c : Dev nD) (t : Fin cfg0.N) : part3 m c t = asked (made m c t (past1 m c t) 384 (by decide)) := rfl

/-- What is stored of head 4. -/
def part4 (c : Dev nD) (t : Fin cfg0.N) : FVec Ideal S1x512x128 .bf16 := k0_pay29 (kernelRun0_A.sl.r_13 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t))

/-- It is the head's five products, activated and normed. -/
theorem part4_eq (c : Dev nD) (t : Fin cfg0.N) : part4 m c t = asked (made m c t (past2 m c t) 512 (by decide)) := rfl

/-- What is stored of head 5. -/
def part5 (c : Dev nD) (t : Fin cfg0.N) : FVec Ideal S1x512x128 .bf16 := k0_pay32 (kernelRun0_A.sl.r_14 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.r_15 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) kernelRun0_A.sl.cst_243 (F := Ideal)

/-- It is the head's five products, activated and normed. -/
theorem part5_eq (c : Dev nD) (t : Fin cfg0.N) : part5 m c t = asked (made m c t (past2 m c t) 640 (by decide)) := rfl

/-- What is stored of head 6. -/
def part6 (c : Dev nD) (t : Fin cfg0.N) : FVec Ideal S1x512x128 .bf16 := k0_pay39 (kernelRun0_A.sl.r_16 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.v443 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 768] S1x128.size inb_S5x3072_S1x128_4_768).toLoadRect ((hs0_16 t).unread (iblk m c 16 t)))

/-- It is the head's five products, activated and normed. -/
theorem part6_eq (c : Dev nD) (t : Fin cfg0.N) : part6 m c t = asked (made m c t (past3 m c t) 768 (by decide)) := rfl

/-- What is stored of head 7. -/
def part7 (c : Dev nD) (t : Fin cfg0.N) : FVec Ideal S1x512x128 .bf16 := k0_pay41 (kernelRun0_A.sl.r_17 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.v479 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (kernelRun0_A.sl.r_18 (F := Ideal) c (ms0_16 t) (hs0_16 t) (iblk m c 16 t)) (kernelRun0_A.sl.v484 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![3, 896] S1x128.size inb_S5x3072_S1x128_3_896).toLoadRect ((hs0_16 t).unread (iblk m c 16 t))) (kernelRun0_A.sl.v489 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 896] S1x128.size inb_S5x3072_S1x128_4_896).toLoadRect ((hs0_16 t).unread (iblk m c 16 t)))

/-- It is the head's five products, activated and normed. -/
theorem part7_eq (c : Dev nD) (t : Fin cfg0.N) : part7 m c t = asked (made m c t (past3 m c t) 896 (by decide)) := rfl

/-- What is stored of head 8. -/
def part8 (c : Dev nD) (t : Fin cfg0.N) : FVec Ideal S1x512x128 .bf16 := k0_pay50 (kernelRun0_A.sl.r_21 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.r_22 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t))

/-- It is the head's five products, activated and normed. -/
theorem part8_eq (c : Dev nD) (t : Fin cfg0.N) : part8 m c t = keyed (made m c t (past4 m c t) 1024 (by decide)) := rfl

/-- What is stored of head 9. -/
def part9 (c : Dev nD) (t : Fin cfg0.N) : FVec Ideal S1x512x128 .bf16 := k0_pay53 (kernelRun0_A.sl.r_23 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) k0_pay52

/-- It is the head's five products, activated and normed. -/
theorem part9_eq (c : Dev nD) (t : Fin cfg0.N) : part9 m c t = keyed (made m c t (past4 m c t) 1152 (by decide)) := rfl

/-- What is stored of head 10. -/
def part10 (c : Dev nD) (t : Fin cfg0.N) : FVec Ideal S1x512x128 .bf16 := k0_pay60 (kernelRun0_A.sl.r_24 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.v684 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 1280] S1x128.size inb_S5x3072_S1x128_4_1280).toLoadRect ((hs0_16 t).unread (iblk m c 16 t)))

/-- It is the head's five products, activated and normed. -/
theorem part10_eq (c : Dev nD) (t : Fin cfg0.N) : part10 m c t = keyed (made m c t (past5 m c t) 1280 (by decide)) := rfl

/-- What is stored of head 11. -/
def part11 (c : Dev nD) (t : Fin cfg0.N) : FVec Ideal S1x512x128 .bf16 := k0_pay62 (kernelRun0_A.sl.r_25 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.v723 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![3, 1408] S1x128.size inb_S5x3072_S1x128_3_1408).toLoadRect ((hs0_16 t).unread (iblk m c 16 t))) (kernelRun0_A.sl.v728 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 1408] S1x128.size inb_S5x3072_S1x128_4_1408).toLoadRect ((hs0_16 t).unread (iblk m c 16 t)))

/-- It is the head's five products, activated and normed. -/
theorem part11_eq (c : Dev nD) (t : Fin cfg0.N) : part11 m c t = keyed (made m c t (past5 m c t) 1408 (by decide)) := rfl

/-- What is stored of head 12. -/
def part12 (c : Dev nD) (t : Fin cfg0.N) : FVec Ideal S1x512x128 .bf16 := k0_pay69 (kernelRun0_A.sl.r_27 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t))

/-- It is the head's five products, activated and normed. -/
theorem part12_eq (c : Dev nD) (t : Fin cfg0.N) : part12 m c t = keyed (made m c t (past6 m c t) 1536 (by decide)) := rfl

/-- What is stored of head 13. -/
def part13 (c : Dev nD) (t : Fin cfg0.N) : FVec Ideal S1x512x128 .bf16 := k0_pay72 (kernelRun0_A.sl.r_28 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.r_29 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) kernelRun0_A.sl.cst_243 (F := Ideal)

/-- It is the head's five products, activated and normed. -/
theorem part13_eq (c : Dev nD) (t : Fin cfg0.N) : part13 m c t = keyed (made m c t (past6 m c t) 1664 (by decide)) := rfl

/-- What is stored of head 14. -/
def part14 (c : Dev nD) (t : Fin cfg0.N) : FVec Ideal S1x512x128 .bf16 := k0_pay78 (kernelRun0_A.sl.r_31 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) kernelRun0_A.sl.cst_129 (F := Ideal)

/-- It is the head's five products, activated and normed. -/
theorem part14_eq (c : Dev nD) (t : Fin cfg0.N) : part14 m c t = keyed (made m c t (past7 m c t) 1792 (by decide)) := rfl

/-- What is stored of head 15. -/
def part15 (c : Dev nD) (t : Fin cfg0.N) : FVec Ideal S1x512x128 .bf16 := k0_pay80 (kernelRun0_A.sl.r_32 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.v960 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (kernelRun0_A.sl.r_33 (F := Ideal) c (ms0_16 t) (hs0_16 t) (iblk m c 16 t)) (kernelRun0_A.sl.v965 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 1920] S1x128.size inb_S5x3072_S1x128_4_1920).toLoadRect ((hs0_16 t).unread (iblk m c 16 t)))

/-- It is the head's five products, activated and normed. -/
theorem part15_eq (c : Dev nD) (t : Fin cfg0.N) : part15 m c t = keyed (made m c t (past7 m c t) 1920 (by decide)) := rfl

/-- What is stored of head 16. -/
def part16 (c : Dev nD) (t : Fin cfg0.N) : FVec Ideal S1x512x128 .bf16 := k0_pay88 (kernelRun0_A.sl.r_35 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.v1028 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![1, 2048] S1x128.size inb_S5x3072_S1x128_1_2048).toLoadRect ((hs0_16 t).unread (iblk m c 16 t))) (kernelRun0_A.sl.v1033 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![2, 2048] S1x128.size inb_S5x3072_S1x128_2_2048).toLoadRect ((hs0_16 t).unread (iblk m c 16 t))) (kernelRun0_A.sl.v1038 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![3, 2048] S1x128.size inb_S5x3072_S1x128_3_2048).toLoadRect ((hs0_16 t).unread (iblk m c 16 t))) (kernelRun0_A.sl.v1043 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 2048] S1x128.size inb_S5x3072_S1x128_4_2048).toLoadRect ((hs0_16 t).unread (iblk m c 16 t)))

/-- It is the head's five products, activated. -/
theorem part16_eq (c : Dev nD) (t : Fin cfg0.N) : part16 m c t = valued (made m c t (past8 m c t) 2048 (by decide)) := rfl

/-- What is stored of head 17. -/
def part17 (c : Dev nD) (t : Fin cfg0.N) : FVec Ideal S1x512x128 .bf16 := k0_pay90 (kernelRun0_A.sl.r_36 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.v1064 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![1, 2176] S1x128.size inb_S5x3072_S1x128_1_2176).toLoadRect ((hs0_16 t).unread (iblk m c 16 t))) (kernelRun0_A.sl.v1069 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![2, 2176] S1x128.size inb_S5x3072_S1x128_2_2176).toLoadRect ((hs0_16 t).unread (iblk m c 16 t))) (kernelRun0_A.sl.v1074 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![3, 2176] S1x128.size inb_S5x3072_S1x128_3_2176).toLoadRect ((hs0_16 t).unread (iblk m c 16 t))) (kernelRun0_A.sl.v1079 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 2176] S1x128.size inb_S5x3072_S1x128_4_2176).toLoadRect ((hs0_16 t).unread (iblk m c 16 t)))

/-- It is the head's five products, activated. -/
theorem part17_eq (c : Dev nD) (t : Fin cfg0.N) : part17 m c t = valued (made m c t (past8 m c t) 2176 (by decide)) := rfl

/-- What is stored of head 18. -/
def part18 (c : Dev nD) (t : Fin cfg0.N) : FVec Ideal S1x512x128 .bf16 := k0_pay101 (kernelRun0_A.sl.r_39 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.r_40 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t))

/-- It is the head's five products, activated. -/
theorem part18_eq (c : Dev nD) (t : Fin cfg0.N) : part18 m c t = valued (made m c t (past9 m c t) 2304 (by decide)) := rfl

/-- What is stored of head 19. -/
def part19 (c : Dev nD) (t : Fin cfg0.N) : FVec Ideal S1x512x128 .bf16 := k0_pay103 (kernelRun0_A.sl.r_41 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.v1198 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 2432] S1x128.size inb_S5x3072_S1x128_4_2432).toLoadRect ((hs0_16 t).unread (iblk m c 16 t)))

/-- It is the head's five products, activated. -/
theorem part19_eq (c : Dev nD) (t : Fin cfg0.N) : part19 m c t = valued (made m c t (past9 m c t) 2432 (by decide)) := rfl

/-- What is stored of head 20. -/
def part20 (c : Dev nD) (t : Fin cfg0.N) : FVec Ideal S1x512x128 .bf16 := k0_pay116 (kernelRun0_A.sl.r_43 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.v1303 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (kernelRun0_A.sl.r_44 (F := Ideal) c (ms0_16 t) (hs0_16 t) (iblk m c 16 t)) (kernelRun0_A.sl.v1308 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 2560] S1x128.size inb_S5x3072_S1x128_4_2560).toLoadRect ((hs0_16 t).unread (iblk m c 16 t)))

/-- It is the head's five products, activated. -/
theorem part20_eq (c : Dev nD) (t : Fin cfg0.N) : part20 m c t = valued (made m c t (past10 m c t) 2560 (by decide)) := rfl

/-- What is stored of head 21. -/
def part21 (c : Dev nD) (t : Fin cfg0.N) : FVec Ideal S1x512x128 .bf16 := k0_pay118 (kernelRun0_A.sl.r_45 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)) (kernelRun0_A.sl.v1339 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![3, 2688] S1x128.size inb_S5x3072_S1x128_3_2688).toLoadRect ((hs0_16 t).unread (iblk m c 16 t))) (kernelRun0_A.sl.v1344 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 2688] S1x128.size inb_S5x3072_S1x128_4_2688).toLoadRect ((hs0_16 t).unread (iblk m c 16 t)))

/-- It is the head's five products, activated. -/
theorem part21_eq (c : Dev nD) (t : Fin cfg0.N) : part21 m c t = valued (made m c t (past10 m c t) 2688 (by decide)) := rfl

/-- What is stored of head 22. -/
def part22 (c : Dev nD) (t : Fin cfg0.N) : FVec Ideal S1x512x128 .bf16 := k0_pay127 (kernelRun0_A.sl.v1408 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![0, 2816] S1x128.size inb_S5x3072_S1x128_0_2816).toLoadRect ((hs0_16 t).unread (iblk m c 16 t))) (kernelRun0_A.sl.v1412 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![1, 2816] S1x128.size inb_S5x3072_S1x128_1_2816).toLoadRect ((hs0_16 t).unread (iblk m c 16 t))) (kernelRun0_A.sl.v1417 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![2, 2816] S1x128.size inb_S5x3072_S1x128_2_2816).toLoadRect ((hs0_16 t).unread (iblk m c 16 t))) (kernelRun0_A.sl.v1422 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![3, 2816] S1x128.size inb_S5x3072_S1x128_3_2816).toLoadRect ((hs0_16 t).unread (iblk m c 16 t))) (kernelRun0_A.sl.v1427 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) scM0_0 (iblk m c 0 t) (iblk m c 1 t) (iblk m c 2 t) (iblk m c 3 t) (iblk m c 4 t) (iblk m c 8 t)) (View.readAt (Elt Ideal) (ms0_16 t).view (Rect.unit (s := S5x3072) ![4, 2816] S1x128.size inb_S5x3072_S1x128_4_2816).toLoadRect ((hs0_16 t).unread (iblk m c 16 t)))

/-- It is the head's five products, activated. -/
theorem part22_eq (c : Dev nD) (t : Fin cfg0.N) : part22 m c t = valued (made m c t (past11 m c t) 2816 (by decide)) := rfl

/-- What is stored of head 23. -/
def part23 (c : Dev nD) (t : Fin cfg0.N) : FVec Ideal S1x512x128 .bf16 := kernelRun0_A.sl.r_48 (F := Ideal) c (grid0.coords t) (ms0_0 t) (hs0_0 t) (ms0_1 t) (hs0_1 t) (ms0_2 t) (hs0_2 t) (ms0_3 t) (hs0_3 t) (ms0_4 t) (hs0_4 t) (ms0_8 t) (hs0_8 t) (ms0_16 t) (hs0_16 t) scM0_0 (iblk m c 0 t) (iblk m c 1 t) (iblk m c 2 t) (iblk m c 3 t) (iblk m c 4 t) (iblk m c 8 t) (iblk m c 16 t)

/-- It is the head's five products, activated. -/
theorem part23_eq (c : Dev nD) (t : Fin cfg0.N) : part23 m c t = valued (made m c t (past11 m c t) 2944 (by decide)) := rfl

end Cert.Kernel7Ideal.MixIn

end
-- ==== Proof.MixIn.PartsFinal.lean ====
/- What the mixer's input kernel leaves in the array of the recurrence's rows: the reference's result. -/
module

public import proofs.«01_k».proof.Proof.MixIn.RefRows
public import proofs.«01_k».proof.Proof.MixIn.Value
public import proofs.«01_k».proof.Proof.MixIn.Parts
public import Idealize.ShloMosaic.Lib.Pointwise
public import Idealize.ShloMosaic.Lib.KernelVsHost
public import Idealize.ShloMosaic.Lib.Pipeline.ValueKit

@[expose] public section

set_option maxRecDepth 16384

noncomputable section

namespace Cert.Kernel7Ideal.MixIn

open Cert Cert.Kernel7Ideal Cert.Kernel7Ideal.Gen Cert.Kernel7Ideal.Value Idealize.ShloMosaic Idealize.ShloMosaic.TcCoe Idealize.SL.Sem Idealize.ShloMosaic.Pipeline

variable (m : (ℓ : Loc nD τ sig) → Buf (Elt Ideal) ℓ)

set_option maxHeartbeats 4000000 in
/-- What a grid point leaves in the window of the recurrence's rows: its heads. -/
theorem parts (c : Dev nD) (t : Fin cfg0.N) : (outsAt0 m c t).1 = View.canon (s := S1x512x3072) (e := .bf16) (Val := Elt Ideal) [⟨Rect.unit ![0, 0, 2944] S1x512x128.size inb_S1x512x3072_S1x512x128_0_0_2944, part23 m c t⟩,
    ⟨Rect.unit ![0, 0, 2816] S1x512x128.size inb_S1x512x3072_S1x512x128_0_0_2816, part22 m c t⟩,
    ⟨Rect.unit ![0, 0, 2688] S1x512x128.size inb_S1x512x3072_S1x512x128_0_0_2688, part21 m c t⟩,
    ⟨Rect.unit ![0, 0, 2560] S1x512x128.size inb_S1x512x3072_S1x512x128_0_0_2560, part20 m c t⟩,
    ⟨Rect.unit ![0, 0, 2432] S1x512x128.size inb_S1x512x3072_S1x512x128_0_0_2432, part19 m c t⟩,
    ⟨Rect.unit ![0, 0, 2304] S1x512x128.size inb_S1x512x3072_S1x512x128_0_0_2304, part18 m c t⟩,
    ⟨Rect.unit ![0, 0, 2176] S1x512x128.size inb_S1x512x3072_S1x512x128_0_0_2176, part17 m c t⟩,
    ⟨Rect.unit ![0, 0, 2048] S1x512x128.size inb_S1x512x3072_S1x512x128_0_0_2048, part16 m c t⟩,
    ⟨Rect.unit ![0, 0, 1920] S1x512x128.size inb_S1x512x3072_S1x512x128_0_0_1920, part15 m c t⟩,
    ⟨Rect.unit ![0, 0, 1792] S1x512x128.size inb_S1x512x3072_S1x512x128_0_0_1792, part14 m c t⟩,
    ⟨Rect.unit ![0, 0, 1664] S1x512x128.size inb_S1x512x3072_S1x512x128_0_0_1664, part13 m c t⟩,
    ⟨Rect.unit ![0, 0, 1536] S1x512x128.size inb_S1x512x3072_S1x512x128_0_0_1536, part12 m c t⟩,
    ⟨Rect.unit ![0, 0, 1408] S1x512x128.size inb_S1x512x3072_S1x512x128_0_0_1408, part11 m c t⟩,
    ⟨Rect.unit ![0, 0, 1280] S1x512x128.size inb_S1x512x3072_S1x512x128_0_0_1280, part10 m c t⟩,
    ⟨Rect.unit ![0, 0, 1152] S1x512x128.size inb_S1x512x3072_S1x512x128_0_0_1152, part9 m c t⟩,
    ⟨Rect.unit ![0, 0, 1024] S1x512x128.size inb_S1x512x3072_S1x512x128_0_0_1024, part8 m c t⟩,
    ⟨Rect.unit ![0, 0, 896] S1x512x128.size inb_S1x512x3072_S1x512x128_0_0_896, part7 m c t⟩,
    ⟨Rect.unit ![0, 0, 768] S1x512x128.size inb_S1x512x3072_S1x512x128_0_0_768, part6 m c t⟩,
    ⟨Rect.unit ![0, 0, 640] S1x512x128.size inb_S1x512x3072_S1x512x128_0_0_640, part5 m c t⟩,
    ⟨Rect.unit ![0, 0, 512] S1x512x128.size inb_S1x512x3072_S1x512x128_0_0_512, part4 m c t⟩,
    ⟨Rect.unit ![0, 0, 384] S1x512x128.size inb_S1x512x3072_S1x512x128_0_0_384, part3 m c t⟩,
    ⟨Rect.unit ![0, 0, 256] S1x512x128.size inb_S1x512x3072_S1x512x128_0_0_256, part2 m c t⟩,
    ⟨Rect.unit ![0, 0, 128] S1x512x128.size inb_S1x512x3072_S1x512x128_0_0_128, part1 m c t⟩,
    ⟨Rect.unit ![0, 0, 0] S1x512x128.size inb_S1x512x3072_S1x512x128_0_0_0, part0 m c t⟩] := by
  unfold outsAt0
  dsimp only
  unfold out0_A_19
  rw [View.read_writes_junk_eq_canon]
  rfl

set_option maxHeartbeats 4000000 in
/-- THE ARRAY of window 19: what the launch leaves is the reference's result. -/
theorem final19 (c : Dev nD) : (dats m 0 c).arrAt 19 cfg0.N = Cert.Reference7Ideal.MixIn.qkv (lively m c) := by
  refine (dats m 0 c).arrAt_eq_of_covers 19 _ (by decide +kernel) (fun t hf y => ?_)
  have k0 : (((cfg0.win 19).blk t).view.emb y 0 : ℕ) = t.val / 8 := by
    have := (y 0).isLt
    blk_simp [idx19 t]
  have k1 : (((cfg0.win 19).blk t).view.emb y 1 : ℕ) = t.val % 8 * 512 + y 1 := by blk_simp [idx19 t]
  have k2 : (((cfg0.win 19).blk t).view.emb y 2 : ℕ) = y 2 := by blk_simp [idx19 t]
  rw [after0_19]
  rw [parts]
  generalize ((cfg0.win 19).blk t).view.emb y = i at k0 k1 k2 ⊢
  rw [cast_eq]
  canon_tiles x h
  · exact (congrFun (part23_eq m c t) x).trans (core_valued m c t _ 2816 128 2944 23 (held11 m c t) (by decide) (by decide) rfl (by decide) rfl (by decide) (by decide) x i k0 (k1.trans (congrArg (t.val % 8 * 512 + ·) h1)) (k2.trans h2))
  · exact (congrFun (part22_eq m c t) x).trans (core_valued m c t _ 2816 0 2816 22 (held11 m c t) (by decide) (by decide) rfl (by decide) rfl (by decide) (by decide) x i k0 (k1.trans (congrArg (t.val % 8 * 512 + ·) h1)) (k2.trans h2))
  · exact (congrFun (part21_eq m c t) x).trans (core_valued m c t _ 2560 128 2688 21 (held10 m c t) (by decide) (by decide) rfl (by decide) rfl (by decide) (by decide) x i k0 (k1.trans (congrArg (t.val % 8 * 512 + ·) h1)) (k2.trans h2))
  · exact (congrFun (part20_eq m c t) x).trans (core_valued m c t _ 2560 0 2560 20 (held10 m c t) (by decide) (by decide) rfl (by decide) rfl (by decide) (by decide) x i k0 (k1.trans (congrArg (t.val % 8 * 512 + ·) h1)) (k2.trans h2))
  · exact (congrFun (part19_eq m c t) x).trans (core_valued m c t _ 2304 128 2432 19 (held9 m c t) (by decide) (by decide) rfl (by decide) rfl (by decide) (by decide) x i k0 (k1.trans (congrArg (t.val % 8 * 512 + ·) h1)) (k2.trans h2))
  · exact (congrFun (part18_eq m c t) x).trans (core_valued m c t _ 2304 0 2304 18 (held9 m c t) (by decide) (by decide) rfl (by decide) rfl (by decide) (by decide) x i k0 (k1.trans (congrArg (t.val % 8 * 512 + ·) h1)) (k2.trans h2))
  · exact (congrFun (part17_eq m c t) x).trans (core_valued m c t _ 2048 128 2176 17 (held8 m c t) (by decide) (by decide) rfl (by decide) rfl (by decide) (by decide) x i k0 (k1.trans (congrArg (t.val % 8 * 512 + ·) h1)) (k2.trans h2))
  · exact (congrFun (part16_eq m c t) x).trans (core_valued m c t _ 2048 0 2048 16 (held8 m c t) (by decide) (by decide) rfl (by decide) rfl (by decide) (by decide) x i k0 (k1.trans (congrArg (t.val % 8 * 512 + ·) h1)) (k2.trans h2))
  · exact (congrFun (part15_eq m c t) x).trans (core_keyed m c t _ 1792 128 1920 15 (held7 m c t) (by decide) (by decide) rfl (by decide) rfl (by decide) (by decide) x i k0 (k1.trans (congrArg (t.val % 8 * 512 + ·) h1)) (k2.trans h2))
  · exact (congrFun (part14_eq m c t) x).trans (core_keyed m c t _ 1792 0 1792 14 (held7 m c t) (by decide) (by decide) rfl (by decide) rfl (by decide) (by decide) x i k0 (k1.trans (congrArg (t.val % 8 * 512 + ·) h1)) (k2.trans h2))
  · exact (congrFun (part13_eq m c t) x).trans (core_keyed m c t _ 1536 128 1664 13 (held6 m c t) (by decide) (by decide) rfl (by decide) rfl (by decide) (by decide) x i k0 (k1.trans (congrArg (t.val % 8 * 512 + ·) h1)) (k2.trans h2))
  · exact (congrFun (part12_eq m c t) x).trans (core_keyed m c t _ 1536 0 1536 12 (held6 m c t) (by decide) (by decide) rfl (by decide) rfl (by decide) (by decide) x i k0 (k1.trans (congrArg (t.val % 8 * 512 + ·) h1)) (k2.trans h2))
  · exact (congrFun (part11_eq m c t) x).trans (core_keyed m c t _ 1280 128 1408 11 (held5 m c t) (by decide) (by decide) rfl (by decide) rfl (by decide) (by decide) x i k0 (k1.trans (congrArg (t.val % 8 * 512 + ·) h1)) (k2.trans h2))
  · exact (congrFun (part10_eq m c t) x).trans (core_keyed m c t _ 1280 0 1280 10 (held5 m c t) (by decide) (by decide) rfl (by decide) rfl (by decide) (by decide) x i k0 (k1.trans (congrArg (t.val % 8 * 512 + ·) h1)) (k2.trans h2))
  · exact (congrFun (part9_eq m c t) x).trans (core_keyed m c t _ 1024 128 1152 9 (held4 m c t) (by decide) (by decide) rfl (by decide) rfl (by decide) (by decide) x i k0 (k1.trans (congrArg (t.val % 8 * 512 + ·) h1)) (k2.trans h2))
  · exact (congrFun (part8_eq m c t) x).trans (core_keyed m c t _ 1024 0 1024 8 (held4 m c t) (by decide) (by decide) rfl (by decide) rfl (by decide) (by decide) x i k0 (k1.trans (congrArg (t.val % 8 * 512 + ·) h1)) (k2.trans h2))
  · exact (congrFun (part7_eq m c t) x).trans (core_asked m c t _ 768 128 896 7 (held3 m c t) (by decide) (by decide) rfl (by decide) rfl (by decide) (by decide) x i k0 (k1.trans (congrArg (t.val % 8 * 512 + ·) h1)) (k2.trans h2))
  · exact (congrFun (part6_eq m c t) x).trans (core_asked m c t _ 768 0 768 6 (held3 m c t) (by decide) (by decide) rfl (by decide) rfl (by decide) (by decide) x i k0 (k1.trans (congrArg (t.val % 8 * 512 + ·) h1)) (k2.trans h2))
  · exact (congrFun (part5_eq m c t) x).trans (core_asked m c t _ 512 128 640 5 (held2 m c t) (by decide) (by decide) rfl (by decide) rfl (by decide) (by decide) x i k0 (k1.trans (congrArg (t.val % 8 * 512 + ·) h1)) (k2.trans h2))
  · exact (congrFun (part4_eq m c t) x).trans (core_asked m c t _ 512 0 512 4 (held2 m c t) (by decide) (by decide) rfl (by decide) rfl (by decide) (by decide) x i k0 (k1.trans (congrArg (t.val % 8 * 512 + ·) h1)) (k2.trans h2))
  · exact (congrFun (part3_eq m c t) x).trans (core_asked m c t _ 256 128 384 3 (held1 m c t) (by decide) (by decide) rfl (by decide) rfl (by decide) (by decide) x i k0 (k1.trans (congrArg (t.val % 8 * 512 + ·) h1)) (k2.trans h2))
  · exact (congrFun (part2_eq m c t) x).trans (core_asked m c t _ 256 0 256 2 (held1 m c t) (by decide) (by decide) rfl (by decide) rfl (by decide) (by decide) x i k0 (k1.trans (congrArg (t.val % 8 * 512 + ·) h1)) (k2.trans h2))
  · exact (congrFun (part1_eq m c t) x).trans (core_asked m c t _ 0 128 128 1 (held0 m c t) (by decide) (by decide) rfl (by decide) rfl (by decide) (by decide) x i k0 (k1.trans (congrArg (t.val % 8 * 512 + ·) h1)) (k2.trans h2))
  · exact (congrFun (part0_eq m c t) x).trans (core_asked m c t _ 0 0 0 0 (held0 m c t) (by decide) (by decide) rfl (by decide) rfl (by decide) (by decide) x i k0 (k1.trans (congrArg (t.val % 8 * 512 + ·) h1)) (k2.trans (h2.trans (Nat.zero_add _).symm)))

end Cert.Kernel7Ideal.MixIn

end
-- ==== Proof.MixIn.RefRun.lean ====
/- The run of the mixer's input's reference, its eight results named. -/
module

public import proofs.«01_k».proof.Proof.Gen.Reference7Ideal.Run
public import proofs.«01_k».proof.Proof.MixIn.Ref

@[expose] public section

set_option maxRecDepth 16384

noncomputable section

namespace Cert.Reference7Ideal.MixIn

open Cert.Reference7Ideal.Gen Idealize.ShloMosaic Idealize.ShloMosaic.StableHlo Idealize.SL.Sem Idealize.ShloMosaic.TcCoe

variable (m : (ℓ : Loc nD τ sig) → Buf (Elt Ideal) ℓ) (ρ : Dev nD → PrngReg)

/-- The projection's columns, of the arguments' arrays. -/
def cols (c : Dev nD) : FVec Ideal S8x4096x7712 .f32 :=
  columns (m ((c.tc : Thread nD τ).loc main_arg0)) (m ((c.tc : Thread nD τ).loc main_arg1)) (m ((c.tc : Thread nD τ).loc main_arg2)) (m ((c.tc : Thread nD τ).loc main_arg3))

/-- The convolved columns, of the arguments' arrays. -/
def live (c : Dev nD) : FVec Ideal S8x4096x3072 .f32 :=
  active (conv (padded (cols m c)) (m ((c.tc : Thread nD τ).loc main_arg4)))

/-- The run's columns are those. -/
theorem cols_eq (c : Dev nD) : Value.res_main_v29 (launchContents m c) = cols m c := rfl

/-- The run's padded columns. -/
theorem padded_eq (c : Dev nD) : Value.res_main_v39 (launchContents m c) = padded (cols m c) := by
  unfold Value.res_main_v39
  rw [cols_eq m c]
  rfl

/-- The run's convolution. -/
theorem conv_eq (c : Dev nD) : Value.res_main_v73 (launchContents m c) = conv (padded (cols m c)) (m ((c.tc : Thread nD τ).loc main_arg4)) := by
  unfold Value.res_main_v73
  rw [padded_eq m c]
  rfl

/-- The run's convolved columns are those. -/
theorem live_eq (c : Dev nD) : Value.res_main_v74 (launchContents m c) = live m c := by
  unfold Value.res_main_v74
  rw [conv_eq m c]
  rfl

/-- The reference runs, and its eight results are the mathematics' arrays. -/
theorem run_named : θ_run defs (onTc (τ := τ) (main (F := Ideal))) ⟨m, fun _ => 0, ρ⟩ fun r => ∀ c : Dev nD,
      r.2.mem ((c.tc : Thread nD τ).loc main_v189) = qkv (live m c)
      ∧ r.2.mem ((c.tc : Thread nD τ).loc main_v190) = z (cols m c)
      ∧ r.2.mem ((c.tc : Thread nD τ).loc main_v119) = rates (cols m c) (m ((c.tc : Thread nD τ).loc main_arg5)) (m ((c.tc : Thread nD τ).loc main_arg6))
      ∧ r.2.mem ((c.tc : Thread nD τ).loc main_v191) = q (cols m c)
      ∧ r.2.mem ((c.tc : Thread nD τ).loc main_v192) = k (cols m c)
      ∧ r.2.mem ((c.tc : Thread nD τ).loc main_v193) = v (cols m c)
      ∧ r.2.mem ((c.tc : Thread nD τ).loc main_v194) = ga (cols m c)
      ∧ r.2.mem ((c.tc : Thread nD τ).loc main_v195) = gb (cols m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h0, h1, h2, h3, h4, h5, h6, h7, hs⟩ := h c
    refine ⟨h0.trans ?_, h1.trans ?_, h2.trans ?_, h3.trans ?_, h4.trans ?_, h5.trans ?_, h6.trans ?_, h7.trans ?_, hs⟩
    · unfold Value.res_main_v78 Value.res_main_v89
      rw [live_eq m c]
      rfl
    · rw [cols_eq m c]
      rfl
    · unfold Value.res_main_call2_v3 Value.res_main_v112
      rw [cols_eq m c]
      rfl
    · unfold Value.res_main_v139 Value.res_main_v140 Value.res_main_v138 Value.res_main_v121
      rw [cols_eq m c]
      rfl
    · unfold Value.res_main_v173 Value.res_main_v174 Value.res_main_v172 Value.res_main_v155
      rw [cols_eq m c]
      rfl
    · rw [cols_eq m c]
      rfl
    · rw [cols_eq m c]
      rfl
    · rw [cols_eq m c]
      rfl) (Value.run m ρ)

end Cert.Reference7Ideal.MixIn

end
-- ==== Proof.lean ====
/- The certificate's claim: the frames of the programs, and the values of the idealized kernel against its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_scores
public import proofs.«01_k».proof.Proof.Attn.Pre
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame.RunA
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame.RunA
public import proofs.«01_k».proof.Proof.Gen.Reference7Ideal
public import proofs.«01_k».proof.Proof.Gen.Reference7Ideal.Run
public import proofs.«01_k».proof.Proof.Half.Kernel2
public import proofs.«01_k».proof.Proof.Half.Kernel3
public import proofs.«01_k».proof.Proof.Half.Kernel4
public import proofs.«01_k».proof.Proof.MixOut.Kernel
public import proofs.«01_k».proof.Proof.Mod.Kernel
public import proofs.«01_k».proof.Proof.MixIn.FrameBits
public import proofs.«01_k».proof.Proof.MixIn.PlainFinal
public import proofs.«01_k».proof.Proof.MixIn.PartsFinal
public import proofs.«01_k».proof.Proof.MixIn.RefRun
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.TcCoe

/-- The attention: where every query, key and sink logit is a real number, the kernel's array is the reference's. -/
theorem attention : Cert.algebraic_KernelIdeal_ReferenceIdeal_pre_finite_scores := by
  pair_intro
  · run_from Cert.KernelIdeal.Value.run_blocks m g
  · run_from Cert.ReferenceIdeal.Value.run m' g'
    rw [Cert.KernelIdeal.Attn.final m c (Cert.KernelIdeal.Attn.pre_query (hpre c))
      (Cert.KernelIdeal.Attn.pre_key (hpre c)) (Cert.KernelIdeal.Attn.pre_sink (hpre c))]
    refine (Cert.ReferenceIdeal.Attn.res_eq m' c).trans ?_
    obtain ⟨h0, h1, h2, h3⟩ := hagree c
    rw [h0, h1, h2, h3]

/-- The second feed-forward half with the final norm, of the prompts: the kernel's array is the reference's. -/
theorem second_half : Cert.algebraic_Kernel2Ideal_Reference2Ideal := by
  pair_intro
  · run_from Cert.Kernel2Ideal.Value.run_blocks m g
  · run_from Cert.Reference2Ideal.Value.run m' g'
    rw [Cert.Kernel2Ideal.Half.final m c]
    refine (Cert.Reference2Ideal.Half.res_eq m' c).trans ?_
    obtain ⟨h0, h1, h2, h3, h4, h5⟩ := hagree c
    rw [h0, h1, h2, h3, h4, h5]

/-- The second feed-forward half with the final norm, of the samples: the kernel's array is the reference's. -/
theorem second_half_samples : Cert.algebraic_Kernel3Ideal_Reference3Ideal := by
  pair_intro
  · run_from Cert.Kernel3Ideal.Value.run_blocks m g
  · run_from Cert.Reference3Ideal.Value.run m' g'
    rw [Cert.Kernel3Ideal.Half.final m c]
    refine (Cert.Reference3Ideal.Half.res_eq m' c).trans ?_
    obtain ⟨h0, h1, h2, h3, h4, h5⟩ := hagree c
    rw [h0, h1, h2, h3, h4, h5]

/-- The first feed-forward half: the kernel's array is the reference's. -/
theorem first_half : Cert.algebraic_Kernel4Ideal_Reference4Ideal := by
  pair_intro
  · run_from Cert.Kernel4Ideal.Value.run_blocks m g
  · run_from Cert.Reference4Ideal.Value.run m' g'
    rw [Cert.Kernel4Ideal.Half.final m c]
    refine (Cert.Reference4Ideal.Half.res_eq m' c).trans ?_
    obtain ⟨h0, h1, h2, h3, h4, h5⟩ := hagree c
    rw [h0, h1, h2, h3, h4]

/-- The mixer's output: the kernel's array is the reference's. -/
theorem mixer : Cert.algebraic_Kernel5Ideal_Reference5Ideal := by
  pair_intro
  · run_from Cert.Kernel5Ideal.Value.run_blocks m g
  · run_from Cert.Reference5Ideal.Value.run m' g'
    rw [Cert.Kernel5Ideal.Mix.final m c]
    rfl

/-- The modulation: the kernel's array is the reference's. -/
theorem modulation : Cert.algebraic_Kernel6Ideal_Reference6Ideal := by
  pair_intro
  · run_from Cert.Kernel6Ideal.Value.run_blocks m g
  · run_from Cert.Reference6Ideal.Value.run m' g'
    rw [Cert.Kernel6Ideal.Mod.final m c]
    rfl

/-- Where the arguments agree, the reference's columns are the kernel's. -/
theorem columns_agree (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (h0 : m' ((c.tc : Thread Cert.Reference7Ideal.nD Cert.Reference7Ideal.τ).loc Cert.Reference7Ideal.main_arg0) = Cert.Kernel7Ideal.MixIn.argX m c)
    (h1 : m' ((c.tc : Thread Cert.Reference7Ideal.nD Cert.Reference7Ideal.τ).loc Cert.Reference7Ideal.main_arg1) = Cert.Kernel7Ideal.MixIn.argC m c)
    (h2 : m' ((c.tc : Thread Cert.Reference7Ideal.nD Cert.Reference7Ideal.τ).loc Cert.Reference7Ideal.main_arg2) = Cert.Kernel7Ideal.MixIn.argN m c)
    (h3 : m' ((c.tc : Thread Cert.Reference7Ideal.nD Cert.Reference7Ideal.τ).loc Cert.Reference7Ideal.main_arg3) = Cert.Kernel7Ideal.MixIn.argW m c) :
    Cert.Reference7Ideal.MixIn.cols m' c = Cert.Kernel7Ideal.MixIn.columns m c := by
  unfold Cert.Reference7Ideal.MixIn.cols
  rw [h0, h1, h2, h3]

/-- And its convolved columns the kernel's. -/
theorem lively_agree (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (hu : Cert.Reference7Ideal.MixIn.cols m' c = Cert.Kernel7Ideal.MixIn.columns m c)
    (h4 : m' ((c.tc : Thread Cert.Reference7Ideal.nD Cert.Reference7Ideal.τ).loc Cert.Reference7Ideal.main_arg4) = Cert.Kernel7Ideal.MixIn.argK m c) :
    Cert.Reference7Ideal.MixIn.live m' c = Cert.Kernel7Ideal.MixIn.lively m c := by
  unfold Cert.Reference7Ideal.MixIn.live Cert.Kernel7Ideal.MixIn.lively
  rw [hu, h4]

set_option maxHeartbeats 2000000 in
/-- The mixer's input: the kernel's eight arrays are the reference's. -/
theorem mixer_input : Cert.algebraic_Kernel7Ideal_Reference7Ideal := by
  pair_intro
  · run_from Cert.Kernel7Ideal.Value.run_blocks m g
  · have hu (c : Dev Cert.Kernel7Ideal.nD) : Cert.Reference7Ideal.MixIn.cols m' c = Cert.Kernel7Ideal.MixIn.columns m c :=
      columns_agree m m' c (hagree c).1 (hagree c).2.1 (hagree c).2.2.1 (hagree c).2.2.2.1
    have hl (c : Dev Cert.Kernel7Ideal.nD) : Cert.Reference7Ideal.MixIn.live m' c = Cert.Kernel7Ideal.MixIn.lively m c :=
      lively_agree m m' c (hu c) (hagree c).2.2.2.2.1
    run_from Cert.Reference7Ideal.MixIn.run_named m' g'
    · exact (congrArg Cert.Reference7Ideal.MixIn.qkv (hl c)).trans (Cert.Kernel7Ideal.MixIn.final19 m c).symm
    · exact (congrArg Cert.Reference7Ideal.MixIn.z (hu c)).trans (Cert.Kernel7Ideal.MixIn.final20 m c).symm
    · exact (congrArg (fun u => Cert.Reference7Ideal.MixIn.rates u (Cert.Kernel7Ideal.MixIn.argL m c) (Cert.Kernel7Ideal.MixIn.argD m c)) (hu c)).trans (Cert.Kernel7Ideal.MixIn.final21 m c).symm
    · exact (congrArg Cert.Reference7Ideal.MixIn.q (hu c)).trans (Cert.Kernel7Ideal.MixIn.final22 m c).symm
    · exact (congrArg Cert.Reference7Ideal.MixIn.k (hu c)).trans (Cert.Kernel7Ideal.MixIn.final23 m c).symm
    · exact (congrArg Cert.Reference7Ideal.MixIn.v (hu c)).trans (Cert.Kernel7Ideal.MixIn.final24 m c).symm
    · exact (congrArg Cert.Reference7Ideal.MixIn.ga (hu c)).trans (Cert.Kernel7Ideal.MixIn.final25 m c).symm
    · exact (congrArg Cert.Reference7Ideal.MixIn.gb (hu c)).trans (Cert.Kernel7Ideal.MixIn.final26 m c).symm

/-- The attention's reference runs, its arguments end unchanged, and no semaphore is left counting: it has none. -/
theorem attention_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- And the second half's reference. -/
theorem second_half_frame : Cert.quiescent_Reference2Ideal := fun m g _ =>
  (θ_run Cert.Reference2Ideal.defs _ _).mono
    (fun r h => ⟨fun c => (h c).2, sem_eq_zero_of_no_sems (by decide) r.2⟩) (Cert.Reference2Ideal.Value.run m g)

/-- And the samples' second half's reference. -/
theorem second_half_samples_frame : Cert.quiescent_Reference3Ideal := fun m g _ =>
  (θ_run Cert.Reference3Ideal.defs _ _).mono
    (fun r h => ⟨fun c => (h c).2, sem_eq_zero_of_no_sems (by decide) r.2⟩) (Cert.Reference3Ideal.Value.run m g)

/-- And the first half's reference. -/
theorem first_half_frame : Cert.quiescent_Reference4Ideal := fun m g _ =>
  (θ_run Cert.Reference4Ideal.defs _ _).mono
    (fun r h => ⟨fun c => (h c).2, sem_eq_zero_of_no_sems (by decide) r.2⟩) (Cert.Reference4Ideal.Value.run m g)

/-- And the mixer's reference. -/
theorem mixer_frame : Cert.quiescent_Reference5Ideal := fun m g _ =>
  (θ_run Cert.Reference5Ideal.defs _ _).mono
    (fun r h => ⟨fun c => (h c).2, sem_eq_zero_of_no_sems (by decide) r.2⟩) (Cert.Reference5Ideal.Value.run m g)

/-- And the modulation's reference. -/
theorem modulation_frame : Cert.quiescent_Reference6Ideal := fun m g _ =>
  (θ_run Cert.Reference6Ideal.defs _ _).mono
    (fun r h => ⟨fun c => (h c).2, sem_eq_zero_of_no_sems (by decide) r.2⟩) (Cert.Reference6Ideal.Value.run m g)

/-- And the mixer's input's reference. -/
theorem mixer_input_frame : Cert.quiescent_Reference7Ideal := fun m g _ =>
  (θ_run Cert.Reference7Ideal.defs _ _).mono
    (fun r h => ⟨fun c => (h c).2.2.2.2.2.2.2.2, sem_eq_zero_of_no_sems (by decide) r.2⟩) (Cert.Reference7Ideal.Value.run m g)

/-- Every claim, with the side conditions of the programs. -/
theorem claim : Cert.Claim := by
  refine ⟨
    Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Pre_finite_scores.Gen.facts, ?_, ?_, ?_,
    ?_, ?_, ?_, ?_, ?_, ?_, ?_, ?_, ?_, ?_, ?_, ?_, ?_, ?_, ?_, ?_, ?_, ?_, ?_, ?_, trivial, attention, trivial,
    second_half, trivial, second_half_samples, trivial, first_half, trivial, mixer, trivial, modulation,
    trivial, mixer_input⟩
  · exact fun m g _ => Cert.Kernel.Gen.frame m g
  · exact fun m g _ => Cert.KernelIdeal.Gen.frame m g
  · exact fun m g _ => Cert.KernelIdeal.Gen.frame m g
  · exact attention_frame
  · exact fun m g _ => attention_frame m g trivial
  · exact fun m g _ => Cert.Kernel2.Gen.frame m g
  · exact fun m g _ => Cert.Kernel2Ideal.Gen.frame m g
  · exact second_half_frame
  · exact fun m g _ => Cert.Kernel3.Gen.frame m g
  · exact fun m g _ => Cert.Kernel3Ideal.Gen.frame m g
  · exact second_half_samples_frame
  · exact fun m g _ => Cert.Kernel4.Gen.frame m g
  · exact fun m g _ => Cert.Kernel4Ideal.Gen.frame m g
  · exact first_half_frame
  · exact fun m g _ => Cert.Kernel5.Gen.frame m g
  · exact fun m g _ => Cert.Kernel5Ideal.Gen.frame m g
  · exact mixer_frame
  · exact fun m g _ => Cert.Kernel6.Gen.frame m g
  · exact fun m g _ => Cert.Kernel6Ideal.Gen.frame m g
  · exact modulation_frame
  · exact fun m g _ => Cert.Kernel7.Gen.frame m g
  · exact fun m g _ => Cert.Kernel7Ideal.Gen.frame m g
  · exact mixer_input_frame

end Cert.Proof

end
